-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![1, 2048, 1024]⟩ ⟨3, ![32, 2048, 1024]⟩ 0 32 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x2048x1024 : Shape := ⟨3, ![1, 2048, 1024]⟩
abbrev S2048x1024 : Shape := ⟨2, ![2048, 1024]⟩
abbrev S4x256x512 : Shape := ⟨3, ![4, 256, 512]⟩
abbrev S6x64x512 : Shape := ⟨3, ![6, 64, 512]⟩
abbrev S2x64x512 : Shape := ⟨3, ![2, 64, 512]⟩
abbrev S4 : Shape := ⟨1, ![4]⟩
abbrev S6 : Shape := ⟨1, ![6]⟩
abbrev S_ : Shape := ⟨0, ![]⟩
abbrev S256x512 : Shape := ⟨2, ![256, 512]⟩
abbrev S1x256x512 : Shape := ⟨3, ![1, 256, 512]⟩
abbrev S1 : Shape := ⟨1, ![1]⟩
abbrev S64x512 : Shape := ⟨2, ![64, 512]⟩
abbrev S1x64x512 : Shape := ⟨3, ![1, 64, 512]⟩

abbrev nBuf : Space → Nat
  | .hbm => 2
  | .vmem => 10
  | .smem => 0
  | _ => 0

abbrev bufTy : (tb : Table) → Fin (tcTables nBuf tb) → BufTy
  | .hbm, ⟨0, _⟩ => ⟨S1x2048x1024, .bf16⟩
  | .hbm, ⟨1, _⟩ => ⟨S2048x1024, .bf16⟩
  | .local _ .vmem, ⟨0, _⟩ => ⟨S1x2048x1024, .bf16⟩
  | .local _ .vmem, ⟨1, _⟩ => ⟨S2048x1024, .bf16⟩
  | .local _ .vmem, ⟨2, _⟩ => ⟨S4x256x512, .bf16⟩
  | .local _ .vmem, ⟨3, _⟩ => ⟨S4x256x512, .bf16⟩
  | .local _ .vmem, ⟨4, _⟩ => ⟨S4x256x512, .bf16⟩
  | .local _ .vmem, ⟨5, _⟩ => ⟨S4x256x512, .bf16⟩
  | .local _ .vmem, ⟨6, _⟩ => ⟨S6x64x512, .bf16⟩
  | .local _ .vmem, ⟨7, _⟩ => ⟨S6x64x512, .bf16⟩
  | .local _ .vmem, ⟨8, _⟩ => ⟨S2x64x512, .bf16⟩
  | .local _ .vmem, ⟨9, _⟩ => ⟨S6x64x512, .bf16⟩
  | _, _ => ⟨S1x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  (ofTc nBuf bufTy 1 42 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_scratch7 : Ref sig .tc := ⟨.vmem, 9, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_82 : BitVec 32 := 0#32
  let c8_i32_70 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let v79 : BitVec 32 := Scalar.muli c8_i32_70 v3
  let c0_i32_26 : BitVec 32 := 0#32
  let c0_i32_3 : BitVec 32 := 0#32
  let c8_i32_0 : BitVec 32 := 8#32
  let v4 : BitVec 32 := Scalar.remsi v2 c8_i32_0
  let c0_i32 : BitVec 32 := 0#32
  let v5 : BitVec 1 := Scalar.cmpi .eq v4 c0_i32
  let c0_i32_1 : BitVec 32 := 0#32
  let c0_i32_2 : BitVec 32 := 0#32
  let v6 : BitVec 32 := Scalar.select v5 c0_i32_1 c0_i32_2
  let v7 : BitVec 32 := Scalar.addi c0_i32_3 v6
  let c1_i32_4 : BitVec 32 := 1#32
  let v8 : BitVec 1 := Scalar.cmpi .eq v4 c1_i32_4
  let c1_i32_5 : BitVec 32 := 1#32
  let c0_i32_6 : BitVec 32 := 0#32
  let v9 : BitVec 32 := Scalar.select v8 c1_i32_5 c0_i32_6
  let v10 : BitVec 32 := Scalar.addi v7 v9
  let c2_i32 : BitVec 32 := 2#32
  let v11 : BitVec 1 := Scalar.cmpi .eq v4 c2_i32
  let c2_i32_7 : BitVec 32 := 2#32
  let c0_i32_8 : BitVec 32 := 0#32
  let v12 : BitVec 32 := Scalar.select v11 c2_i32_7 c0_i32_8
  let v13 : BitVec 32 := Scalar.addi v10 v12
  let c5_i32 : BitVec 32 := 5#32
  let v14 : BitVec 1 := Scalar.cmpi .eq v4 c5_i32
  let c3_i32 : BitVec 32 := 3#32
  let c0_i32_9 : BitVec 32 := 0#32
  let v15 : BitVec 32 := Scalar.select v14 c3_i32 c0_i32_9
  let v16 : BitVec 32 := Scalar.addi v13 v15
  let c6_i32 : BitVec 32 := 6#32
  let v17 : BitVec 1 := Scalar.cmpi .eq v4 c6_i32
  let c4_i32 : BitVec 32 := 4#32
  let c0_i32_10 : BitVec 32 := 0#32
  let v18 : BitVec 32 := Scalar.select v17 c4_i32 c0_i32_10
  let v19 : BitVec 32 := Scalar.addi v16 v18
  let c7_i32 : BitVec 32 := 7#32
  let v20 : BitVec 1 := Scalar.cmpi .eq v4 c7_i32
  let c5_i32_11 : BitVec 32 := 5#32
  let c0_i32_12 : BitVec 32 := 0#32
  let v21 : BitVec 32 := Scalar.select v20 c5_i32_11 c0_i32_12
  let v22 : BitVec 32 := Scalar.addi v19 v21
  let c4_i32_13 : BitVec 32 := 4#32
  let v23 : BitVec 1 := Scalar.cmpi .eq v4 c4_i32_13
  let c6_i32_14 : BitVec 32 := 6#32
  let c0_i32_15 : BitVec 32 := 0#32
  let v24 : BitVec 32 := Scalar.select v23 c6_i32_14 c0_i32_15
  let v25 : BitVec 32 := Scalar.addi v22 v24
  let c3_i32_16 : BitVec 32 := 3#32
  let v26 : BitVec 1 := Scalar.cmpi .eq v4 c3_i32_16
  let c7_i32_17 : BitVec 32 := 7#32
  let c0_i32_18 : BitVec 32 := 0#32
  let v27 : BitVec 32 := Scalar.select v26 c7_i32_17 c0_i32_18
  let v28 : BitVec 32 := Scalar.addi v25 v27
  let c0_i32_23 : BitVec 32 := 0#32
  let v32 : BitVec 1 := Scalar.cmpi .eq v28 c0_i32_23
  let c3_i32_24 : BitVec 32 := 3#32
  let c0_i32_25 : BitVec 32 := 0#32
  let v33 : BitVec 32 := Scalar.select v32 c3_i32_24 c0_i32_25
  let v34 : BitVec 32 := Scalar.addi c0_i32_26 v33
  let c1_i32_30 : BitVec 32 := 1#32
  let v38 : BitVec 1 := Scalar.cmpi .eq v28 c1_i32_30
  let c0_i32_31 : BitVec 32 := 0#32
  let c0_i32_32 : BitVec 32 := 0#32
  let v39 : BitVec 32 := Scalar.select v38 c0_i32_31 c0_i32_32
  let v40 : BitVec 32 := Scalar.addi v34 v39
  let c2_i32_36 : BitVec 32 := 2#32
  let v44 : BitVec 1 := Scalar.cmpi .eq v28 c2_i32_36
  let c1_i32_37 : BitVec 32 := 1#32
  let c0_i32_38 : BitVec 32 := 0#32
  let v45 : BitVec 32 := Scalar.select v44 c1_i32_37 c0_i32_38
  let v46 : BitVec 32 := Scalar.addi v40 v45
  let c3_i32_42 : BitVec 32 := 3#32
  let v50 : BitVec 1 := Scalar.cmpi .eq v28 c3_i32_42
  let c2_i32_43 : BitVec 32 := 2#32
  let c0_i32_44 : BitVec 32 := 0#32
  let v51 : BitVec 32 := Scalar.select v50 c2_i32_43 c0_i32_44
  let v52 : BitVec 32 := Scalar.addi v46 v51
  let c4_i32_48 : BitVec 32 := 4#32
  let v56 : BitVec 1 := Scalar.cmpi .eq v28 c4_i32_48
  let c5_i32_49 : BitVec 32 := 5#32
  let c0_i32_50 : BitVec 32 := 0#32
  let v57 : BitVec 32 := Scalar.select v56 c5_i32_49 c0_i32_50
  let v58 : BitVec 32 := Scalar.addi v52 v57
  let c5_i32_54 : BitVec 32 := 5#32
  let v62 : BitVec 1 := Scalar.cmpi .eq v28 c5_i32_54
  let c6_i32_55 : BitVec 32 := 6#32
  let c0_i32_56 : BitVec 32 := 0#32
  let v63 : BitVec 32 := Scalar.select v62 c6_i32_55 c0_i32_56
  let v64 : BitVec 32 := Scalar.addi v58 v63
  let c6_i32_60 : BitVec 32 := 6#32
  let v68 : BitVec 1 := Scalar.cmpi .eq v28 c6_i32_60
  let c7_i32_61 : BitVec 32 := 7#32
  let c0_i32_62 : BitVec 32 := 0#32
  let v69 : BitVec 32 := Scalar.select v68 c7_i32_61 c0_i32_62
  let v70 : BitVec 32 := Scalar.addi v64 v69
  let c7_i32_66 : BitVec 32 := 7#32
  let v74 : BitVec 1 := Scalar.cmpi .eq v28 c7_i32_66
  let c4_i32_67 : BitVec 32 := 4#32
  let c0_i32_68 : BitVec 32 := 0#32
  let v75 : BitVec 32 := Scalar.select v74 c4_i32_67 c0_i32_68
  let v76 : BitVec 32 := Scalar.addi v70 v75
  let v80 : BitVec 32 := Scalar.addi v79 v76
  let c1_i32_81 : BitVec 32 := 1#32
  let v94 : BitVec 32 := Scalar.muli v80 c1_i32_81
  let v95 : BitVec 32 := Scalar.addi c0_i32_82 v94
  v95.toNat
def k0_dev2 (d0 : Dev nD) : Nat :=
  let c0_i32_85 : BitVec 32 := 0#32
  let c8_i32_69 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let v77 : BitVec 32 := Scalar.muli c8_i32_69 v3
  let c0_i32_22 : BitVec 32 := 0#32
  let c0_i32_3 : BitVec 32 := 0#32
  let c8_i32_0 : BitVec 32 := 8#32
  let v4 : BitVec 32 := Scalar.remsi v2 c8_i32_0
  let c0_i32 : BitVec 32 := 0#32
  let v5 : BitVec 1 := Scalar.cmpi .eq v4 c0_i32
  let c0_i32_1 : BitVec 32 := 0#32
  let c0_i32_2 : BitVec 32 := 0#32
  let v6 : BitVec 32 := Scalar.select v5 c0_i32_1 c0_i32_2
  let v7 : BitVec 32 := Scalar.addi c0_i32_3 v6
  let c1_i32_4 : BitVec 32 := 1#32
  let v8 : BitVec 1 := Scalar.cmpi .eq v4 c1_i32_4
  let c1_i32_5 : BitVec 32 := 1#32
  let c0_i32_6 : BitVec 32 := 0#32
  let v9 : BitVec 32 := Scalar.select v8 c1_i32_5 c0_i32_6
  let v10 : BitVec 32 := Scalar.addi v7 v9
  let c2_i32 : BitVec 32 := 2#32
  let v11 : BitVec 1 := Scalar.cmpi .eq v4 c2_i32
  let c2_i32_7 : BitVec 32 := 2#32
  let c0_i32_8 : BitVec 32 := 0#32
  let v12 : BitVec 32 := Scalar.select v11 c2_i32_7 c0_i32_8
  let v13 : BitVec 32 := Scalar.addi v10 v12
  let c5_i32 : BitVec 32 := 5#32
  let v14 : BitVec 1 := Scalar.cmpi .eq v4 c5_i32
  let c3_i32 : BitVec 32 := 3#32
  let c0_i32_9 : BitVec 32 := 0#32
  let v15 : BitVec 32 := Scalar.select v14 c3_i32 c0_i32_9
  let v16 : BitVec 32 := Scalar.addi v13 v15
  let c6_i32 : BitVec 32 := 6#32
  let v17 : BitVec 1 := Scalar.cmpi .eq v4 c6_i32
  let c4_i32 : BitVec 32 := 4#32
  let c0_i32_10 : BitVec 32 := 0#32
  let v18 : BitVec 32 := Scalar.select v17 c4_i32 c0_i32_10
  let v19 : BitVec 32 := Scalar.addi v16 v18
  let c7_i32 : BitVec 32 := 7#32
  let v20 : BitVec 1 := Scalar.cmpi .eq v4 c7_i32
  let c5_i32_11 : BitVec 32 := 5#32
  let c0_i32_12 : BitVec 32 := 0#32
  let v21 : BitVec 32 := Scalar.select v20 c5_i32_11 c0_i32_12
  let v22 : BitVec 32 := Scalar.addi v19 v21
  let c4_i32_13 : BitVec 32 := 4#32
  let v23 : BitVec 1 := Scalar.cmpi .eq v4 c4_i32_13
  let c6_i32_14 : BitVec 32 := 6#32
  let c0_i32_15 : BitVec 32 := 0#32
  let v24 : BitVec 32 := Scalar.select v23 c6_i32_14 c0_i32_15
  let v25 : BitVec 32 := Scalar.addi v22 v24
  let c3_i32_16 : BitVec 32 := 3#32
  let v26 : BitVec 1 := Scalar.cmpi .eq v4 c3_i32_16
  let c7_i32_17 : BitVec 32 := 7#32
  let c0_i32_18 : BitVec 32 := 0#32
  let v27 : BitVec 32 := Scalar.select v26 c7_i32_17 c0_i32_18
  let v28 : BitVec 32 := Scalar.addi v25 v27
  let c0_i32_19 : BitVec 32 := 0#32
  let v29 : BitVec 1 := Scalar.cmpi .eq v28 c0_i32_19
  let c1_i32_20 : BitVec 32 := 1#32
  let c0_i32_21 : BitVec 32 := 0#32
  let v30 : BitVec 32 := Scalar.select v29 c1_i32_20 c0_i32_21
  let v31 : BitVec 32 := Scalar.addi c0_i32_22 v30
  let c1_i32_27 : BitVec 32 := 1#32
  let v35 : BitVec 1 := Scalar.cmpi .eq v28 c1_i32_27
  let c2_i32_28 : BitVec 32 := 2#32
  let c0_i32_29 : BitVec 32 := 0#32
  let v36 : BitVec 32 := Scalar.select v35 c2_i32_28 c0_i32_29
  let v37 : BitVec 32 := Scalar.addi v31 v36
  let c2_i32_33 : BitVec 32 := 2#32
  let v41 : BitVec 1 := Scalar.cmpi .eq v28 c2_i32_33
  let c5_i32_34 : BitVec 32 := 5#32
  let c0_i32_35 : BitVec 32 := 0#32
  let v42 : BitVec 32 := Scalar.select v41 c5_i32_34 c0_i32_35
  let v43 : BitVec 32 := Scalar.addi v37 v42
  let c3_i32_39 : BitVec 32 := 3#32
  let v47 : BitVec 1 := Scalar.cmpi .eq v28 c3_i32_39
  let c6_i32_40 : BitVec 32 := 6#32
  let c0_i32_41 : BitVec 32 := 0#32
  let v48 : BitVec 32 := Scalar.select v47 c6_i32_40 c0_i32_41
  let v49 : BitVec 32 := Scalar.addi v43 v48
  let c4_i32_45 : BitVec 32 := 4#32
  let v53 : BitVec 1 := Scalar.cmpi .eq v28 c4_i32_45
  let c7_i32_46 : BitVec 32 := 7#32
  let c0_i32_47 : BitVec 32 := 0#32
  let v54 : BitVec 32 := Scalar.select v53 c7_i32_46 c0_i32_47
  let v55 : BitVec 32 := Scalar.addi v49 v54
  let c5_i32_51 : BitVec 32 := 5#32
  let v59 : BitVec 1 := Scalar.cmpi .eq v28 c5_i32_51
  let c4_i32_52 : BitVec 32 := 4#32
  let c0_i32_53 : BitVec 32 := 0#32
  let v60 : BitVec 32 := Scalar.select v59 c4_i32_52 c0_i32_53
  let v61 : BitVec 32 := Scalar.addi v55 v60
  let c6_i32_57 : BitVec 32 := 6#32
  let v65 : BitVec 1 := Scalar.cmpi .eq v28 c6_i32_57
  let c3_i32_58 : BitVec 32 := 3#32
  let c0_i32_59 : BitVec 32 := 0#32
  let v66 : BitVec 32 := Scalar.select v65 c3_i32_58 c0_i32_59
  let v67 : BitVec 32 := Scalar.addi v61 v66
  let c7_i32_63 : BitVec 32 := 7#32
  let v71 : BitVec 1 := Scalar.cmpi .eq v28 c7_i32_63
  let c0_i32_64 : BitVec 32 := 0#32
  let c0_i32_65 : BitVec 32 := 0#32
  let v72 : BitVec 32 := Scalar.select v71 c0_i32_64 c0_i32_65
  let v73 : BitVec 32 := Scalar.addi v67 v72
  let v78 : BitVec 32 := Scalar.addi v77 v73
  let c1_i32_84 : BitVec 32 := 1#32
  let v96 : BitVec 32 := Scalar.muli v78 c1_i32_84
  let v97 : BitVec 32 := Scalar.addi c0_i32_85 v96
  v97.toNat
def k0_dev3 (d0 : Dev nD) : Nat :=
  let c0_i32_88 : BitVec 32 := 0#32
  let c8_i32_73 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c1_i32_71 : BitVec 32 := 1#32
  let v81 : BitVec 32 := Scalar.addi v3 c1_i32_71
  let c4_i32_72 : BitVec 32 := 4#32
  let v82 : BitVec 32 := Scalar.remsi v81 c4_i32_72
  let v83 : BitVec 32 := Scalar.muli c8_i32_73 v82
  let c8_i32_0 : BitVec 32 := 8#32
  let v4 : BitVec 32 := Scalar.remsi v2 c8_i32_0
  let v84 : BitVec 32 := Scalar.addi v83 v4
  let c1_i32_87 : BitVec 32 := 1#32
  let v98 : BitVec 32 := Scalar.muli v84 c1_i32_87
  let v99 : BitVec 32 := Scalar.addi c0_i32_88 v98
  v99.toNat
def k0_dev4 (d0 : Dev nD) : Nat :=
  let c0_i32_91 : BitVec 32 := 0#32
  let c8_i32_76 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c2_i32_74 : BitVec 32 := 2#32
  let v85 : BitVec 32 := Scalar.addi v3 c2_i32_74
  let c4_i32_75 : BitVec 32 := 4#32
  let v86 : BitVec 32 := Scalar.remsi v85 c4_i32_75
  let v87 : BitVec 32 := Scalar.muli c8_i32_76 v86
  let c8_i32_0 : BitVec 32 := 8#32
  let v4 : BitVec 32 := Scalar.remsi v2 c8_i32_0
  let v88 : BitVec 32 := Scalar.addi v87 v4
  let c1_i32_90 : BitVec 32 := 1#32
  let v100 : BitVec 32 := Scalar.muli v88 c1_i32_90
  let v101 : BitVec 32 := Scalar.addi c0_i32_91 v100
  v101.toNat
def k0_dev5 (d0 : Dev nD) : Nat :=
  let c0_i32_94 : BitVec 32 := 0#32
  let c8_i32_79 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c3_i32_77 : BitVec 32 := 3#32
  let v89 : BitVec 32 := Scalar.addi v3 c3_i32_77
  let c4_i32_78 : BitVec 32 := 4#32
  let v90 : BitVec 32 := Scalar.remsi v89 c4_i32_78
  let v91 : BitVec 32 := Scalar.muli c8_i32_79 v90
  let c8_i32_0 : BitVec 32 := 8#32
  let v4 : BitVec 32 := Scalar.remsi v2 c8_i32_0
  let v92 : BitVec 32 := Scalar.addi v91 v4
  let c1_i32_93 : BitVec 32 := 1#32
  let v102 : BitVec 32 := Scalar.muli v92 c1_i32_93
  let v103 : BitVec 32 := Scalar.addi c0_i32_94 v102
  v103.toNat
def k0_off1 (d0 : Dev nD) (c0_i32_100 : BitVec 32) : Fin 2 → Nat :=
  let c0_i32_3 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c0_i32 : BitVec 32 := 0#32
  let v5 : BitVec 1 := Scalar.cmpi .eq v4 c0_i32
  let c0_i32_1 : BitVec 32 := 0#32
  let c0_i32_2 : BitVec 32 := 0#32
  let v6 : BitVec 32 := Scalar.select v5 c0_i32_1 c0_i32_2
  let v7 : BitVec 32 := Scalar.addi c0_i32_3 v6
  let c1_i32_4 : BitVec 32 := 1#32
  let v8 : BitVec 1 := Scalar.cmpi .eq v4 c1_i32_4
  let c1_i32_5 : BitVec 32 := 1#32
  let c0_i32_6 : BitVec 32 := 0#32
  let v9 : BitVec 32 := Scalar.select v8 c1_i32_5 c0_i32_6
  let v10 : BitVec 32 := Scalar.addi v7 v9
  let c2_i32 : BitVec 32 := 2#32
  let v11 : BitVec 1 := Scalar.cmpi .eq v4 c2_i32
  let c2_i32_7 : BitVec 32 := 2#32
  let c0_i32_8 : BitVec 32 := 0#32
  let v12 : BitVec 32 := Scalar.select v11 c2_i32_7 c0_i32_8
  let v13 : BitVec 32 := Scalar.addi v10 v12
  let c5_i32 : BitVec 32 := 5#32
  let v14 : BitVec 1 := Scalar.cmpi .eq v4 c5_i32
  let c3_i32 : BitVec 32 := 3#32
  let c0_i32_9 : BitVec 32 := 0#32
  let v15 : BitVec 32 := Scalar.select v14 c3_i32 c0_i32_9
  let v16 : BitVec 32 := Scalar.addi v13 v15
  let c6_i32 : BitVec 32 := 6#32
  let v17 : BitVec 1 := Scalar.cmpi .eq v4 c6_i32
  let c4_i32 : BitVec 32 := 4#32
  let c0_i32_10 : BitVec 32 := 0#32
  let v18 : BitVec 32 := Scalar.select v17 c4_i32 c0_i32_10
  let v19 : BitVec 32 := Scalar.addi v16 v18
  let c7_i32 : BitVec 32 := 7#32
  let v20 : BitVec 1 := Scalar.cmpi .eq v4 c7_i32
  let c5_i32_11 : BitVec 32 := 5#32
  let c0_i32_12 : BitVec 32 := 0#32
  let v21 : BitVec 32 := Scalar.select v20 c5_i32_11 c0_i32_12
  let v22 : BitVec 32 := Scalar.addi v19 v21
  let c4_i32_13 : BitVec 32 := 4#32
  let v23 : BitVec 1 := Scalar.cmpi .eq v4 c4_i32_13
  let c6_i32_14 : BitVec 32 := 6#32
  let c0_i32_15 : BitVec 32 := 0#32
  let v24 : BitVec 32 := Scalar.select v23 c6_i32_14 c0_i32_15
  let v25 : BitVec 32 := Scalar.addi v22 v24
  let c3_i32_16 : BitVec 32 := 3#32
  let v26 : BitVec 1 := Scalar.cmpi .eq v4 c3_i32_16
  let c7_i32_17 : BitVec 32 := 7#32
  let c0_i32_18 : BitVec 32 := 0#32
  let v27 : BitVec 32 := Scalar.select v26 c7_i32_17 c0_i32_18
  let v28 : BitVec 32 := Scalar.addi v25 v27
  let v107 : BitVec 32 := Scalar.subi v28 c0_i32_100
  let c64_i32 : BitVec 32 := 64#32
  let v108 : BitVec 32 := Scalar.addi v107 c64_i32
  let c8_i32_101 : BitVec 32 := 8#32
  let v109 : BitVec 32 := Scalar.remsi v108 c8_i32_101
  let c256_i32 : BitVec 32 := 256#32
  let v121 : BitVec 32 := Scalar.muli v109 c256_i32
  let v122 : Index := Scalar.indexCast v121
  let c0_113 : Index := 0#32
  ![v122.toNat, 0]
def k0_off2 (d0 : Dev nD) (c0_i32_106 : BitVec 32) : Fin 2 → Nat :=
  let c0_i32_3 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c0_i32 : BitVec 32 := 0#32
  let v5 : BitVec 1 := Scalar.cmpi .eq v4 c0_i32
  let c0_i32_1 : BitVec 32 := 0#32
  let c0_i32_2 : BitVec 32 := 0#32
  let v6 : BitVec 32 := Scalar.select v5 c0_i32_1 c0_i32_2
  let v7 : BitVec 32 := Scalar.addi c0_i32_3 v6
  let c1_i32_4 : BitVec 32 := 1#32
  let v8 : BitVec 1 := Scalar.cmpi .eq v4 c1_i32_4
  let c1_i32_5 : BitVec 32 := 1#32
  let c0_i32_6 : BitVec 32 := 0#32
  let v9 : BitVec 32 := Scalar.select v8 c1_i32_5 c0_i32_6
  let v10 : BitVec 32 := Scalar.addi v7 v9
  let c2_i32 : BitVec 32 := 2#32
  let v11 : BitVec 1 := Scalar.cmpi .eq v4 c2_i32
  let c2_i32_7 : BitVec 32 := 2#32
  let c0_i32_8 : BitVec 32 := 0#32
  let v12 : BitVec 32 := Scalar.select v11 c2_i32_7 c0_i32_8
  let v13 : BitVec 32 := Scalar.addi v10 v12
  let c5_i32 : BitVec 32 := 5#32
  let v14 : BitVec 1 := Scalar.cmpi .eq v4 c5_i32
  let c3_i32 : BitVec 32 := 3#32
  let c0_i32_9 : BitVec 32 := 0#32
  let v15 : BitVec 32 := Scalar.select v14 c3_i32 c0_i32_9
  let v16 : BitVec 32 := Scalar.addi v13 v15
  let c6_i32 : BitVec 32 := 6#32
  let v17 : BitVec 1 := Scalar.cmpi .eq v4 c6_i32
  let c4_i32 : BitVec 32 := 4#32
  let c0_i32_10 : BitVec 32 := 0#32
  let v18 : BitVec 32 := Scalar.select v17 c4_i32 c0_i32_10
  let v19 : BitVec 32 := Scalar.addi v16 v18
  let c7_i32 : BitVec 32 := 7#32
  let v20 : BitVec 1 := Scalar.cmpi .eq v4 c7_i32
  let c5_i32_11 : BitVec 32 := 5#32
  let c0_i32_12 : BitVec 32 := 0#32
  let v21 : BitVec 32 := Scalar.select v20 c5_i32_11 c0_i32_12
  let v22 : BitVec 32 := Scalar.addi v19 v21
  let c4_i32_13 : BitVec 32 := 4#32
  let v23 : BitVec 1 := Scalar.cmpi .eq v4 c4_i32_13
  let c6_i32_14 : BitVec 32 := 6#32
  let c0_i32_15 : BitVec 32 := 0#32
  let v24 : BitVec 32 := Scalar.select v23 c6_i32_14 c0_i32_15
  let v25 : BitVec 32 := Scalar.addi v22 v24
  let c3_i32_16 : BitVec 32 := 3#32
  let v26 : BitVec 1 := Scalar.cmpi .eq v4 c3_i32_16
  let c7_i32_17 : BitVec 32 := 7#32
  let c0_i32_18 : BitVec 32 := 0#32
  let v27 : BitVec 32 := Scalar.select v26 c7_i32_17 c0_i32_18
  let v28 : BitVec 32 := Scalar.addi v25 v27
  let v114 : BitVec 32 := Scalar.addi v28 c0_i32_106
  let c64_i32_107 : BitVec 32 := 64#32
  let v115 : BitVec 32 := Scalar.addi v114 c64_i32_107
  let c8_i32_108 : BitVec 32 := 8#32
  let v116 : BitVec 32 := Scalar.remsi v115 c8_i32_108
  let c256_i32_117 : BitVec 32 := 256#32
  let v128 : BitVec 32 := Scalar.muli v116 c256_i32_117
  let v129 : Index := Scalar.indexCast v128
  let c512 : Index := 512#32
  ![v129.toNat, 512]
def k0_dev6 (d0 : Dev nD) : Nat :=
  let c0_i32_126 : BitVec 32 := 0#32
  let c8_i32_69 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let v77 : BitVec 32 := Scalar.muli c8_i32_69 v3
  let c0_i32_22 : BitVec 32 := 0#32
  let c0_i32_3 : BitVec 32 := 0#32
  let c8_i32_0 : BitVec 32 := 8#32
  let v4 : BitVec 32 := Scalar.remsi v2 c8_i32_0
  let c0_i32 : BitVec 32 := 0#32
  let v5 : BitVec 1 := Scalar.cmpi .eq v4 c0_i32
  let c0_i32_1 : BitVec 32 := 0#32
  let c0_i32_2 : BitVec 32 := 0#32
  let v6 : BitVec 32 := Scalar.select v5 c0_i32_1 c0_i32_2
  let v7 : BitVec 32 := Scalar.addi c0_i32_3 v6
  let c1_i32_4 : BitVec 32 := 1#32
  let v8 : BitVec 1 := Scalar.cmpi .eq v4 c1_i32_4
  let c1_i32_5 : BitVec 32 := 1#32
  let c0_i32_6 : BitVec 32 := 0#32
  let v9 : BitVec 32 := Scalar.select v8 c1_i32_5 c0_i32_6
  let v10 : BitVec 32 := Scalar.addi v7 v9
  let c2_i32 : BitVec 32 := 2#32
  let v11 : BitVec 1 := Scalar.cmpi .eq v4 c2_i32
  let c2_i32_7 : BitVec 32 := 2#32
  let c0_i32_8 : BitVec 32 := 0#32
  let v12 : BitVec 32 := Scalar.select v11 c2_i32_7 c0_i32_8
  let v13 : BitVec 32 := Scalar.addi v10 v12
  let c5_i32 : BitVec 32 := 5#32
  let v14 : BitVec 1 := Scalar.cmpi .eq v4 c5_i32
  let c3_i32 : BitVec 32 := 3#32
  let c0_i32_9 : BitVec 32 := 0#32
  let v15 : BitVec 32 := Scalar.select v14 c3_i32 c0_i32_9
  let v16 : BitVec 32 := Scalar.addi v13 v15
  let c6_i32 : BitVec 32 := 6#32
  let v17 : BitVec 1 := Scalar.cmpi .eq v4 c6_i32
  let c4_i32 : BitVec 32 := 4#32
  let c0_i32_10 : BitVec 32 := 0#32
  let v18 : BitVec 32 := Scalar.select v17 c4_i32 c0_i32_10
  let v19 : BitVec 32 := Scalar.addi v16 v18
  let c7_i32 : BitVec 32 := 7#32
  let v20 : BitVec 1 := Scalar.cmpi .eq v4 c7_i32
  let c5_i32_11 : BitVec 32 := 5#32
  let c0_i32_12 : BitVec 32 := 0#32
  let v21 : BitVec 32 := Scalar.select v20 c5_i32_11 c0_i32_12
  let v22 : BitVec 32 := Scalar.addi v19 v21
  let c4_i32_13 : BitVec 32 := 4#32
  let v23 : BitVec 1 := Scalar.cmpi .eq v4 c4_i32_13
  let c6_i32_14 : BitVec 32 := 6#32
  let c0_i32_15 : BitVec 32 := 0#32
  let v24 : BitVec 32 := Scalar.select v23 c6_i32_14 c0_i32_15
  let v25 : BitVec 32 := Scalar.addi v22 v24
  let c3_i32_16 : BitVec 32 := 3#32
  let v26 : BitVec 1 := Scalar.cmpi .eq v4 c3_i32_16
  let c7_i32_17 : BitVec 32 := 7#32
  let c0_i32_18 : BitVec 32 := 0#32
  let v27 : BitVec 32 := Scalar.select v26 c7_i32_17 c0_i32_18
  let v28 : BitVec 32 := Scalar.addi v25 v27
  let c0_i32_19 : BitVec 32 := 0#32
  let v29 : BitVec 1 := Scalar.cmpi .eq v28 c0_i32_19
  let c1_i32_20 : BitVec 32 := 1#32
  let c0_i32_21 : BitVec 32 := 0#32
  let v30 : BitVec 32 := Scalar.select v29 c1_i32_20 c0_i32_21
  let v31 : BitVec 32 := Scalar.addi c0_i32_22 v30
  let c1_i32_27 : BitVec 32 := 1#32
  let v35 : BitVec 1 := Scalar.cmpi .eq v28 c1_i32_27
  let c2_i32_28 : BitVec 32 := 2#32
  let c0_i32_29 : BitVec 32 := 0#32
  let v36 : BitVec 32 := Scalar.select v35 c2_i32_28 c0_i32_29
  let v37 : BitVec 32 := Scalar.addi v31 v36
  let c2_i32_33 : BitVec 32 := 2#32
  let v41 : BitVec 1 := Scalar.cmpi .eq v28 c2_i32_33
  let c5_i32_34 : BitVec 32 := 5#32
  let c0_i32_35 : BitVec 32 := 0#32
  let v42 : BitVec 32 := Scalar.select v41 c5_i32_34 c0_i32_35
  let v43 : BitVec 32 := Scalar.addi v37 v42
  let c3_i32_39 : BitVec 32 := 3#32
  let v47 : BitVec 1 := Scalar.cmpi .eq v28 c3_i32_39
  let c6_i32_40 : BitVec 32 := 6#32
  let c0_i32_41 : BitVec 32 := 0#32
  let v48 : BitVec 32 := Scalar.select v47 c6_i32_40 c0_i32_41
  let v49 : BitVec 32 := Scalar.addi v43 v48
  let c4_i32_45 : BitVec 32 := 4#32
  let v53 : BitVec 1 := Scalar.cmpi .eq v28 c4_i32_45
  let c7_i32_46 : BitVec 32 := 7#32
  let c0_i32_47 : BitVec 32 := 0#32
  let v54 : BitVec 32 := Scalar.select v53 c7_i32_46 c0_i32_47
  let v55 : BitVec 32 := Scalar.addi v49 v54
  let c5_i32_51 : BitVec 32 := 5#32
  let v59 : BitVec 1 := Scalar.cmpi .eq v28 c5_i32_51
  let c4_i32_52 : BitVec 32 := 4#32
  let c0_i32_53 : BitVec 32 := 0#32
  let v60 : BitVec 32 := Scalar.select v59 c4_i32_52 c0_i32_53
  let v61 : BitVec 32 := Scalar.addi v55 v60
  let c6_i32_57 : BitVec 32 := 6#32
  let v65 : BitVec 1 := Scalar.cmpi .eq v28 c6_i32_57
  let c3_i32_58 : BitVec 32 := 3#32
  let c0_i32_59 : BitVec 32 := 0#32
  let v66 : BitVec 32 := Scalar.select v65 c3_i32_58 c0_i32_59
  let v67 : BitVec 32 := Scalar.addi v61 v66
  let c7_i32_63 : BitVec 32 := 7#32
  let v71 : BitVec 1 := Scalar.cmpi .eq v28 c7_i32_63
  let c0_i32_64 : BitVec 32 := 0#32
  let c0_i32_65 : BitVec 32 := 0#32
  let v72 : BitVec 32 := Scalar.select v71 c0_i32_64 c0_i32_65
  let v73 : BitVec 32 := Scalar.addi v67 v72
  let v78 : BitVec 32 := Scalar.addi v77 v73
  let c1_i32_125 : BitVec 32 := 1#32
  let v135 : BitVec 32 := Scalar.muli v78 c1_i32_125
  let v136 : BitVec 32 := Scalar.addi c0_i32_126 v135
  v136.toNat
def k0_dev7 (d0 : Dev nD) : Nat :=
  let c0_i32_136 : BitVec 32 := 0#32
  let c8_i32_70 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let v79 : BitVec 32 := Scalar.muli c8_i32_70 v3
  let c0_i32_26 : BitVec 32 := 0#32
  let c0_i32_3 : BitVec 32 := 0#32
  let c8_i32_0 : BitVec 32 := 8#32
  let v4 : BitVec 32 := Scalar.remsi v2 c8_i32_0
  let c0_i32 : BitVec 32 := 0#32
  let v5 : BitVec 1 := Scalar.cmpi .eq v4 c0_i32
  let c0_i32_1 : BitVec 32 := 0#32
  let c0_i32_2 : BitVec 32 := 0#32
  let v6 : BitVec 32 := Scalar.select v5 c0_i32_1 c0_i32_2
  let v7 : BitVec 32 := Scalar.addi c0_i32_3 v6
  let c1_i32_4 : BitVec 32 := 1#32
  let v8 : BitVec 1 := Scalar.cmpi .eq v4 c1_i32_4
  let c1_i32_5 : BitVec 32 := 1#32
  let c0_i32_6 : BitVec 32 := 0#32
  let v9 : BitVec 32 := Scalar.select v8 c1_i32_5 c0_i32_6
  let v10 : BitVec 32 := Scalar.addi v7 v9
  let c2_i32 : BitVec 32 := 2#32
  let v11 : BitVec 1 := Scalar.cmpi .eq v4 c2_i32
  let c2_i32_7 : BitVec 32 := 2#32
  let c0_i32_8 : BitVec 32 := 0#32
  let v12 : BitVec 32 := Scalar.select v11 c2_i32_7 c0_i32_8
  let v13 : BitVec 32 := Scalar.addi v10 v12
  let c5_i32 : BitVec 32 := 5#32
  let v14 : BitVec 1 := Scalar.cmpi .eq v4 c5_i32
  let c3_i32 : BitVec 32 := 3#32
  let c0_i32_9 : BitVec 32 := 0#32
  let v15 : BitVec 32 := Scalar.select v14 c3_i32 c0_i32_9
  let v16 : BitVec 32 := Scalar.addi v13 v15
  let c6_i32 : BitVec 32 := 6#32
  let v17 : BitVec 1 := Scalar.cmpi .eq v4 c6_i32
  let c4_i32 : BitVec 32 := 4#32
  let c0_i32_10 : BitVec 32 := 0#32
  let v18 : BitVec 32 := Scalar.select v17 c4_i32 c0_i32_10
  let v19 : BitVec 32 := Scalar.addi v16 v18
  let c7_i32 : BitVec 32 := 7#32
  let v20 : BitVec 1 := Scalar.cmpi .eq v4 c7_i32
  let c5_i32_11 : BitVec 32 := 5#32
  let c0_i32_12 : BitVec 32 := 0#32
  let v21 : BitVec 32 := Scalar.select v20 c5_i32_11 c0_i32_12
  let v22 : BitVec 32 := Scalar.addi v19 v21
  let c4_i32_13 : BitVec 32 := 4#32
  let v23 : BitVec 1 := Scalar.cmpi .eq v4 c4_i32_13
  let c6_i32_14 : BitVec 32 := 6#32
  let c0_i32_15 : BitVec 32 := 0#32
  let v24 : BitVec 32 := Scalar.select v23 c6_i32_14 c0_i32_15
  let v25 : BitVec 32 := Scalar.addi v22 v24
  let c3_i32_16 : BitVec 32 := 3#32
  let v26 : BitVec 1 := Scalar.cmpi .eq v4 c3_i32_16
  let c7_i32_17 : BitVec 32 := 7#32
  let c0_i32_18 : BitVec 32 := 0#32
  let v27 : BitVec 32 := Scalar.select v26 c7_i32_17 c0_i32_18
  let v28 : BitVec 32 := Scalar.addi v25 v27
  let c0_i32_23 : BitVec 32 := 0#32
  let v32 : BitVec 1 := Scalar.cmpi .eq v28 c0_i32_23
  let c3_i32_24 : BitVec 32 := 3#32
  let c0_i32_25 : BitVec 32 := 0#32
  let v33 : BitVec 32 := Scalar.select v32 c3_i32_24 c0_i32_25
  let v34 : BitVec 32 := Scalar.addi c0_i32_26 v33
  let c1_i32_30 : BitVec 32 := 1#32
  let v38 : BitVec 1 := Scalar.cmpi .eq v28 c1_i32_30
  let c0_i32_31 : BitVec 32 := 0#32
  let c0_i32_32 : BitVec 32 := 0#32
  let v39 : BitVec 32 := Scalar.select v38 c0_i32_31 c0_i32_32
  let v40 : BitVec 32 := Scalar.addi v34 v39
  let c2_i32_36 : BitVec 32 := 2#32
  let v44 : BitVec 1 := Scalar.cmpi .eq v28 c2_i32_36
  let c1_i32_37 : BitVec 32 := 1#32
  let c0_i32_38 : BitVec 32 := 0#32
  let v45 : BitVec 32 := Scalar.select v44 c1_i32_37 c0_i32_38
  let v46 : BitVec 32 := Scalar.addi v40 v45
  let c3_i32_42 : BitVec 32 := 3#32
  let v50 : BitVec 1 := Scalar.cmpi .eq v28 c3_i32_42
  let c2_i32_43 : BitVec 32 := 2#32
  let c0_i32_44 : BitVec 32 := 0#32
  let v51 : BitVec 32 := Scalar.select v50 c2_i32_43 c0_i32_44
  let v52 : BitVec 32 := Scalar.addi v46 v51
  let c4_i32_48 : BitVec 32 := 4#32
  let v56 : BitVec 1 := Scalar.cmpi .eq v28 c4_i32_48
  let c5_i32_49 : BitVec 32 := 5#32
  let c0_i32_50 : BitVec 32 := 0#32
  let v57 : BitVec 32 := Scalar.select v56 c5_i32_49 c0_i32_50
  let v58 : BitVec 32 := Scalar.addi v52 v57
  let c5_i32_54 : BitVec 32 := 5#32
  let v62 : BitVec 1 := Scalar.cmpi .eq v28 c5_i32_54
  let c6_i32_55 : BitVec 32 := 6#32
  let c0_i32_56 : BitVec 32 := 0#32
  let v63 : BitVec 32 := Scalar.select v62 c6_i32_55 c0_i32_56
  let v64 : BitVec 32 := Scalar.addi v58 v63
  let c6_i32_60 : BitVec 32 := 6#32
  let v68 : BitVec 1 := Scalar.cmpi .eq v28 c6_i32_60
  let c7_i32_61 : BitVec 32 := 7#32
  let c0_i32_62 : BitVec 32 := 0#32
  let v69 : BitVec 32 := Scalar.select v68 c7_i32_61 c0_i32_62
  let v70 : BitVec 32 := Scalar.addi v64 v69
  let c7_i32_66 : BitVec 32 := 7#32
  let v74 : BitVec 1 := Scalar.cmpi .eq v28 c7_i32_66
  let c4_i32_67 : BitVec 32 := 4#32
  let c0_i32_68 : BitVec 32 := 0#32
  let v75 : BitVec 32 := Scalar.select v74 c4_i32_67 c0_i32_68
  let v76 : BitVec 32 := Scalar.addi v70 v75
  let v80 : BitVec 32 := Scalar.addi v79 v76
  let c1_i32_135 : BitVec 32 := 1#32
  let v145 : BitVec 32 := Scalar.muli v80 c1_i32_135
  let v146 : BitVec 32 := Scalar.addi c0_i32_136 v145
  v146.toNat
def k0_off3 (d0 : Dev nD) (c0_i32_102 : BitVec 32) : Fin 2 → Nat :=
  let c0_i32_3 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c0_i32 : BitVec 32 := 0#32
  let v5 : BitVec 1 := Scalar.cmpi .eq v4 c0_i32
  let c0_i32_1 : BitVec 32 := 0#32
  let c0_i32_2 : BitVec 32 := 0#32
  let v6 : BitVec 32 := Scalar.select v5 c0_i32_1 c0_i32_2
  let v7 : BitVec 32 := Scalar.addi c0_i32_3 v6
  let c1_i32_4 : BitVec 32 := 1#32
  let v8 : BitVec 1 := Scalar.cmpi .eq v4 c1_i32_4
  let c1_i32_5 : BitVec 32 := 1#32
  let c0_i32_6 : BitVec 32 := 0#32
  let v9 : BitVec 32 := Scalar.select v8 c1_i32_5 c0_i32_6
  let v10 : BitVec 32 := Scalar.addi v7 v9
  let c2_i32 : BitVec 32 := 2#32
  let v11 : BitVec 1 := Scalar.cmpi .eq v4 c2_i32
  let c2_i32_7 : BitVec 32 := 2#32
  let c0_i32_8 : BitVec 32 := 0#32
  let v12 : BitVec 32 := Scalar.select v11 c2_i32_7 c0_i32_8
  let v13 : BitVec 32 := Scalar.addi v10 v12
  let c5_i32 : BitVec 32 := 5#32
  let v14 : BitVec 1 := Scalar.cmpi .eq v4 c5_i32
  let c3_i32 : BitVec 32 := 3#32
  let c0_i32_9 : BitVec 32 := 0#32
  let v15 : BitVec 32 := Scalar.select v14 c3_i32 c0_i32_9
  let v16 : BitVec 32 := Scalar.addi v13 v15
  let c6_i32 : BitVec 32 := 6#32
  let v17 : BitVec 1 := Scalar.cmpi .eq v4 c6_i32
  let c4_i32 : BitVec 32 := 4#32
  let c0_i32_10 : BitVec 32 := 0#32
  let v18 : BitVec 32 := Scalar.select v17 c4_i32 c0_i32_10
  let v19 : BitVec 32 := Scalar.addi v16 v18
  let c7_i32 : BitVec 32 := 7#32
  let v20 : BitVec 1 := Scalar.cmpi .eq v4 c7_i32
  let c5_i32_11 : BitVec 32 := 5#32
  let c0_i32_12 : BitVec 32 := 0#32
  let v21 : BitVec 32 := Scalar.select v20 c5_i32_11 c0_i32_12
  let v22 : BitVec 32 := Scalar.addi v19 v21
  let c4_i32_13 : BitVec 32 := 4#32
  let v23 : BitVec 1 := Scalar.cmpi .eq v4 c4_i32_13
  let c6_i32_14 : BitVec 32 := 6#32
  let c0_i32_15 : BitVec 32 := 0#32
  let v24 : BitVec 32 := Scalar.select v23 c6_i32_14 c0_i32_15
  let v25 : BitVec 32 := Scalar.addi v22 v24
  let c3_i32_16 : BitVec 32 := 3#32
  let v26 : BitVec 1 := Scalar.cmpi .eq v4 c3_i32_16
  let c7_i32_17 : BitVec 32 := 7#32
  let c0_i32_18 : BitVec 32 := 0#32
  let v27 : BitVec 32 := Scalar.select v26 c7_i32_17 c0_i32_18
  let v28 : BitVec 32 := Scalar.addi v25 v27
  let v110 : BitVec 32 := Scalar.subi v28 c0_i32_102
  let c1_i32_103 : BitVec 32 := 1#32
  let v111 : BitVec 32 := Scalar.subi v110 c1_i32_103
  let c64_i32_104 : BitVec 32 := 64#32
  let v112 : BitVec 32 := Scalar.addi v111 c64_i32_104
  let c8_i32_105 : BitVec 32 := 8#32
  let v113 : BitVec 32 := Scalar.remsi v112 c8_i32_105
  let c256_i32_179 : BitVec 32 := 256#32
  let v183 : BitVec 32 := Scalar.muli v113 c256_i32_179
  let v184 : Index := Scalar.indexCast v183
  let c0_180 : Index := 0#32
  ![v184.toNat, 0]
def k0_off4 (d0 : Dev nD) (c0_i32_109 : BitVec 32) : Fin 2 → Nat :=
  let c0_i32_3 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c0_i32 : BitVec 32 := 0#32
  let v5 : BitVec 1 := Scalar.cmpi .eq v4 c0_i32
  let c0_i32_1 : BitVec 32 := 0#32
  let c0_i32_2 : BitVec 32 := 0#32
  let v6 : BitVec 32 := Scalar.select v5 c0_i32_1 c0_i32_2
  let v7 : BitVec 32 := Scalar.addi c0_i32_3 v6
  let c1_i32_4 : BitVec 32 := 1#32
  let v8 : BitVec 1 := Scalar.cmpi .eq v4 c1_i32_4
  let c1_i32_5 : BitVec 32 := 1#32
  let c0_i32_6 : BitVec 32 := 0#32
  let v9 : BitVec 32 := Scalar.select v8 c1_i32_5 c0_i32_6
  let v10 : BitVec 32 := Scalar.addi v7 v9
  let c2_i32 : BitVec 32 := 2#32
  let v11 : BitVec 1 := Scalar.cmpi .eq v4 c2_i32
  let c2_i32_7 : BitVec 32 := 2#32
  let c0_i32_8 : BitVec 32 := 0#32
  let v12 : BitVec 32 := Scalar.select v11 c2_i32_7 c0_i32_8
  let v13 : BitVec 32 := Scalar.addi v10 v12
  let c5_i32 : BitVec 32 := 5#32
  let v14 : BitVec 1 := Scalar.cmpi .eq v4 c5_i32
  let c3_i32 : BitVec 32 := 3#32
  let c0_i32_9 : BitVec 32 := 0#32
  let v15 : BitVec 32 := Scalar.select v14 c3_i32 c0_i32_9
  let v16 : BitVec 32 := Scalar.addi v13 v15
  let c6_i32 : BitVec 32 := 6#32
  let v17 : BitVec 1 := Scalar.cmpi .eq v4 c6_i32
  let c4_i32 : BitVec 32 := 4#32
  let c0_i32_10 : BitVec 32 := 0#32
  let v18 : BitVec 32 := Scalar.select v17 c4_i32 c0_i32_10
  let v19 : BitVec 32 := Scalar.addi v16 v18
  let c7_i32 : BitVec 32 := 7#32
  let v20 : BitVec 1 := Scalar.cmpi .eq v4 c7_i32
  let c5_i32_11 : BitVec 32 := 5#32
  let c0_i32_12 : BitVec 32 := 0#32
  let v21 : BitVec 32 := Scalar.select v20 c5_i32_11 c0_i32_12
  let v22 : BitVec 32 := Scalar.addi v19 v21
  let c4_i32_13 : BitVec 32 := 4#32
  let v23 : BitVec 1 := Scalar.cmpi .eq v4 c4_i32_13
  let c6_i32_14 : BitVec 32 := 6#32
  let c0_i32_15 : BitVec 32 := 0#32
  let v24 : BitVec 32 := Scalar.select v23 c6_i32_14 c0_i32_15
  let v25 : BitVec 32 := Scalar.addi v22 v24
  let c3_i32_16 : BitVec 32 := 3#32
  let v26 : BitVec 1 := Scalar.cmpi .eq v4 c3_i32_16
  let c7_i32_17 : BitVec 32 := 7#32
  let c0_i32_18 : BitVec 32 := 0#32
  let v27 : BitVec 32 := Scalar.select v26 c7_i32_17 c0_i32_18
  let v28 : BitVec 32 := Scalar.addi v25 v27
  let v117 : BitVec 32 := Scalar.addi v28 c0_i32_109
  let c1_i32_110 : BitVec 32 := 1#32
  let v118 : BitVec 32 := Scalar.addi v117 c1_i32_110
  let c64_i32_111 : BitVec 32 := 64#32
  let v119 : BitVec 32 := Scalar.addi v118 c64_i32_111
  let c8_i32_112 : BitVec 32 := 8#32
  let v120 : BitVec 32 := Scalar.remsi v119 c8_i32_112
  let c256_i32_185 : BitVec 32 := 256#32
  let v192 : BitVec 32 := Scalar.muli v120 c256_i32_185
  let v193 : Index := Scalar.indexCast v192
  let c512_186 : Index := 512#32
  ![v193.toNat, 512]
def k0_dev8 (d0 : Dev nD) : Nat :=
  let c0_i32_219 : BitVec 32 := 0#32
  let c8_i32_69 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let v77 : BitVec 32 := Scalar.muli c8_i32_69 v3
  let c0_i32_22 : BitVec 32 := 0#32
  let c0_i32_3 : BitVec 32 := 0#32
  let c8_i32_0 : BitVec 32 := 8#32
  let v4 : BitVec 32 := Scalar.remsi v2 c8_i32_0
  let c0_i32 : BitVec 32 := 0#32
  let v5 : BitVec 1 := Scalar.cmpi .eq v4 c0_i32
  let c0_i32_1 : BitVec 32 := 0#32
  let c0_i32_2 : BitVec 32 := 0#32
  let v6 : BitVec 32 := Scalar.select v5 c0_i32_1 c0_i32_2
  let v7 : BitVec 32 := Scalar.addi c0_i32_3 v6
  let c1_i32_4 : BitVec 32 := 1#32
  let v8 : BitVec 1 := Scalar.cmpi .eq v4 c1_i32_4
  let c1_i32_5 : BitVec 32 := 1#32
  let c0_i32_6 : BitVec 32 := 0#32
  let v9 : BitVec 32 := Scalar.select v8 c1_i32_5 c0_i32_6
  let v10 : BitVec 32 := Scalar.addi v7 v9
  let c2_i32 : BitVec 32 := 2#32
  let v11 : BitVec 1 := Scalar.cmpi .eq v4 c2_i32
  let c2_i32_7 : BitVec 32 := 2#32
  let c0_i32_8 : BitVec 32 := 0#32
  let v12 : BitVec 32 := Scalar.select v11 c2_i32_7 c0_i32_8
  let v13 : BitVec 32 := Scalar.addi v10 v12
  let c5_i32 : BitVec 32 := 5#32
  let v14 : BitVec 1 := Scalar.cmpi .eq v4 c5_i32
  let c3_i32 : BitVec 32 := 3#32
  let c0_i32_9 : BitVec 32 := 0#32
  let v15 : BitVec 32 := Scalar.select v14 c3_i32 c0_i32_9
  let v16 : BitVec 32 := Scalar.addi v13 v15
  let c6_i32 : BitVec 32 := 6#32
  let v17 : BitVec 1 := Scalar.cmpi .eq v4 c6_i32
  let c4_i32 : BitVec 32 := 4#32
  let c0_i32_10 : BitVec 32 := 0#32
  let v18 : BitVec 32 := Scalar.select v17 c4_i32 c0_i32_10
  let v19 : BitVec 32 := Scalar.addi v16 v18
  let c7_i32 : BitVec 32 := 7#32
  let v20 : BitVec 1 := Scalar.cmpi .eq v4 c7_i32
  let c5_i32_11 : BitVec 32 := 5#32
  let c0_i32_12 : BitVec 32 := 0#32
  let v21 : BitVec 32 := Scalar.select v20 c5_i32_11 c0_i32_12
  let v22 : BitVec 32 := Scalar.addi v19 v21
  let c4_i32_13 : BitVec 32 := 4#32
  let v23 : BitVec 1 := Scalar.cmpi .eq v4 c4_i32_13
  let c6_i32_14 : BitVec 32 := 6#32
  let c0_i32_15 : BitVec 32 := 0#32
  let v24 : BitVec 32 := Scalar.select v23 c6_i32_14 c0_i32_15
  let v25 : BitVec 32 := Scalar.addi v22 v24
  let c3_i32_16 : BitVec 32 := 3#32
  let v26 : BitVec 1 := Scalar.cmpi .eq v4 c3_i32_16
  let c7_i32_17 : BitVec 32 := 7#32
  let c0_i32_18 : BitVec 32 := 0#32
  let v27 : BitVec 32 := Scalar.select v26 c7_i32_17 c0_i32_18
  let v28 : BitVec 32 := Scalar.addi v25 v27
  let c0_i32_19 : BitVec 32 := 0#32
  let v29 : BitVec 1 := Scalar.cmpi .eq v28 c0_i32_19
  let c1_i32_20 : BitVec 32 := 1#32
  let c0_i32_21 : BitVec 32 := 0#32
  let v30 : BitVec 32 := Scalar.select v29 c1_i32_20 c0_i32_21
  let v31 : BitVec 32 := Scalar.addi c0_i32_22 v30
  let c1_i32_27 : BitVec 32 := 1#32
  let v35 : BitVec 1 := Scalar.cmpi .eq v28 c1_i32_27
  let c2_i32_28 : BitVec 32 := 2#32
  let c0_i32_29 : BitVec 32 := 0#32
  let v36 : BitVec 32 := Scalar.select v35 c2_i32_28 c0_i32_29
  let v37 : BitVec 32 := Scalar.addi v31 v36
  let c2_i32_33 : BitVec 32 := 2#32
  let v41 : BitVec 1 := Scalar.cmpi .eq v28 c2_i32_33
  let c5_i32_34 : BitVec 32 := 5#32
  let c0_i32_35 : BitVec 32 := 0#32
  let v42 : BitVec 32 := Scalar.select v41 c5_i32_34 c0_i32_35
  let v43 : BitVec 32 := Scalar.addi v37 v42
  let c3_i32_39 : BitVec 32 := 3#32
  let v47 : BitVec 1 := Scalar.cmpi .eq v28 c3_i32_39
  let c6_i32_40 : BitVec 32 := 6#32
  let c0_i32_41 : BitVec 32 := 0#32
  let v48 : BitVec 32 := Scalar.select v47 c6_i32_40 c0_i32_41
  let v49 : BitVec 32 := Scalar.addi v43 v48
  let c4_i32_45 : BitVec 32 := 4#32
  let v53 : BitVec 1 := Scalar.cmpi .eq v28 c4_i32_45
  let c7_i32_46 : BitVec 32 := 7#32
  let c0_i32_47 : BitVec 32 := 0#32
  let v54 : BitVec 32 := Scalar.select v53 c7_i32_46 c0_i32_47
  let v55 : BitVec 32 := Scalar.addi v49 v54
  let c5_i32_51 : BitVec 32 := 5#32
  let v59 : BitVec 1 := Scalar.cmpi .eq v28 c5_i32_51
  let c4_i32_52 : BitVec 32 := 4#32
  let c0_i32_53 : BitVec 32 := 0#32
  let v60 : BitVec 32 := Scalar.select v59 c4_i32_52 c0_i32_53
  let v61 : BitVec 32 := Scalar.addi v55 v60
  let c6_i32_57 : BitVec 32 := 6#32
  let v65 : BitVec 1 := Scalar.cmpi .eq v28 c6_i32_57
  let c3_i32_58 : BitVec 32 := 3#32
  let c0_i32_59 : BitVec 32 := 0#32
  let v66 : BitVec 32 := Scalar.select v65 c3_i32_58 c0_i32_59
  let v67 : BitVec 32 := Scalar.addi v61 v66
  let c7_i32_63 : BitVec 32 := 7#32
  let v71 : BitVec 1 := Scalar.cmpi .eq v28 c7_i32_63
  let c0_i32_64 : BitVec 32 := 0#32
  let c0_i32_65 : BitVec 32 := 0#32
  let v72 : BitVec 32 := Scalar.select v71 c0_i32_64 c0_i32_65
  let v73 : BitVec 32 := Scalar.addi v67 v72
  let v78 : BitVec 32 := Scalar.addi v77 v73
  let c1_i32_218 : BitVec 32 := 1#32
  let v229 : BitVec 32 := Scalar.muli v78 c1_i32_218
  let v230 : BitVec 32 := Scalar.addi c0_i32_219 v229
  v230.toNat
def k0_dev9 (d0 : Dev nD) : Nat :=
  let c0_i32_229 : BitVec 32 := 0#32
  let c8_i32_70 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let v79 : BitVec 32 := Scalar.muli c8_i32_70 v3
  let c0_i32_26 : BitVec 32 := 0#32
  let c0_i32_3 : BitVec 32 := 0#32
  let c8_i32_0 : BitVec 32 := 8#32
  let v4 : BitVec 32 := Scalar.remsi v2 c8_i32_0
  let c0_i32 : BitVec 32 := 0#32
  let v5 : BitVec 1 := Scalar.cmpi .eq v4 c0_i32
  let c0_i32_1 : BitVec 32 := 0#32
  let c0_i32_2 : BitVec 32 := 0#32
  let v6 : BitVec 32 := Scalar.select v5 c0_i32_1 c0_i32_2
  let v7 : BitVec 32 := Scalar.addi c0_i32_3 v6
  let c1_i32_4 : BitVec 32 := 1#32
  let v8 : BitVec 1 := Scalar.cmpi .eq v4 c1_i32_4
  let c1_i32_5 : BitVec 32 := 1#32
  let c0_i32_6 : BitVec 32 := 0#32
  let v9 : BitVec 32 := Scalar.select v8 c1_i32_5 c0_i32_6
  let v10 : BitVec 32 := Scalar.addi v7 v9
  let c2_i32 : BitVec 32 := 2#32
  let v11 : BitVec 1 := Scalar.cmpi .eq v4 c2_i32
  let c2_i32_7 : BitVec 32 := 2#32
  let c0_i32_8 : BitVec 32 := 0#32
  let v12 : BitVec 32 := Scalar.select v11 c2_i32_7 c0_i32_8
  let v13 : BitVec 32 := Scalar.addi v10 v12
  let c5_i32 : BitVec 32 := 5#32
  let v14 : BitVec 1 := Scalar.cmpi .eq v4 c5_i32
  let c3_i32 : BitVec 32 := 3#32
  let c0_i32_9 : BitVec 32 := 0#32
  let v15 : BitVec 32 := Scalar.select v14 c3_i32 c0_i32_9
  let v16 : BitVec 32 := Scalar.addi v13 v15
  let c6_i32 : BitVec 32 := 6#32
  let v17 : BitVec 1 := Scalar.cmpi .eq v4 c6_i32
  let c4_i32 : BitVec 32 := 4#32
  let c0_i32_10 : BitVec 32 := 0#32
  let v18 : BitVec 32 := Scalar.select v17 c4_i32 c0_i32_10
  let v19 : BitVec 32 := Scalar.addi v16 v18
  let c7_i32 : BitVec 32 := 7#32
  let v20 : BitVec 1 := Scalar.cmpi .eq v4 c7_i32
  let c5_i32_11 : BitVec 32 := 5#32
  let c0_i32_12 : BitVec 32 := 0#32
  let v21 : BitVec 32 := Scalar.select v20 c5_i32_11 c0_i32_12
  let v22 : BitVec 32 := Scalar.addi v19 v21
  let c4_i32_13 : BitVec 32 := 4#32
  let v23 : BitVec 1 := Scalar.cmpi .eq v4 c4_i32_13
  let c6_i32_14 : BitVec 32 := 6#32
  let c0_i32_15 : BitVec 32 := 0#32
  let v24 : BitVec 32 := Scalar.select v23 c6_i32_14 c0_i32_15
  let v25 : BitVec 32 := Scalar.addi v22 v24
  let c3_i32_16 : BitVec 32 := 3#32
  let v26 : BitVec 1 := Scalar.cmpi .eq v4 c3_i32_16
  let c7_i32_17 : BitVec 32 := 7#32
  let c0_i32_18 : BitVec 32 := 0#32
  let v27 : BitVec 32 := Scalar.select v26 c7_i32_17 c0_i32_18
  let v28 : BitVec 32 := Scalar.addi v25 v27
  let c0_i32_23 : BitVec 32 := 0#32
  let v32 : BitVec 1 := Scalar.cmpi .eq v28 c0_i32_23
  let c3_i32_24 : BitVec 32 := 3#32
  let c0_i32_25 : BitVec 32 := 0#32
  let v33 : BitVec 32 := Scalar.select v32 c3_i32_24 c0_i32_25
  let v34 : BitVec 32 := Scalar.addi c0_i32_26 v33
  let c1_i32_30 : BitVec 32 := 1#32
  let v38 : BitVec 1 := Scalar.cmpi .eq v28 c1_i32_30
  let c0_i32_31 : BitVec 32 := 0#32
  let c0_i32_32 : BitVec 32 := 0#32
  let v39 : BitVec 32 := Scalar.select v38 c0_i32_31 c0_i32_32
  let v40 : BitVec 32 := Scalar.addi v34 v39
  let c2_i32_36 : BitVec 32 := 2#32
  let v44 : BitVec 1 := Scalar.cmpi .eq v28 c2_i32_36
  let c1_i32_37 : BitVec 32 := 1#32
  let c0_i32_38 : BitVec 32 := 0#32
  let v45 : BitVec 32 := Scalar.select v44 c1_i32_37 c0_i32_38
  let v46 : BitVec 32 := Scalar.addi v40 v45
  let c3_i32_42 : BitVec 32 := 3#32
  let v50 : BitVec 1 := Scalar.cmpi .eq v28 c3_i32_42
  let c2_i32_43 : BitVec 32 := 2#32
  let c0_i32_44 : BitVec 32 := 0#32
  let v51 : BitVec 32 := Scalar.select v50 c2_i32_43 c0_i32_44
  let v52 : BitVec 32 := Scalar.addi v46 v51
  let c4_i32_48 : BitVec 32 := 4#32
  let v56 : BitVec 1 := Scalar.cmpi .eq v28 c4_i32_48
  let c5_i32_49 : BitVec 32 := 5#32
  let c0_i32_50 : BitVec 32 := 0#32
  let v57 : BitVec 32 := Scalar.select v56 c5_i32_49 c0_i32_50
  let v58 : BitVec 32 := Scalar.addi v52 v57
  let c5_i32_54 : BitVec 32 := 5#32
  let v62 : BitVec 1 := Scalar.cmpi .eq v28 c5_i32_54
  let c6_i32_55 : BitVec 32 := 6#32
  let c0_i32_56 : BitVec 32 := 0#32
  let v63 : BitVec 32 := Scalar.select v62 c6_i32_55 c0_i32_56
  let v64 : BitVec 32 := Scalar.addi v58 v63
  let c6_i32_60 : BitVec 32 := 6#32
  let v68 : BitVec 1 := Scalar.cmpi .eq v28 c6_i32_60
  let c7_i32_61 : BitVec 32 := 7#32
  let c0_i32_62 : BitVec 32 := 0#32
  let v69 : BitVec 32 := Scalar.select v68 c7_i32_61 c0_i32_62
  let v70 : BitVec 32 := Scalar.addi v64 v69
  let c7_i32_66 : BitVec 32 := 7#32
  let v74 : BitVec 1 := Scalar.cmpi .eq v28 c7_i32_66
  let c4_i32_67 : BitVec 32 := 4#32
  let c0_i32_68 : BitVec 32 := 0#32
  let v75 : BitVec 32 := Scalar.select v74 c4_i32_67 c0_i32_68
  let v76 : BitVec 32 := Scalar.addi v70 v75
  let v80 : BitVec 32 := Scalar.addi v79 v76
  let c1_i32_228 : BitVec 32 := 1#32
  let v239 : BitVec 32 := Scalar.muli v80 c1_i32_228
  let v240 : BitVec 32 := Scalar.addi c0_i32_229 v239
  v240.toNat
def k0_dev10 (d0 : Dev nD) : Nat :=
  let c0_i32_312 : BitVec 32 := 0#32
  let c8_i32_69 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let v77 : BitVec 32 := Scalar.muli c8_i32_69 v3
  let c0_i32_22 : BitVec 32 := 0#32
  let c0_i32_3 : BitVec 32 := 0#32
  let c8_i32_0 : BitVec 32 := 8#32
  let v4 : BitVec 32 := Scalar.remsi v2 c8_i32_0
  let c0_i32 : BitVec 32 := 0#32
  let v5 : BitVec 1 := Scalar.cmpi .eq v4 c0_i32
  let c0_i32_1 : BitVec 32 := 0#32
  let c0_i32_2 : BitVec 32 := 0#32
  let v6 : BitVec 32 := Scalar.select v5 c0_i32_1 c0_i32_2
  let v7 : BitVec 32 := Scalar.addi c0_i32_3 v6
  let c1_i32_4 : BitVec 32 := 1#32
  let v8 : BitVec 1 := Scalar.cmpi .eq v4 c1_i32_4
  let c1_i32_5 : BitVec 32 := 1#32
  let c0_i32_6 : BitVec 32 := 0#32
  let v9 : BitVec 32 := Scalar.select v8 c1_i32_5 c0_i32_6
  let v10 : BitVec 32 := Scalar.addi v7 v9
  let c2_i32 : BitVec 32 := 2#32
  let v11 : BitVec 1 := Scalar.cmpi .eq v4 c2_i32
  let c2_i32_7 : BitVec 32 := 2#32
  let c0_i32_8 : BitVec 32 := 0#32
  let v12 : BitVec 32 := Scalar.select v11 c2_i32_7 c0_i32_8
  let v13 : BitVec 32 := Scalar.addi v10 v12
  let c5_i32 : BitVec 32 := 5#32
  let v14 : BitVec 1 := Scalar.cmpi .eq v4 c5_i32
  let c3_i32 : BitVec 32 := 3#32
  let c0_i32_9 : BitVec 32 := 0#32
  let v15 : BitVec 32 := Scalar.select v14 c3_i32 c0_i32_9
  let v16 : BitVec 32 := Scalar.addi v13 v15
  let c6_i32 : BitVec 32 := 6#32
  let v17 : BitVec 1 := Scalar.cmpi .eq v4 c6_i32
  let c4_i32 : BitVec 32 := 4#32
  let c0_i32_10 : BitVec 32 := 0#32
  let v18 : BitVec 32 := Scalar.select v17 c4_i32 c0_i32_10
  let v19 : BitVec 32 := Scalar.addi v16 v18
  let c7_i32 : BitVec 32 := 7#32
  let v20 : BitVec 1 := Scalar.cmpi .eq v4 c7_i32
  let c5_i32_11 : BitVec 32 := 5#32
  let c0_i32_12 : BitVec 32 := 0#32
  let v21 : BitVec 32 := Scalar.select v20 c5_i32_11 c0_i32_12
  let v22 : BitVec 32 := Scalar.addi v19 v21
  let c4_i32_13 : BitVec 32 := 4#32
  let v23 : BitVec 1 := Scalar.cmpi .eq v4 c4_i32_13
  let c6_i32_14 : BitVec 32 := 6#32
  let c0_i32_15 : BitVec 32 := 0#32
  let v24 : BitVec 32 := Scalar.select v23 c6_i32_14 c0_i32_15
  let v25 : BitVec 32 := Scalar.addi v22 v24
  let c3_i32_16 : BitVec 32 := 3#32
  let v26 : BitVec 1 := Scalar.cmpi .eq v4 c3_i32_16
  let c7_i32_17 : BitVec 32 := 7#32
  let c0_i32_18 : BitVec 32 := 0#32
  let v27 : BitVec 32 := Scalar.select v26 c7_i32_17 c0_i32_18
  let v28 : BitVec 32 := Scalar.addi v25 v27
  let c0_i32_19 : BitVec 32 := 0#32
  let v29 : BitVec 1 := Scalar.cmpi .eq v28 c0_i32_19
  let c1_i32_20 : BitVec 32 := 1#32
  let c0_i32_21 : BitVec 32 := 0#32
  let v30 : BitVec 32 := Scalar.select v29 c1_i32_20 c0_i32_21
  let v31 : BitVec 32 := Scalar.addi c0_i32_22 v30
  let c1_i32_27 : BitVec 32 := 1#32
  let v35 : BitVec 1 := Scalar.cmpi .eq v28 c1_i32_27
  let c2_i32_28 : BitVec 32 := 2#32
  let c0_i32_29 : BitVec 32 := 0#32
  let v36 : BitVec 32 := Scalar.select v35 c2_i32_28 c0_i32_29
  let v37 : BitVec 32 := Scalar.addi v31 v36
  let c2_i32_33 : BitVec 32 := 2#32
  let v41 : BitVec 1 := Scalar.cmpi .eq v28 c2_i32_33
  let c5_i32_34 : BitVec 32 := 5#32
  let c0_i32_35 : BitVec 32 := 0#32
  let v42 : BitVec 32 := Scalar.select v41 c5_i32_34 c0_i32_35
  let v43 : BitVec 32 := Scalar.addi v37 v42
  let c3_i32_39 : BitVec 32 := 3#32
  let v47 : BitVec 1 := Scalar.cmpi .eq v28 c3_i32_39
  let c6_i32_40 : BitVec 32 := 6#32
  let c0_i32_41 : BitVec 32 := 0#32
  let v48 : BitVec 32 := Scalar.select v47 c6_i32_40 c0_i32_41
  let v49 : BitVec 32 := Scalar.addi v43 v48
  let c4_i32_45 : BitVec 32 := 4#32
  let v53 : BitVec 1 := Scalar.cmpi .eq v28 c4_i32_45
  let c7_i32_46 : BitVec 32 := 7#32
  let c0_i32_47 : BitVec 32 := 0#32
  let v54 : BitVec 32 := Scalar.select v53 c7_i32_46 c0_i32_47
  let v55 : BitVec 32 := Scalar.addi v49 v54
  let c5_i32_51 : BitVec 32 := 5#32
  let v59 : BitVec 1 := Scalar.cmpi .eq v28 c5_i32_51
  let c4_i32_52 : BitVec 32 := 4#32
  let c0_i32_53 : BitVec 32 := 0#32
  let v60 : BitVec 32 := Scalar.select v59 c4_i32_52 c0_i32_53
  let v61 : BitVec 32 := Scalar.addi v55 v60
  let c6_i32_57 : BitVec 32 := 6#32
  let v65 : BitVec 1 := Scalar.cmpi .eq v28 c6_i32_57
  let c3_i32_58 : BitVec 32 := 3#32
  let c0_i32_59 : BitVec 32 := 0#32
  let v66 : BitVec 32 := Scalar.select v65 c3_i32_58 c0_i32_59
  let v67 : BitVec 32 := Scalar.addi v61 v66
  let c7_i32_63 : BitVec 32 := 7#32
  let v71 : BitVec 1 := Scalar.cmpi .eq v28 c7_i32_63
  let c0_i32_64 : BitVec 32 := 0#32
  let c0_i32_65 : BitVec 32 := 0#32
  let v72 : BitVec 32 := Scalar.select v71 c0_i32_64 c0_i32_65
  let v73 : BitVec 32 := Scalar.addi v67 v72
  let v78 : BitVec 32 := Scalar.addi v77 v73
  let c1_i32_311 : BitVec 32 := 1#32
  let v323 : BitVec 32 := Scalar.muli v78 c1_i32_311
  let v324 : BitVec 32 := Scalar.addi c0_i32_312 v323
  v324.toNat
def k0_dev11 (d0 : Dev nD) : Nat :=
  let c0_i32_322 : BitVec 32 := 0#32
  let c8_i32_70 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let v79 : BitVec 32 := Scalar.muli c8_i32_70 v3
  let c0_i32_26 : BitVec 32 := 0#32
  let c0_i32_3 : BitVec 32 := 0#32
  let c8_i32_0 : BitVec 32 := 8#32
  let v4 : BitVec 32 := Scalar.remsi v2 c8_i32_0
  let c0_i32 : BitVec 32 := 0#32
  let v5 : BitVec 1 := Scalar.cmpi .eq v4 c0_i32
  let c0_i32_1 : BitVec 32 := 0#32
  let c0_i32_2 : BitVec 32 := 0#32
  let v6 : BitVec 32 := Scalar.select v5 c0_i32_1 c0_i32_2
  let v7 : BitVec 32 := Scalar.addi c0_i32_3 v6
  let c1_i32_4 : BitVec 32 := 1#32
  let v8 : BitVec 1 := Scalar.cmpi .eq v4 c1_i32_4
  let c1_i32_5 : BitVec 32 := 1#32
  let c0_i32_6 : BitVec 32 := 0#32
  let v9 : BitVec 32 := Scalar.select v8 c1_i32_5 c0_i32_6
  let v10 : BitVec 32 := Scalar.addi v7 v9
  let c2_i32 : BitVec 32 := 2#32
  let v11 : BitVec 1 := Scalar.cmpi .eq v4 c2_i32
  let c2_i32_7 : BitVec 32 := 2#32
  let c0_i32_8 : BitVec 32 := 0#32
  let v12 : BitVec 32 := Scalar.select v11 c2_i32_7 c0_i32_8
  let v13 : BitVec 32 := Scalar.addi v10 v12
  let c5_i32 : BitVec 32 := 5#32
  let v14 : BitVec 1 := Scalar.cmpi .eq v4 c5_i32
  let c3_i32 : BitVec 32 := 3#32
  let c0_i32_9 : BitVec 32 := 0#32
  let v15 : BitVec 32 := Scalar.select v14 c3_i32 c0_i32_9
  let v16 : BitVec 32 := Scalar.addi v13 v15
  let c6_i32 : BitVec 32 := 6#32
  let v17 : BitVec 1 := Scalar.cmpi .eq v4 c6_i32
  let c4_i32 : BitVec 32 := 4#32
  let c0_i32_10 : BitVec 32 := 0#32
  let v18 : BitVec 32 := Scalar.select v17 c4_i32 c0_i32_10
  let v19 : BitVec 32 := Scalar.addi v16 v18
  let c7_i32 : BitVec 32 := 7#32
  let v20 : BitVec 1 := Scalar.cmpi .eq v4 c7_i32
  let c5_i32_11 : BitVec 32 := 5#32
  let c0_i32_12 : BitVec 32 := 0#32
  let v21 : BitVec 32 := Scalar.select v20 c5_i32_11 c0_i32_12
  let v22 : BitVec 32 := Scalar.addi v19 v21
  let c4_i32_13 : BitVec 32 := 4#32
  let v23 : BitVec 1 := Scalar.cmpi .eq v4 c4_i32_13
  let c6_i32_14 : BitVec 32 := 6#32
  let c0_i32_15 : BitVec 32 := 0#32
  let v24 : BitVec 32 := Scalar.select v23 c6_i32_14 c0_i32_15
  let v25 : BitVec 32 := Scalar.addi v22 v24
  let c3_i32_16 : BitVec 32 := 3#32
  let v26 : BitVec 1 := Scalar.cmpi .eq v4 c3_i32_16
  let c7_i32_17 : BitVec 32 := 7#32
  let c0_i32_18 : BitVec 32 := 0#32
  let v27 : BitVec 32 := Scalar.select v26 c7_i32_17 c0_i32_18
  let v28 : BitVec 32 := Scalar.addi v25 v27
  let c0_i32_23 : BitVec 32 := 0#32
  let v32 : BitVec 1 := Scalar.cmpi .eq v28 c0_i32_23
  let c3_i32_24 : BitVec 32 := 3#32
  let c0_i32_25 : BitVec 32 := 0#32
  let v33 : BitVec 32 := Scalar.select v32 c3_i32_24 c0_i32_25
  let v34 : BitVec 32 := Scalar.addi c0_i32_26 v33
  let c1_i32_30 : BitVec 32 := 1#32
  let v38 : BitVec 1 := Scalar.cmpi .eq v28 c1_i32_30
  let c0_i32_31 : BitVec 32 := 0#32
  let c0_i32_32 : BitVec 32 := 0#32
  let v39 : BitVec 32 := Scalar.select v38 c0_i32_31 c0_i32_32
  let v40 : BitVec 32 := Scalar.addi v34 v39
  let c2_i32_36 : BitVec 32 := 2#32
  let v44 : BitVec 1 := Scalar.cmpi .eq v28 c2_i32_36
  let c1_i32_37 : BitVec 32 := 1#32
  let c0_i32_38 : BitVec 32 := 0#32
  let v45 : BitVec 32 := Scalar.select v44 c1_i32_37 c0_i32_38
  let v46 : BitVec 32 := Scalar.addi v40 v45
  let c3_i32_42 : BitVec 32 := 3#32
  let v50 : BitVec 1 := Scalar.cmpi .eq v28 c3_i32_42
  let c2_i32_43 : BitVec 32 := 2#32
  let c0_i32_44 : BitVec 32 := 0#32
  let v51 : BitVec 32 := Scalar.select v50 c2_i32_43 c0_i32_44
  let v52 : BitVec 32 := Scalar.addi v46 v51
  let c4_i32_48 : BitVec 32 := 4#32
  let v56 : BitVec 1 := Scalar.cmpi .eq v28 c4_i32_48
  let c5_i32_49 : BitVec 32 := 5#32
  let c0_i32_50 : BitVec 32 := 0#32
  let v57 : BitVec 32 := Scalar.select v56 c5_i32_49 c0_i32_50
  let v58 : BitVec 32 := Scalar.addi v52 v57
  let c5_i32_54 : BitVec 32 := 5#32
  let v62 : BitVec 1 := Scalar.cmpi .eq v28 c5_i32_54
  let c6_i32_55 : BitVec 32 := 6#32
  let c0_i32_56 : BitVec 32 := 0#32
  let v63 : BitVec 32 := Scalar.select v62 c6_i32_55 c0_i32_56
  let v64 : BitVec 32 := Scalar.addi v58 v63
  let c6_i32_60 : BitVec 32 := 6#32
  let v68 : BitVec 1 := Scalar.cmpi .eq v28 c6_i32_60
  let c7_i32_61 : BitVec 32 := 7#32
  let c0_i32_62 : BitVec 32 := 0#32
  let v69 : BitVec 32 := Scalar.select v68 c7_i32_61 c0_i32_62
  let v70 : BitVec 32 := Scalar.addi v64 v69
  let c7_i32_66 : BitVec 32 := 7#32
  let v74 : BitVec 1 := Scalar.cmpi .eq v28 c7_i32_66
  let c4_i32_67 : BitVec 32 := 4#32
  let c0_i32_68 : BitVec 32 := 0#32
  let v75 : BitVec 32 := Scalar.select v74 c4_i32_67 c0_i32_68
  let v76 : BitVec 32 := Scalar.addi v70 v75
  let v80 : BitVec 32 := Scalar.addi v79 v76
  let c1_i32_321 : BitVec 32 := 1#32
  let v333 : BitVec 32 := Scalar.muli v80 c1_i32_321
  let v334 : BitVec 32 := Scalar.addi c0_i32_322 v333
  v334.toNat
def k0_dev12 (d0 : Dev nD) : Nat :=
  let c0_i32_405 : BitVec 32 := 0#32
  let c8_i32_69 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let v77 : BitVec 32 := Scalar.muli c8_i32_69 v3
  let c0_i32_22 : BitVec 32 := 0#32
  let c0_i32_3 : BitVec 32 := 0#32
  let c8_i32_0 : BitVec 32 := 8#32
  let v4 : BitVec 32 := Scalar.remsi v2 c8_i32_0
  let c0_i32 : BitVec 32 := 0#32
  let v5 : BitVec 1 := Scalar.cmpi .eq v4 c0_i32
  let c0_i32_1 : BitVec 32 := 0#32
  let c0_i32_2 : BitVec 32 := 0#32
  let v6 : BitVec 32 := Scalar.select v5 c0_i32_1 c0_i32_2
  let v7 : BitVec 32 := Scalar.addi c0_i32_3 v6
  let c1_i32_4 : BitVec 32 := 1#32
  let v8 : BitVec 1 := Scalar.cmpi .eq v4 c1_i32_4
  let c1_i32_5 : BitVec 32 := 1#32
  let c0_i32_6 : BitVec 32 := 0#32
  let v9 : BitVec 32 := Scalar.select v8 c1_i32_5 c0_i32_6
  let v10 : BitVec 32 := Scalar.addi v7 v9
  let c2_i32 : BitVec 32 := 2#32
  let v11 : BitVec 1 := Scalar.cmpi .eq v4 c2_i32
  let c2_i32_7 : BitVec 32 := 2#32
  let c0_i32_8 : BitVec 32 := 0#32
  let v12 : BitVec 32 := Scalar.select v11 c2_i32_7 c0_i32_8
  let v13 : BitVec 32 := Scalar.addi v10 v12
  let c5_i32 : BitVec 32 := 5#32
  let v14 : BitVec 1 := Scalar.cmpi .eq v4 c5_i32
  let c3_i32 : BitVec 32 := 3#32
  let c0_i32_9 : BitVec 32 := 0#32
  let v15 : BitVec 32 := Scalar.select v14 c3_i32 c0_i32_9
  let v16 : BitVec 32 := Scalar.addi v13 v15
  let c6_i32 : BitVec 32 := 6#32
  let v17 : BitVec 1 := Scalar.cmpi .eq v4 c6_i32
  let c4_i32 : BitVec 32 := 4#32
  let c0_i32_10 : BitVec 32 := 0#32
  let v18 : BitVec 32 := Scalar.select v17 c4_i32 c0_i32_10
  let v19 : BitVec 32 := Scalar.addi v16 v18
  let c7_i32 : BitVec 32 := 7#32
  let v20 : BitVec 1 := Scalar.cmpi .eq v4 c7_i32
  let c5_i32_11 : BitVec 32 := 5#32
  let c0_i32_12 : BitVec 32 := 0#32
  let v21 : BitVec 32 := Scalar.select v20 c5_i32_11 c0_i32_12
  let v22 : BitVec 32 := Scalar.addi v19 v21
  let c4_i32_13 : BitVec 32 := 4#32
  let v23 : BitVec 1 := Scalar.cmpi .eq v4 c4_i32_13
  let c6_i32_14 : BitVec 32 := 6#32
  let c0_i32_15 : BitVec 32 := 0#32
  let v24 : BitVec 32 := Scalar.select v23 c6_i32_14 c0_i32_15
  let v25 : BitVec 32 := Scalar.addi v22 v24
  let c3_i32_16 : BitVec 32 := 3#32
  let v26 : BitVec 1 := Scalar.cmpi .eq v4 c3_i32_16
  let c7_i32_17 : BitVec 32 := 7#32
  let c0_i32_18 : BitVec 32 := 0#32
  let v27 : BitVec 32 := Scalar.select v26 c7_i32_17 c0_i32_18
  let v28 : BitVec 32 := Scalar.addi v25 v27
  let c0_i32_19 : BitVec 32 := 0#32
  let v29 : BitVec 1 := Scalar.cmpi .eq v28 c0_i32_19
  let c1_i32_20 : BitVec 32 := 1#32
  let c0_i32_21 : BitVec 32 := 0#32
  let v30 : BitVec 32 := Scalar.select v29 c1_i32_20 c0_i32_21
  let v31 : BitVec 32 := Scalar.addi c0_i32_22 v30
  let c1_i32_27 : BitVec 32 := 1#32
  let v35 : BitVec 1 := Scalar.cmpi .eq v28 c1_i32_27
  let c2_i32_28 : BitVec 32 := 2#32
  let c0_i32_29 : BitVec 32 := 0#32
  let v36 : BitVec 32 := Scalar.select v35 c2_i32_28 c0_i32_29
  let v37 : BitVec 32 := Scalar.addi v31 v36
  let c2_i32_33 : BitVec 32 := 2#32
  let v41 : BitVec 1 := Scalar.cmpi .eq v28 c2_i32_33
  let c5_i32_34 : BitVec 32 := 5#32
  let c0_i32_35 : BitVec 32 := 0#32
  let v42 : BitVec 32 := Scalar.select v41 c5_i32_34 c0_i32_35
  let v43 : BitVec 32 := Scalar.addi v37 v42
  let c3_i32_39 : BitVec 32 := 3#32
  let v47 : BitVec 1 := Scalar.cmpi .eq v28 c3_i32_39
  let c6_i32_40 : BitVec 32 := 6#32
  let c0_i32_41 : BitVec 32 := 0#32
  let v48 : BitVec 32 := Scalar.select v47 c6_i32_40 c0_i32_41
  let v49 : BitVec 32 := Scalar.addi v43 v48
  let c4_i32_45 : BitVec 32 := 4#32
  let v53 : BitVec 1 := Scalar.cmpi .eq v28 c4_i32_45
  let c7_i32_46 : BitVec 32 := 7#32
  let c0_i32_47 : BitVec 32 := 0#32
  let v54 : BitVec 32 := Scalar.select v53 c7_i32_46 c0_i32_47
  let v55 : BitVec 32 := Scalar.addi v49 v54
  let c5_i32_51 : BitVec 32 := 5#32
  let v59 : BitVec 1 := Scalar.cmpi .eq v28 c5_i32_51
  let c4_i32_52 : BitVec 32 := 4#32
  let c0_i32_53 : BitVec 32 := 0#32
  let v60 : BitVec 32 := Scalar.select v59 c4_i32_52 c0_i32_53
  let v61 : BitVec 32 := Scalar.addi v55 v60
  let c6_i32_57 : BitVec 32 := 6#32
  let v65 : BitVec 1 := Scalar.cmpi .eq v28 c6_i32_57
  let c3_i32_58 : BitVec 32 := 3#32
  let c0_i32_59 : BitVec 32 := 0#32
  let v66 : BitVec 32 := Scalar.select v65 c3_i32_58 c0_i32_59
  let v67 : BitVec 32 := Scalar.addi v61 v66
  let c7_i32_63 : BitVec 32 := 7#32
  let v71 : BitVec 1 := Scalar.cmpi .eq v28 c7_i32_63
  let c0_i32_64 : BitVec 32 := 0#32
  let c0_i32_65 : BitVec 32 := 0#32
  let v72 : BitVec 32 := Scalar.select v71 c0_i32_64 c0_i32_65
  let v73 : BitVec 32 := Scalar.addi v67 v72
  let v78 : BitVec 32 := Scalar.addi v77 v73
  let c1_i32_404 : BitVec 32 := 1#32
  let v417 : BitVec 32 := Scalar.muli v78 c1_i32_404
  let v418 : BitVec 32 := Scalar.addi c0_i32_405 v417
  v418.toNat
def k0_dev13 (d0 : Dev nD) : Nat :=
  let c0_i32_415 : BitVec 32 := 0#32
  let c8_i32_70 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let v79 : BitVec 32 := Scalar.muli c8_i32_70 v3
  let c0_i32_26 : BitVec 32 := 0#32
  let c0_i32_3 : BitVec 32 := 0#32
  let c8_i32_0 : BitVec 32 := 8#32
  let v4 : BitVec 32 := Scalar.remsi v2 c8_i32_0
  let c0_i32 : BitVec 32 := 0#32
  let v5 : BitVec 1 := Scalar.cmpi .eq v4 c0_i32
  let c0_i32_1 : BitVec 32 := 0#32
  let c0_i32_2 : BitVec 32 := 0#32
  let v6 : BitVec 32 := Scalar.select v5 c0_i32_1 c0_i32_2
  let v7 : BitVec 32 := Scalar.addi c0_i32_3 v6
  let c1_i32_4 : BitVec 32 := 1#32
  let v8 : BitVec 1 := Scalar.cmpi .eq v4 c1_i32_4
  let c1_i32_5 : BitVec 32 := 1#32
  let c0_i32_6 : BitVec 32 := 0#32
  let v9 : BitVec 32 := Scalar.select v8 c1_i32_5 c0_i32_6
  let v10 : BitVec 32 := Scalar.addi v7 v9
  let c2_i32 : BitVec 32 := 2#32
  let v11 : BitVec 1 := Scalar.cmpi .eq v4 c2_i32
  let c2_i32_7 : BitVec 32 := 2#32
  let c0_i32_8 : BitVec 32 := 0#32
  let v12 : BitVec 32 := Scalar.select v11 c2_i32_7 c0_i32_8
  let v13 : BitVec 32 := Scalar.addi v10 v12
  let c5_i32 : BitVec 32 := 5#32
  let v14 : BitVec 1 := Scalar.cmpi .eq v4 c5_i32
  let c3_i32 : BitVec 32 := 3#32
  let c0_i32_9 : BitVec 32 := 0#32
  let v15 : BitVec 32 := Scalar.select v14 c3_i32 c0_i32_9
  let v16 : BitVec 32 := Scalar.addi v13 v15
  let c6_i32 : BitVec 32 := 6#32
  let v17 : BitVec 1 := Scalar.cmpi .eq v4 c6_i32
  let c4_i32 : BitVec 32 := 4#32
  let c0_i32_10 : BitVec 32 := 0#32
  let v18 : BitVec 32 := Scalar.select v17 c4_i32 c0_i32_10
  let v19 : BitVec 32 := Scalar.addi v16 v18
  let c7_i32 : BitVec 32 := 7#32
  let v20 : BitVec 1 := Scalar.cmpi .eq v4 c7_i32
  let c5_i32_11 : BitVec 32 := 5#32
  let c0_i32_12 : BitVec 32 := 0#32
  let v21 : BitVec 32 := Scalar.select v20 c5_i32_11 c0_i32_12
  let v22 : BitVec 32 := Scalar.addi v19 v21
  let c4_i32_13 : BitVec 32 := 4#32
  let v23 : BitVec 1 := Scalar.cmpi .eq v4 c4_i32_13
  let c6_i32_14 : BitVec 32 := 6#32
  let c0_i32_15 : BitVec 32 := 0#32
  let v24 : BitVec 32 := Scalar.select v23 c6_i32_14 c0_i32_15
  let v25 : BitVec 32 := Scalar.addi v22 v24
  let c3_i32_16 : BitVec 32 := 3#32
  let v26 : BitVec 1 := Scalar.cmpi .eq v4 c3_i32_16
  let c7_i32_17 : BitVec 32 := 7#32
  let c0_i32_18 : BitVec 32 := 0#32
  let v27 : BitVec 32 := Scalar.select v26 c7_i32_17 c0_i32_18
  let v28 : BitVec 32 := Scalar.addi v25 v27
  let c0_i32_23 : BitVec 32 := 0#32
  let v32 : BitVec 1 := Scalar.cmpi .eq v28 c0_i32_23
  let c3_i32_24 : BitVec 32 := 3#32
  let c0_i32_25 : BitVec 32 := 0#32
  let v33 : BitVec 32 := Scalar.select v32 c3_i32_24 c0_i32_25
  let v34 : BitVec 32 := Scalar.addi c0_i32_26 v33
  let c1_i32_30 : BitVec 32 := 1#32
  let v38 : BitVec 1 := Scalar.cmpi .eq v28 c1_i32_30
  let c0_i32_31 : BitVec 32 := 0#32
  let c0_i32_32 : BitVec 32 := 0#32
  let v39 : BitVec 32 := Scalar.select v38 c0_i32_31 c0_i32_32
  let v40 : BitVec 32 := Scalar.addi v34 v39
  let c2_i32_36 : BitVec 32 := 2#32
  let v44 : BitVec 1 := Scalar.cmpi .eq v28 c2_i32_36
  let c1_i32_37 : BitVec 32 := 1#32
  let c0_i32_38 : BitVec 32 := 0#32
  let v45 : BitVec 32 := Scalar.select v44 c1_i32_37 c0_i32_38
  let v46 : BitVec 32 := Scalar.addi v40 v45
  let c3_i32_42 : BitVec 32 := 3#32
  let v50 : BitVec 1 := Scalar.cmpi .eq v28 c3_i32_42
  let c2_i32_43 : BitVec 32 := 2#32
  let c0_i32_44 : BitVec 32 := 0#32
  let v51 : BitVec 32 := Scalar.select v50 c2_i32_43 c0_i32_44
  let v52 : BitVec 32 := Scalar.addi v46 v51
  let c4_i32_48 : BitVec 32 := 4#32
  let v56 : BitVec 1 := Scalar.cmpi .eq v28 c4_i32_48
  let c5_i32_49 : BitVec 32 := 5#32
  let c0_i32_50 : BitVec 32 := 0#32
  let v57 : BitVec 32 := Scalar.select v56 c5_i32_49 c0_i32_50
  let v58 : BitVec 32 := Scalar.addi v52 v57
  let c5_i32_54 : BitVec 32 := 5#32
  let v62 : BitVec 1 := Scalar.cmpi .eq v28 c5_i32_54
  let c6_i32_55 : BitVec 32 := 6#32
  let c0_i32_56 : BitVec 32 := 0#32
  let v63 : BitVec 32 := Scalar.select v62 c6_i32_55 c0_i32_56
  let v64 : BitVec 32 := Scalar.addi v58 v63
  let c6_i32_60 : BitVec 32 := 6#32
  let v68 : BitVec 1 := Scalar.cmpi .eq v28 c6_i32_60
  let c7_i32_61 : BitVec 32 := 7#32
  let c0_i32_62 : BitVec 32 := 0#32
  let v69 : BitVec 32 := Scalar.select v68 c7_i32_61 c0_i32_62
  let v70 : BitVec 32 := Scalar.addi v64 v69
  let c7_i32_66 : BitVec 32 := 7#32
  let v74 : BitVec 1 := Scalar.cmpi .eq v28 c7_i32_66
  let c4_i32_67 : BitVec 32 := 4#32
  let c0_i32_68 : BitVec 32 := 0#32
  let v75 : BitVec 32 := Scalar.select v74 c4_i32_67 c0_i32_68
  let v76 : BitVec 32 := Scalar.addi v70 v75
  let v80 : BitVec 32 := Scalar.addi v79 v76
  let c1_i32_414 : BitVec 32 := 1#32
  let v427 : BitVec 32 := Scalar.muli v80 c1_i32_414
  let v428 : BitVec 32 := Scalar.addi c0_i32_415 v427
  v428.toNat
def k0_dev14 (d0 : Dev nD) : Nat :=
  let c0_i32_499 : BitVec 32 := 0#32
  let c8_i32_69 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let v77 : BitVec 32 := Scalar.muli c8_i32_69 v3
  let c0_i32_22 : BitVec 32 := 0#32
  let c0_i32_3 : BitVec 32 := 0#32
  let c8_i32_0 : BitVec 32 := 8#32
  let v4 : BitVec 32 := Scalar.remsi v2 c8_i32_0
  let c0_i32 : BitVec 32 := 0#32
  let v5 : BitVec 1 := Scalar.cmpi .eq v4 c0_i32
  let c0_i32_1 : BitVec 32 := 0#32
  let c0_i32_2 : BitVec 32 := 0#32
  let v6 : BitVec 32 := Scalar.select v5 c0_i32_1 c0_i32_2
  let v7 : BitVec 32 := Scalar.addi c0_i32_3 v6
  let c1_i32_4 : BitVec 32 := 1#32
  let v8 : BitVec 1 := Scalar.cmpi .eq v4 c1_i32_4
  let c1_i32_5 : BitVec 32 := 1#32
  let c0_i32_6 : BitVec 32 := 0#32
  let v9 : BitVec 32 := Scalar.select v8 c1_i32_5 c0_i32_6
  let v10 : BitVec 32 := Scalar.addi v7 v9
  let c2_i32 : BitVec 32 := 2#32
  let v11 : BitVec 1 := Scalar.cmpi .eq v4 c2_i32
  let c2_i32_7 : BitVec 32 := 2#32
  let c0_i32_8 : BitVec 32 := 0#32
  let v12 : BitVec 32 := Scalar.select v11 c2_i32_7 c0_i32_8
  let v13 : BitVec 32 := Scalar.addi v10 v12
  let c5_i32 : BitVec 32 := 5#32
  let v14 : BitVec 1 := Scalar.cmpi .eq v4 c5_i32
  let c3_i32 : BitVec 32 := 3#32
  let c0_i32_9 : BitVec 32 := 0#32
  let v15 : BitVec 32 := Scalar.select v14 c3_i32 c0_i32_9
  let v16 : BitVec 32 := Scalar.addi v13 v15
  let c6_i32 : BitVec 32 := 6#32
  let v17 : BitVec 1 := Scalar.cmpi .eq v4 c6_i32
  let c4_i32 : BitVec 32 := 4#32
  let c0_i32_10 : BitVec 32 := 0#32
  let v18 : BitVec 32 := Scalar.select v17 c4_i32 c0_i32_10
  let v19 : BitVec 32 := Scalar.addi v16 v18
  let c7_i32 : BitVec 32 := 7#32
  let v20 : BitVec 1 := Scalar.cmpi .eq v4 c7_i32
  let c5_i32_11 : BitVec 32 := 5#32
  let c0_i32_12 : BitVec 32 := 0#32
  let v21 : BitVec 32 := Scalar.select v20 c5_i32_11 c0_i32_12
  let v22 : BitVec 32 := Scalar.addi v19 v21
  let c4_i32_13 : BitVec 32 := 4#32
  let v23 : BitVec 1 := Scalar.cmpi .eq v4 c4_i32_13
  let c6_i32_14 : BitVec 32 := 6#32
  let c0_i32_15 : BitVec 32 := 0#32
  let v24 : BitVec 32 := Scalar.select v23 c6_i32_14 c0_i32_15
  let v25 : BitVec 32 := Scalar.addi v22 v24
  let c3_i32_16 : BitVec 32 := 3#32
  let v26 : BitVec 1 := Scalar.cmpi .eq v4 c3_i32_16
  let c7_i32_17 : BitVec 32 := 7#32
  let c0_i32_18 : BitVec 32 := 0#32
  let v27 : BitVec 32 := Scalar.select v26 c7_i32_17 c0_i32_18
  let v28 : BitVec 32 := Scalar.addi v25 v27
  let c0_i32_19 : BitVec 32 := 0#32
  let v29 : BitVec 1 := Scalar.cmpi .eq v28 c0_i32_19
  let c1_i32_20 : BitVec 32 := 1#32
  let c0_i32_21 : BitVec 32 := 0#32
  let v30 : BitVec 32 := Scalar.select v29 c1_i32_20 c0_i32_21
  let v31 : BitVec 32 := Scalar.addi c0_i32_22 v30
  let c1_i32_27 : BitVec 32 := 1#32
  let v35 : BitVec 1 := Scalar.cmpi .eq v28 c1_i32_27
  let c2_i32_28 : BitVec 32 := 2#32
  let c0_i32_29 : BitVec 32 := 0#32
  let v36 : BitVec 32 := Scalar.select v35 c2_i32_28 c0_i32_29
  let v37 : BitVec 32 := Scalar.addi v31 v36
  let c2_i32_33 : BitVec 32 := 2#32
  let v41 : BitVec 1 := Scalar.cmpi .eq v28 c2_i32_33
  let c5_i32_34 : BitVec 32 := 5#32
  let c0_i32_35 : BitVec 32 := 0#32
  let v42 : BitVec 32 := Scalar.select v41 c5_i32_34 c0_i32_35
  let v43 : BitVec 32 := Scalar.addi v37 v42
  let c3_i32_39 : BitVec 32 := 3#32
  let v47 : BitVec 1 := Scalar.cmpi .eq v28 c3_i32_39
  let c6_i32_40 : BitVec 32 := 6#32
  let c0_i32_41 : BitVec 32 := 0#32
  let v48 : BitVec 32 := Scalar.select v47 c6_i32_40 c0_i32_41
  let v49 : BitVec 32 := Scalar.addi v43 v48
  let c4_i32_45 : BitVec 32 := 4#32
  let v53 : BitVec 1 := Scalar.cmpi .eq v28 c4_i32_45
  let c7_i32_46 : BitVec 32 := 7#32
  let c0_i32_47 : BitVec 32 := 0#32
  let v54 : BitVec 32 := Scalar.select v53 c7_i32_46 c0_i32_47
  let v55 : BitVec 32 := Scalar.addi v49 v54
  let c5_i32_51 : BitVec 32 := 5#32
  let v59 : BitVec 1 := Scalar.cmpi .eq v28 c5_i32_51
  let c4_i32_52 : BitVec 32 := 4#32
  let c0_i32_53 : BitVec 32 := 0#32
  let v60 : BitVec 32 := Scalar.select v59 c4_i32_52 c0_i32_53
  let v61 : BitVec 32 := Scalar.addi v55 v60
  let c6_i32_57 : BitVec 32 := 6#32
  let v65 : BitVec 1 := Scalar.cmpi .eq v28 c6_i32_57
  let c3_i32_58 : BitVec 32 := 3#32
  let c0_i32_59 : BitVec 32 := 0#32
  let v66 : BitVec 32 := Scalar.select v65 c3_i32_58 c0_i32_59
  let v67 : BitVec 32 := Scalar.addi v61 v66
  let c7_i32_63 : BitVec 32 := 7#32
  let v71 : BitVec 1 := Scalar.cmpi .eq v28 c7_i32_63
  let c0_i32_64 : BitVec 32 := 0#32
  let c0_i32_65 : BitVec 32 := 0#32
  let v72 : BitVec 32 := Scalar.select v71 c0_i32_64 c0_i32_65
  let v73 : BitVec 32 := Scalar.addi v67 v72
  let v78 : BitVec 32 := Scalar.addi v77 v73
  let c1_i32_498 : BitVec 32 := 1#32
  let v511 : BitVec 32 := Scalar.muli v78 c1_i32_498
  let v512 : BitVec 32 := Scalar.addi c0_i32_499 v511
  v512.toNat
def k0_dev15 (d0 : Dev nD) : Nat :=
  let c0_i32_509 : BitVec 32 := 0#32
  let c8_i32_70 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let v79 : BitVec 32 := Scalar.muli c8_i32_70 v3
  let c0_i32_26 : BitVec 32 := 0#32
  let c0_i32_3 : BitVec 32 := 0#32
  let c8_i32_0 : BitVec 32 := 8#32
  let v4 : BitVec 32 := Scalar.remsi v2 c8_i32_0
  let c0_i32 : BitVec 32 := 0#32
  let v5 : BitVec 1 := Scalar.cmpi .eq v4 c0_i32
  let c0_i32_1 : BitVec 32 := 0#32
  let c0_i32_2 : BitVec 32 := 0#32
  let v6 : BitVec 32 := Scalar.select v5 c0_i32_1 c0_i32_2
  let v7 : BitVec 32 := Scalar.addi c0_i32_3 v6
  let c1_i32_4 : BitVec 32 := 1#32
  let v8 : BitVec 1 := Scalar.cmpi .eq v4 c1_i32_4
  let c1_i32_5 : BitVec 32 := 1#32
  let c0_i32_6 : BitVec 32 := 0#32
  let v9 : BitVec 32 := Scalar.select v8 c1_i32_5 c0_i32_6
  let v10 : BitVec 32 := Scalar.addi v7 v9
  let c2_i32 : BitVec 32 := 2#32
  let v11 : BitVec 1 := Scalar.cmpi .eq v4 c2_i32
  let c2_i32_7 : BitVec 32 := 2#32
  let c0_i32_8 : BitVec 32 := 0#32
  let v12 : BitVec 32 := Scalar.select v11 c2_i32_7 c0_i32_8
  let v13 : BitVec 32 := Scalar.addi v10 v12
  let c5_i32 : BitVec 32 := 5#32
  let v14 : BitVec 1 := Scalar.cmpi .eq v4 c5_i32
  let c3_i32 : BitVec 32 := 3#32
  let c0_i32_9 : BitVec 32 := 0#32
  let v15 : BitVec 32 := Scalar.select v14 c3_i32 c0_i32_9
  let v16 : BitVec 32 := Scalar.addi v13 v15
  let c6_i32 : BitVec 32 := 6#32
  let v17 : BitVec 1 := Scalar.cmpi .eq v4 c6_i32
  let c4_i32 : BitVec 32 := 4#32
  let c0_i32_10 : BitVec 32 := 0#32
  let v18 : BitVec 32 := Scalar.select v17 c4_i32 c0_i32_10
  let v19 : BitVec 32 := Scalar.addi v16 v18
  let c7_i32 : BitVec 32 := 7#32
  let v20 : BitVec 1 := Scalar.cmpi .eq v4 c7_i32
  let c5_i32_11 : BitVec 32 := 5#32
  let c0_i32_12 : BitVec 32 := 0#32
  let v21 : BitVec 32 := Scalar.select v20 c5_i32_11 c0_i32_12
  let v22 : BitVec 32 := Scalar.addi v19 v21
  let c4_i32_13 : BitVec 32 := 4#32
  let v23 : BitVec 1 := Scalar.cmpi .eq v4 c4_i32_13
  let c6_i32_14 : BitVec 32 := 6#32
  let c0_i32_15 : BitVec 32 := 0#32
  let v24 : BitVec 32 := Scalar.select v23 c6_i32_14 c0_i32_15
  let v25 : BitVec 32 := Scalar.addi v22 v24
  let c3_i32_16 : BitVec 32 := 3#32
  let v26 : BitVec 1 := Scalar.cmpi .eq v4 c3_i32_16
  let c7_i32_17 : BitVec 32 := 7#32
  let c0_i32_18 : BitVec 32 := 0#32
  let v27 : BitVec 32 := Scalar.select v26 c7_i32_17 c0_i32_18
  let v28 : BitVec 32 := Scalar.addi v25 v27
  let c0_i32_23 : BitVec 32 := 0#32
  let v32 : BitVec 1 := Scalar.cmpi .eq v28 c0_i32_23
  let c3_i32_24 : BitVec 32 := 3#32
  let c0_i32_25 : BitVec 32 := 0#32
  let v33 : BitVec 32 := Scalar.select v32 c3_i32_24 c0_i32_25
  let v34 : BitVec 32 := Scalar.addi c0_i32_26 v33
  let c1_i32_30 : BitVec 32 := 1#32
  let v38 : BitVec 1 := Scalar.cmpi .eq v28 c1_i32_30
  let c0_i32_31 : BitVec 32 := 0#32
  let c0_i32_32 : BitVec 32 := 0#32
  let v39 : BitVec 32 := Scalar.select v38 c0_i32_31 c0_i32_32
  let v40 : BitVec 32 := Scalar.addi v34 v39
  let c2_i32_36 : BitVec 32 := 2#32
  let v44 : BitVec 1 := Scalar.cmpi .eq v28 c2_i32_36
  let c1_i32_37 : BitVec 32 := 1#32
  let c0_i32_38 : BitVec 32 := 0#32
  let v45 : BitVec 32 := Scalar.select v44 c1_i32_37 c0_i32_38
  let v46 : BitVec 32 := Scalar.addi v40 v45
  let c3_i32_42 : BitVec 32 := 3#32
  let v50 : BitVec 1 := Scalar.cmpi .eq v28 c3_i32_42
  let c2_i32_43 : BitVec 32 := 2#32
  let c0_i32_44 : BitVec 32 := 0#32
  let v51 : BitVec 32 := Scalar.select v50 c2_i32_43 c0_i32_44
  let v52 : BitVec 32 := Scalar.addi v46 v51
  let c4_i32_48 : BitVec 32 := 4#32
  let v56 : BitVec 1 := Scalar.cmpi .eq v28 c4_i32_48
  let c5_i32_49 : BitVec 32 := 5#32
  let c0_i32_50 : BitVec 32 := 0#32
  let v57 : BitVec 32 := Scalar.select v56 c5_i32_49 c0_i32_50
  let v58 : BitVec 32 := Scalar.addi v52 v57
  let c5_i32_54 : BitVec 32 := 5#32
  let v62 : BitVec 1 := Scalar.cmpi .eq v28 c5_i32_54
  let c6_i32_55 : BitVec 32 := 6#32
  let c0_i32_56 : BitVec 32 := 0#32
  let v63 : BitVec 32 := Scalar.select v62 c6_i32_55 c0_i32_56
  let v64 : BitVec 32 := Scalar.addi v58 v63
  let c6_i32_60 : BitVec 32 := 6#32
  let v68 : BitVec 1 := Scalar.cmpi .eq v28 c6_i32_60
  let c7_i32_61 : BitVec 32 := 7#32
  let c0_i32_62 : BitVec 32 := 0#32
  let v69 : BitVec 32 := Scalar.select v68 c7_i32_61 c0_i32_62
  let v70 : BitVec 32 := Scalar.addi v64 v69
  let c7_i32_66 : BitVec 32 := 7#32
  let v74 : BitVec 1 := Scalar.cmpi .eq v28 c7_i32_66
  let c4_i32_67 : BitVec 32 := 4#32
  let c0_i32_68 : BitVec 32 := 0#32
  let v75 : BitVec 32 := Scalar.select v74 c4_i32_67 c0_i32_68
  let v76 : BitVec 32 := Scalar.addi v70 v75
  let v80 : BitVec 32 := Scalar.addi v79 v76
  let c1_i32_508 : BitVec 32 := 1#32
  let v521 : BitVec 32 := Scalar.muli v80 c1_i32_508
  let v522 : BitVec 32 := Scalar.addi c0_i32_509 v521
  v522.toNat
def k0_dev16 (d0 : Dev nD) : Nat :=
  let c0_i32_593 : BitVec 32 := 0#32
  let c8_i32_69 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let v77 : BitVec 32 := Scalar.muli c8_i32_69 v3
  let c0_i32_22 : BitVec 32 := 0#32
  let c0_i32_3 : BitVec 32 := 0#32
  let c8_i32_0 : BitVec 32 := 8#32
  let v4 : BitVec 32 := Scalar.remsi v2 c8_i32_0
  let c0_i32 : BitVec 32 := 0#32
  let v5 : BitVec 1 := Scalar.cmpi .eq v4 c0_i32
  let c0_i32_1 : BitVec 32 := 0#32
  let c0_i32_2 : BitVec 32 := 0#32
  let v6 : BitVec 32 := Scalar.select v5 c0_i32_1 c0_i32_2
  let v7 : BitVec 32 := Scalar.addi c0_i32_3 v6
  let c1_i32_4 : BitVec 32 := 1#32
  let v8 : BitVec 1 := Scalar.cmpi .eq v4 c1_i32_4
  let c1_i32_5 : BitVec 32 := 1#32
  let c0_i32_6 : BitVec 32 := 0#32
  let v9 : BitVec 32 := Scalar.select v8 c1_i32_5 c0_i32_6
  let v10 : BitVec 32 := Scalar.addi v7 v9
  let c2_i32 : BitVec 32 := 2#32
  let v11 : BitVec 1 := Scalar.cmpi .eq v4 c2_i32
  let c2_i32_7 : BitVec 32 := 2#32
  let c0_i32_8 : BitVec 32 := 0#32
  let v12 : BitVec 32 := Scalar.select v11 c2_i32_7 c0_i32_8
  let v13 : BitVec 32 := Scalar.addi v10 v12
  let c5_i32 : BitVec 32 := 5#32
  let v14 : BitVec 1 := Scalar.cmpi .eq v4 c5_i32
  let c3_i32 : BitVec 32 := 3#32
  let c0_i32_9 : BitVec 32 := 0#32
  let v15 : BitVec 32 := Scalar.select v14 c3_i32 c0_i32_9
  let v16 : BitVec 32 := Scalar.addi v13 v15
  let c6_i32 : BitVec 32 := 6#32
  let v17 : BitVec 1 := Scalar.cmpi .eq v4 c6_i32
  let c4_i32 : BitVec 32 := 4#32
  let c0_i32_10 : BitVec 32 := 0#32
  let v18 : BitVec 32 := Scalar.select v17 c4_i32 c0_i32_10
  let v19 : BitVec 32 := Scalar.addi v16 v18
  let c7_i32 : BitVec 32 := 7#32
  let v20 : BitVec 1 := Scalar.cmpi .eq v4 c7_i32
  let c5_i32_11 : BitVec 32 := 5#32
  let c0_i32_12 : BitVec 32 := 0#32
  let v21 : BitVec 32 := Scalar.select v20 c5_i32_11 c0_i32_12
  let v22 : BitVec 32 := Scalar.addi v19 v21
  let c4_i32_13 : BitVec 32 := 4#32
  let v23 : BitVec 1 := Scalar.cmpi .eq v4 c4_i32_13
  let c6_i32_14 : BitVec 32 := 6#32
  let c0_i32_15 : BitVec 32 := 0#32
  let v24 : BitVec 32 := Scalar.select v23 c6_i32_14 c0_i32_15
  let v25 : BitVec 32 := Scalar.addi v22 v24
  let c3_i32_16 : BitVec 32 := 3#32
  let v26 : BitVec 1 := Scalar.cmpi .eq v4 c3_i32_16
  let c7_i32_17 : BitVec 32 := 7#32
  let c0_i32_18 : BitVec 32 := 0#32
  let v27 : BitVec 32 := Scalar.select v26 c7_i32_17 c0_i32_18
  let v28 : BitVec 32 := Scalar.addi v25 v27
  let c0_i32_19 : BitVec 32 := 0#32
  let v29 : BitVec 1 := Scalar.cmpi .eq v28 c0_i32_19
  let c1_i32_20 : BitVec 32 := 1#32
  let c0_i32_21 : BitVec 32 := 0#32
  let v30 : BitVec 32 := Scalar.select v29 c1_i32_20 c0_i32_21
  let v31 : BitVec 32 := Scalar.addi c0_i32_22 v30
  let c1_i32_27 : BitVec 32 := 1#32
  let v35 : BitVec 1 := Scalar.cmpi .eq v28 c1_i32_27
  let c2_i32_28 : BitVec 32 := 2#32
  let c0_i32_29 : BitVec 32 := 0#32
  let v36 : BitVec 32 := Scalar.select v35 c2_i32_28 c0_i32_29
  let v37 : BitVec 32 := Scalar.addi v31 v36
  let c2_i32_33 : BitVec 32 := 2#32
  let v41 : BitVec 1 := Scalar.cmpi .eq v28 c2_i32_33
  let c5_i32_34 : BitVec 32 := 5#32
  let c0_i32_35 : BitVec 32 := 0#32
  let v42 : BitVec 32 := Scalar.select v41 c5_i32_34 c0_i32_35
  let v43 : BitVec 32 := Scalar.addi v37 v42
  let c3_i32_39 : BitVec 32 := 3#32
  let v47 : BitVec 1 := Scalar.cmpi .eq v28 c3_i32_39
  let c6_i32_40 : BitVec 32 := 6#32
  let c0_i32_41 : BitVec 32 := 0#32
  let v48 : BitVec 32 := Scalar.select v47 c6_i32_40 c0_i32_41
  let v49 : BitVec 32 := Scalar.addi v43 v48
  let c4_i32_45 : BitVec 32 := 4#32
  let v53 : BitVec 1 := Scalar.cmpi .eq v28 c4_i32_45
  let c7_i32_46 : BitVec 32 := 7#32
  let c0_i32_47 : BitVec 32 := 0#32
  let v54 : BitVec 32 := Scalar.select v53 c7_i32_46 c0_i32_47
  let v55 : BitVec 32 := Scalar.addi v49 v54
  let c5_i32_51 : BitVec 32 := 5#32
  let v59 : BitVec 1 := Scalar.cmpi .eq v28 c5_i32_51
  let c4_i32_52 : BitVec 32 := 4#32
  let c0_i32_53 : BitVec 32 := 0#32
  let v60 : BitVec 32 := Scalar.select v59 c4_i32_52 c0_i32_53
  let v61 : BitVec 32 := Scalar.addi v55 v60
  let c6_i32_57 : BitVec 32 := 6#32
  let v65 : BitVec 1 := Scalar.cmpi .eq v28 c6_i32_57
  let c3_i32_58 : BitVec 32 := 3#32
  let c0_i32_59 : BitVec 32 := 0#32
  let v66 : BitVec 32 := Scalar.select v65 c3_i32_58 c0_i32_59
  let v67 : BitVec 32 := Scalar.addi v61 v66
  let c7_i32_63 : BitVec 32 := 7#32
  let v71 : BitVec 1 := Scalar.cmpi .eq v28 c7_i32_63
  let c0_i32_64 : BitVec 32 := 0#32
  let c0_i32_65 : BitVec 32 := 0#32
  let v72 : BitVec 32 := Scalar.select v71 c0_i32_64 c0_i32_65
  let v73 : BitVec 32 := Scalar.addi v67 v72
  let v78 : BitVec 32 := Scalar.addi v77 v73
  let c1_i32_592 : BitVec 32 := 1#32
  let v605 : BitVec 32 := Scalar.muli v78 c1_i32_592
  let v606 : BitVec 32 := Scalar.addi c0_i32_593 v605
  v606.toNat
def k0_dev17 (d0 : Dev nD) : Nat :=
  let c0_i32_603 : BitVec 32 := 0#32
  let c8_i32_70 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let v79 : BitVec 32 := Scalar.muli c8_i32_70 v3
  let c0_i32_26 : BitVec 32 := 0#32
  let c0_i32_3 : BitVec 32 := 0#32
  let c8_i32_0 : BitVec 32 := 8#32
  let v4 : BitVec 32 := Scalar.remsi v2 c8_i32_0
  let c0_i32 : BitVec 32 := 0#32
  let v5 : BitVec 1 := Scalar.cmpi .eq v4 c0_i32
  let c0_i32_1 : BitVec 32 := 0#32
  let c0_i32_2 : BitVec 32 := 0#32
  let v6 : BitVec 32 := Scalar.select v5 c0_i32_1 c0_i32_2
  let v7 : BitVec 32 := Scalar.addi c0_i32_3 v6
  let c1_i32_4 : BitVec 32 := 1#32
  let v8 : BitVec 1 := Scalar.cmpi .eq v4 c1_i32_4
  let c1_i32_5 : BitVec 32 := 1#32
  let c0_i32_6 : BitVec 32 := 0#32
  let v9 : BitVec 32 := Scalar.select v8 c1_i32_5 c0_i32_6
  let v10 : BitVec 32 := Scalar.addi v7 v9
  let c2_i32 : BitVec 32 := 2#32
  let v11 : BitVec 1 := Scalar.cmpi .eq v4 c2_i32
  let c2_i32_7 : BitVec 32 := 2#32
  let c0_i32_8 : BitVec 32 := 0#32
  let v12 : BitVec 32 := Scalar.select v11 c2_i32_7 c0_i32_8
  let v13 : BitVec 32 := Scalar.addi v10 v12
  let c5_i32 : BitVec 32 := 5#32
  let v14 : BitVec 1 := Scalar.cmpi .eq v4 c5_i32
  let c3_i32 : BitVec 32 := 3#32
  let c0_i32_9 : BitVec 32 := 0#32
  let v15 : BitVec 32 := Scalar.select v14 c3_i32 c0_i32_9
  let v16 : BitVec 32 := Scalar.addi v13 v15
  let c6_i32 : BitVec 32 := 6#32
  let v17 : BitVec 1 := Scalar.cmpi .eq v4 c6_i32
  let c4_i32 : BitVec 32 := 4#32
  let c0_i32_10 : BitVec 32 := 0#32
  let v18 : BitVec 32 := Scalar.select v17 c4_i32 c0_i32_10
  let v19 : BitVec 32 := Scalar.addi v16 v18
  let c7_i32 : BitVec 32 := 7#32
  let v20 : BitVec 1 := Scalar.cmpi .eq v4 c7_i32
  let c5_i32_11 : BitVec 32 := 5#32
  let c0_i32_12 : BitVec 32 := 0#32
  let v21 : BitVec 32 := Scalar.select v20 c5_i32_11 c0_i32_12
  let v22 : BitVec 32 := Scalar.addi v19 v21
  let c4_i32_13 : BitVec 32 := 4#32
  let v23 : BitVec 1 := Scalar.cmpi .eq v4 c4_i32_13
  let c6_i32_14 : BitVec 32 := 6#32
  let c0_i32_15 : BitVec 32 := 0#32
  let v24 : BitVec 32 := Scalar.select v23 c6_i32_14 c0_i32_15
  let v25 : BitVec 32 := Scalar.addi v22 v24
  let c3_i32_16 : BitVec 32 := 3#32
  let v26 : BitVec 1 := Scalar.cmpi .eq v4 c3_i32_16
  let c7_i32_17 : BitVec 32 := 7#32
  let c0_i32_18 : BitVec 32 := 0#32
  let v27 : BitVec 32 := Scalar.select v26 c7_i32_17 c0_i32_18
  let v28 : BitVec 32 := Scalar.addi v25 v27
  let c0_i32_23 : BitVec 32 := 0#32
  let v32 : BitVec 1 := Scalar.cmpi .eq v28 c0_i32_23
  let c3_i32_24 : BitVec 32 := 3#32
  let c0_i32_25 : BitVec 32 := 0#32
  let v33 : BitVec 32 := Scalar.select v32 c3_i32_24 c0_i32_25
  let v34 : BitVec 32 := Scalar.addi c0_i32_26 v33
  let c1_i32_30 : BitVec 32 := 1#32
  let v38 : BitVec 1 := Scalar.cmpi .eq v28 c1_i32_30
  let c0_i32_31 : BitVec 32 := 0#32
  let c0_i32_32 : BitVec 32 := 0#32
  let v39 : BitVec 32 := Scalar.select v38 c0_i32_31 c0_i32_32
  let v40 : BitVec 32 := Scalar.addi v34 v39
  let c2_i32_36 : BitVec 32 := 2#32
  let v44 : BitVec 1 := Scalar.cmpi .eq v28 c2_i32_36
  let c1_i32_37 : BitVec 32 := 1#32
  let c0_i32_38 : BitVec 32 := 0#32
  let v45 : BitVec 32 := Scalar.select v44 c1_i32_37 c0_i32_38
  let v46 : BitVec 32 := Scalar.addi v40 v45
  let c3_i32_42 : BitVec 32 := 3#32
  let v50 : BitVec 1 := Scalar.cmpi .eq v28 c3_i32_42
  let c2_i32_43 : BitVec 32 := 2#32
  let c0_i32_44 : BitVec 32 := 0#32
  let v51 : BitVec 32 := Scalar.select v50 c2_i32_43 c0_i32_44
  let v52 : BitVec 32 := Scalar.addi v46 v51
  let c4_i32_48 : BitVec 32 := 4#32
  let v56 : BitVec 1 := Scalar.cmpi .eq v28 c4_i32_48
  let c5_i32_49 : BitVec 32 := 5#32
  let c0_i32_50 : BitVec 32 := 0#32
  let v57 : BitVec 32 := Scalar.select v56 c5_i32_49 c0_i32_50
  let v58 : BitVec 32 := Scalar.addi v52 v57
  let c5_i32_54 : BitVec 32 := 5#32
  let v62 : BitVec 1 := Scalar.cmpi .eq v28 c5_i32_54
  let c6_i32_55 : BitVec 32 := 6#32
  let c0_i32_56 : BitVec 32 := 0#32
  let v63 : BitVec 32 := Scalar.select v62 c6_i32_55 c0_i32_56
  let v64 : BitVec 32 := Scalar.addi v58 v63
  let c6_i32_60 : BitVec 32 := 6#32
  let v68 : BitVec 1 := Scalar.cmpi .eq v28 c6_i32_60
  let c7_i32_61 : BitVec 32 := 7#32
  let c0_i32_62 : BitVec 32 := 0#32
  let v69 : BitVec 32 := Scalar.select v68 c7_i32_61 c0_i32_62
  let v70 : BitVec 32 := Scalar.addi v64 v69
  let c7_i32_66 : BitVec 32 := 7#32
  let v74 : BitVec 1 := Scalar.cmpi .eq v28 c7_i32_66
  let c4_i32_67 : BitVec 32 := 4#32
  let c0_i32_68 : BitVec 32 := 0#32
  let v75 : BitVec 32 := Scalar.select v74 c4_i32_67 c0_i32_68
  let v76 : BitVec 32 := Scalar.addi v70 v75
  let v80 : BitVec 32 := Scalar.addi v79 v76
  let c1_i32_602 : BitVec 32 := 1#32
  let v615 : BitVec 32 := Scalar.muli v80 c1_i32_602
  let v616 : BitVec 32 := Scalar.addi c0_i32_603 v615
  v616.toNat
def k0_dev18 (d0 : Dev nD) : Nat :=
  let c0_i32_687 : BitVec 32 := 0#32
  let c8_i32_69 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let v77 : BitVec 32 := Scalar.muli c8_i32_69 v3
  let c0_i32_22 : BitVec 32 := 0#32
  let c0_i32_3 : BitVec 32 := 0#32
  let c8_i32_0 : BitVec 32 := 8#32
  let v4 : BitVec 32 := Scalar.remsi v2 c8_i32_0
  let c0_i32 : BitVec 32 := 0#32
  let v5 : BitVec 1 := Scalar.cmpi .eq v4 c0_i32
  let c0_i32_1 : BitVec 32 := 0#32
  let c0_i32_2 : BitVec 32 := 0#32
  let v6 : BitVec 32 := Scalar.select v5 c0_i32_1 c0_i32_2
  let v7 : BitVec 32 := Scalar.addi c0_i32_3 v6
  let c1_i32_4 : BitVec 32 := 1#32
  let v8 : BitVec 1 := Scalar.cmpi .eq v4 c1_i32_4
  let c1_i32_5 : BitVec 32 := 1#32
  let c0_i32_6 : BitVec 32 := 0#32
  let v9 : BitVec 32 := Scalar.select v8 c1_i32_5 c0_i32_6
  let v10 : BitVec 32 := Scalar.addi v7 v9
  let c2_i32 : BitVec 32 := 2#32
  let v11 : BitVec 1 := Scalar.cmpi .eq v4 c2_i32
  let c2_i32_7 : BitVec 32 := 2#32
  let c0_i32_8 : BitVec 32 := 0#32
  let v12 : BitVec 32 := Scalar.select v11 c2_i32_7 c0_i32_8
  let v13 : BitVec 32 := Scalar.addi v10 v12
  let c5_i32 : BitVec 32 := 5#32
  let v14 : BitVec 1 := Scalar.cmpi .eq v4 c5_i32
  let c3_i32 : BitVec 32 := 3#32
  let c0_i32_9 : BitVec 32 := 0#32
  let v15 : BitVec 32 := Scalar.select v14 c3_i32 c0_i32_9
  let v16 : BitVec 32 := Scalar.addi v13 v15
  let c6_i32 : BitVec 32 := 6#32
  let v17 : BitVec 1 := Scalar.cmpi .eq v4 c6_i32
  let c4_i32 : BitVec 32 := 4#32
  let c0_i32_10 : BitVec 32 := 0#32
  let v18 : BitVec 32 := Scalar.select v17 c4_i32 c0_i32_10
  let v19 : BitVec 32 := Scalar.addi v16 v18
  let c7_i32 : BitVec 32 := 7#32
  let v20 : BitVec 1 := Scalar.cmpi .eq v4 c7_i32
  let c5_i32_11 : BitVec 32 := 5#32
  let c0_i32_12 : BitVec 32 := 0#32
  let v21 : BitVec 32 := Scalar.select v20 c5_i32_11 c0_i32_12
  let v22 : BitVec 32 := Scalar.addi v19 v21
  let c4_i32_13 : BitVec 32 := 4#32
  let v23 : BitVec 1 := Scalar.cmpi .eq v4 c4_i32_13
  let c6_i32_14 : BitVec 32 := 6#32
  let c0_i32_15 : BitVec 32 := 0#32
  let v24 : BitVec 32 := Scalar.select v23 c6_i32_14 c0_i32_15
  let v25 : BitVec 32 := Scalar.addi v22 v24
  let c3_i32_16 : BitVec 32 := 3#32
  let v26 : BitVec 1 := Scalar.cmpi .eq v4 c3_i32_16
  let c7_i32_17 : BitVec 32 := 7#32
  let c0_i32_18 : BitVec 32 := 0#32
  let v27 : BitVec 32 := Scalar.select v26 c7_i32_17 c0_i32_18
  let v28 : BitVec 32 := Scalar.addi v25 v27
  let c0_i32_19 : BitVec 32 := 0#32
  let v29 : BitVec 1 := Scalar.cmpi .eq v28 c0_i32_19
  let c1_i32_20 : BitVec 32 := 1#32
  let c0_i32_21 : BitVec 32 := 0#32
  let v30 : BitVec 32 := Scalar.select v29 c1_i32_20 c0_i32_21
  let v31 : BitVec 32 := Scalar.addi c0_i32_22 v30
  let c1_i32_27 : BitVec 32 := 1#32
  let v35 : BitVec 1 := Scalar.cmpi .eq v28 c1_i32_27
  let c2_i32_28 : BitVec 32 := 2#32
  let c0_i32_29 : BitVec 32 := 0#32
  let v36 : BitVec 32 := Scalar.select v35 c2_i32_28 c0_i32_29
  let v37 : BitVec 32 := Scalar.addi v31 v36
  let c2_i32_33 : BitVec 32 := 2#32
  let v41 : BitVec 1 := Scalar.cmpi .eq v28 c2_i32_33
  let c5_i32_34 : BitVec 32 := 5#32
  let c0_i32_35 : BitVec 32 := 0#32
  let v42 : BitVec 32 := Scalar.select v41 c5_i32_34 c0_i32_35
  let v43 : BitVec 32 := Scalar.addi v37 v42
  let c3_i32_39 : BitVec 32 := 3#32
  let v47 : BitVec 1 := Scalar.cmpi .eq v28 c3_i32_39
  let c6_i32_40 : BitVec 32 := 6#32
  let c0_i32_41 : BitVec 32 := 0#32
  let v48 : BitVec 32 := Scalar.select v47 c6_i32_40 c0_i32_41
  let v49 : BitVec 32 := Scalar.addi v43 v48
  let c4_i32_45 : BitVec 32 := 4#32
  let v53 : BitVec 1 := Scalar.cmpi .eq v28 c4_i32_45
  let c7_i32_46 : BitVec 32 := 7#32
  let c0_i32_47 : BitVec 32 := 0#32
  let v54 : BitVec 32 := Scalar.select v53 c7_i32_46 c0_i32_47
  let v55 : BitVec 32 := Scalar.addi v49 v54
  let c5_i32_51 : BitVec 32 := 5#32
  let v59 : BitVec 1 := Scalar.cmpi .eq v28 c5_i32_51
  let c4_i32_52 : BitVec 32 := 4#32
  let c0_i32_53 : BitVec 32 := 0#32
  let v60 : BitVec 32 := Scalar.select v59 c4_i32_52 c0_i32_53
  let v61 : BitVec 32 := Scalar.addi v55 v60
  let c6_i32_57 : BitVec 32 := 6#32
  let v65 : BitVec 1 := Scalar.cmpi .eq v28 c6_i32_57
  let c3_i32_58 : BitVec 32 := 3#32
  let c0_i32_59 : BitVec 32 := 0#32
  let v66 : BitVec 32 := Scalar.select v65 c3_i32_58 c0_i32_59
  let v67 : BitVec 32 := Scalar.addi v61 v66
  let c7_i32_63 : BitVec 32 := 7#32
  let v71 : BitVec 1 := Scalar.cmpi .eq v28 c7_i32_63
  let c0_i32_64 : BitVec 32 := 0#32
  let c0_i32_65 : BitVec 32 := 0#32
  let v72 : BitVec 32 := Scalar.select v71 c0_i32_64 c0_i32_65
  let v73 : BitVec 32 := Scalar.addi v67 v72
  let v78 : BitVec 32 := Scalar.addi v77 v73
  let c1_i32_686 : BitVec 32 := 1#32
  let v699 : BitVec 32 := Scalar.muli v78 c1_i32_686
  let v700 : BitVec 32 := Scalar.addi c0_i32_687 v699
  v700.toNat
def k0_dev19 (d0 : Dev nD) : Nat :=
  let c0_i32_697 : BitVec 32 := 0#32
  let c8_i32_70 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let v79 : BitVec 32 := Scalar.muli c8_i32_70 v3
  let c0_i32_26 : BitVec 32 := 0#32
  let c0_i32_3 : BitVec 32 := 0#32
  let c8_i32_0 : BitVec 32 := 8#32
  let v4 : BitVec 32 := Scalar.remsi v2 c8_i32_0
  let c0_i32 : BitVec 32 := 0#32
  let v5 : BitVec 1 := Scalar.cmpi .eq v4 c0_i32
  let c0_i32_1 : BitVec 32 := 0#32
  let c0_i32_2 : BitVec 32 := 0#32
  let v6 : BitVec 32 := Scalar.select v5 c0_i32_1 c0_i32_2
  let v7 : BitVec 32 := Scalar.addi c0_i32_3 v6
  let c1_i32_4 : BitVec 32 := 1#32
  let v8 : BitVec 1 := Scalar.cmpi .eq v4 c1_i32_4
  let c1_i32_5 : BitVec 32 := 1#32
  let c0_i32_6 : BitVec 32 := 0#32
  let v9 : BitVec 32 := Scalar.select v8 c1_i32_5 c0_i32_6
  let v10 : BitVec 32 := Scalar.addi v7 v9
  let c2_i32 : BitVec 32 := 2#32
  let v11 : BitVec 1 := Scalar.cmpi .eq v4 c2_i32
  let c2_i32_7 : BitVec 32 := 2#32
  let c0_i32_8 : BitVec 32 := 0#32
  let v12 : BitVec 32 := Scalar.select v11 c2_i32_7 c0_i32_8
  let v13 : BitVec 32 := Scalar.addi v10 v12
  let c5_i32 : BitVec 32 := 5#32
  let v14 : BitVec 1 := Scalar.cmpi .eq v4 c5_i32
  let c3_i32 : BitVec 32 := 3#32
  let c0_i32_9 : BitVec 32 := 0#32
  let v15 : BitVec 32 := Scalar.select v14 c3_i32 c0_i32_9
  let v16 : BitVec 32 := Scalar.addi v13 v15
  let c6_i32 : BitVec 32 := 6#32
  let v17 : BitVec 1 := Scalar.cmpi .eq v4 c6_i32
  let c4_i32 : BitVec 32 := 4#32
  let c0_i32_10 : BitVec 32 := 0#32
  let v18 : BitVec 32 := Scalar.select v17 c4_i32 c0_i32_10
  let v19 : BitVec 32 := Scalar.addi v16 v18
  let c7_i32 : BitVec 32 := 7#32
  let v20 : BitVec 1 := Scalar.cmpi .eq v4 c7_i32
  let c5_i32_11 : BitVec 32 := 5#32
  let c0_i32_12 : BitVec 32 := 0#32
  let v21 : BitVec 32 := Scalar.select v20 c5_i32_11 c0_i32_12
  let v22 : BitVec 32 := Scalar.addi v19 v21
  let c4_i32_13 : BitVec 32 := 4#32
  let v23 : BitVec 1 := Scalar.cmpi .eq v4 c4_i32_13
  let c6_i32_14 : BitVec 32 := 6#32
  let c0_i32_15 : BitVec 32 := 0#32
  let v24 : BitVec 32 := Scalar.select v23 c6_i32_14 c0_i32_15
  let v25 : BitVec 32 := Scalar.addi v22 v24
  let c3_i32_16 : BitVec 32 := 3#32
  let v26 : BitVec 1 := Scalar.cmpi .eq v4 c3_i32_16
  let c7_i32_17 : BitVec 32 := 7#32
  let c0_i32_18 : BitVec 32 := 0#32
  let v27 : BitVec 32 := Scalar.select v26 c7_i32_17 c0_i32_18
  let v28 : BitVec 32 := Scalar.addi v25 v27
  let c0_i32_23 : BitVec 32 := 0#32
  let v32 : BitVec 1 := Scalar.cmpi .eq v28 c0_i32_23
  let c3_i32_24 : BitVec 32 := 3#32
  let c0_i32_25 : BitVec 32 := 0#32
  let v33 : BitVec 32 := Scalar.select v32 c3_i32_24 c0_i32_25
  let v34 : BitVec 32 := Scalar.addi c0_i32_26 v33
  let c1_i32_30 : BitVec 32 := 1#32
  let v38 : BitVec 1 := Scalar.cmpi .eq v28 c1_i32_30
  let c0_i32_31 : BitVec 32 := 0#32
  let c0_i32_32 : BitVec 32 := 0#32
  let v39 : BitVec 32 := Scalar.select v38 c0_i32_31 c0_i32_32
  let v40 : BitVec 32 := Scalar.addi v34 v39
  let c2_i32_36 : BitVec 32 := 2#32
  let v44 : BitVec 1 := Scalar.cmpi .eq v28 c2_i32_36
  let c1_i32_37 : BitVec 32 := 1#32
  let c0_i32_38 : BitVec 32 := 0#32
  let v45 : BitVec 32 := Scalar.select v44 c1_i32_37 c0_i32_38
  let v46 : BitVec 32 := Scalar.addi v40 v45
  let c3_i32_42 : BitVec 32 := 3#32
  let v50 : BitVec 1 := Scalar.cmpi .eq v28 c3_i32_42
  let c2_i32_43 : BitVec 32 := 2#32
  let c0_i32_44 : BitVec 32 := 0#32
  let v51 : BitVec 32 := Scalar.select v50 c2_i32_43 c0_i32_44
  let v52 : BitVec 32 := Scalar.addi v46 v51
  let c4_i32_48 : BitVec 32 := 4#32
  let v56 : BitVec 1 := Scalar.cmpi .eq v28 c4_i32_48
  let c5_i32_49 : BitVec 32 := 5#32
  let c0_i32_50 : BitVec 32 := 0#32
  let v57 : BitVec 32 := Scalar.select v56 c5_i32_49 c0_i32_50
  let v58 : BitVec 32 := Scalar.addi v52 v57
  let c5_i32_54 : BitVec 32 := 5#32
  let v62 : BitVec 1 := Scalar.cmpi .eq v28 c5_i32_54
  let c6_i32_55 : BitVec 32 := 6#32
  let c0_i32_56 : BitVec 32 := 0#32
  let v63 : BitVec 32 := Scalar.select v62 c6_i32_55 c0_i32_56
  let v64 : BitVec 32 := Scalar.addi v58 v63
  let c6_i32_60 : BitVec 32 := 6#32
  let v68 : BitVec 1 := Scalar.cmpi .eq v28 c6_i32_60
  let c7_i32_61 : BitVec 32 := 7#32
  let c0_i32_62 : BitVec 32 := 0#32
  let v69 : BitVec 32 := Scalar.select v68 c7_i32_61 c0_i32_62
  let v70 : BitVec 32 := Scalar.addi v64 v69
  let c7_i32_66 : BitVec 32 := 7#32
  let v74 : BitVec 1 := Scalar.cmpi .eq v28 c7_i32_66
  let c4_i32_67 : BitVec 32 := 4#32
  let c0_i32_68 : BitVec 32 := 0#32
  let v75 : BitVec 32 := Scalar.select v74 c4_i32_67 c0_i32_68
  let v76 : BitVec 32 := Scalar.addi v70 v75
  let v80 : BitVec 32 := Scalar.addi v79 v76
  let c1_i32_696 : BitVec 32 := 1#32
  let v709 : BitVec 32 := Scalar.muli v80 c1_i32_696
  let v710 : BitVec 32 := Scalar.addi c0_i32_697 v709
  v710.toNat
def k0_off5 (d0 : Dev nD) (c1_i32_760 : BitVec 32) : Fin 2 → Nat :=
  let c0_i32_3 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c0_i32 : BitVec 32 := 0#32
  let v5 : BitVec 1 := Scalar.cmpi .eq v4 c0_i32
  let c0_i32_1 : BitVec 32 := 0#32
  let c0_i32_2 : BitVec 32 := 0#32
  let v6 : BitVec 32 := Scalar.select v5 c0_i32_1 c0_i32_2
  let v7 : BitVec 32 := Scalar.addi c0_i32_3 v6
  let c1_i32_4 : BitVec 32 := 1#32
  let v8 : BitVec 1 := Scalar.cmpi .eq v4 c1_i32_4
  let c1_i32_5 : BitVec 32 := 1#32
  let c0_i32_6 : BitVec 32 := 0#32
  let v9 : BitVec 32 := Scalar.select v8 c1_i32_5 c0_i32_6
  let v10 : BitVec 32 := Scalar.addi v7 v9
  let c2_i32 : BitVec 32 := 2#32
  let v11 : BitVec 1 := Scalar.cmpi .eq v4 c2_i32
  let c2_i32_7 : BitVec 32 := 2#32
  let c0_i32_8 : BitVec 32 := 0#32
  let v12 : BitVec 32 := Scalar.select v11 c2_i32_7 c0_i32_8
  let v13 : BitVec 32 := Scalar.addi v10 v12
  let c5_i32 : BitVec 32 := 5#32
  let v14 : BitVec 1 := Scalar.cmpi .eq v4 c5_i32
  let c3_i32 : BitVec 32 := 3#32
  let c0_i32_9 : BitVec 32 := 0#32
  let v15 : BitVec 32 := Scalar.select v14 c3_i32 c0_i32_9
  let v16 : BitVec 32 := Scalar.addi v13 v15
  let c6_i32 : BitVec 32 := 6#32
  let v17 : BitVec 1 := Scalar.cmpi .eq v4 c6_i32
  let c4_i32 : BitVec 32 := 4#32
  let c0_i32_10 : BitVec 32 := 0#32
  let v18 : BitVec 32 := Scalar.select v17 c4_i32 c0_i32_10
  let v19 : BitVec 32 := Scalar.addi v16 v18
  let c7_i32 : BitVec 32 := 7#32
  let v20 : BitVec 1 := Scalar.cmpi .eq v4 c7_i32
  let c5_i32_11 : BitVec 32 := 5#32
  let c0_i32_12 : BitVec 32 := 0#32
  let v21 : BitVec 32 := Scalar.select v20 c5_i32_11 c0_i32_12
  let v22 : BitVec 32 := Scalar.addi v19 v21
  let c4_i32_13 : BitVec 32 := 4#32
  let v23 : BitVec 1 := Scalar.cmpi .eq v4 c4_i32_13
  let c6_i32_14 : BitVec 32 := 6#32
  let c0_i32_15 : BitVec 32 := 0#32
  let v24 : BitVec 32 := Scalar.select v23 c6_i32_14 c0_i32_15
  let v25 : BitVec 32 := Scalar.addi v22 v24
  let c3_i32_16 : BitVec 32 := 3#32
  let v26 : BitVec 1 := Scalar.cmpi .eq v4 c3_i32_16
  let c7_i32_17 : BitVec 32 := 7#32
  let c0_i32_18 : BitVec 32 := 0#32
  let v27 : BitVec 32 := Scalar.select v26 c7_i32_17 c0_i32_18
  let v28 : BitVec 32 := Scalar.addi v25 v27
  let c1_i32_752 : BitVec 32 := 1#32
  let v765 : BitVec 32 := Scalar.addi v28 c1_i32_752
  let c64_i32_753 : BitVec 32 := 64#32
  let v766 : BitVec 32 := Scalar.addi v765 c64_i32_753
  let c8_i32_754 : BitVec 32 := 8#32
  let v767 : BitVec 32 := Scalar.remsi v766 c8_i32_754
  let c256_i32_755 : BitVec 32 := 256#32
  let v768 : BitVec 32 := Scalar.muli v767 c256_i32_755
  let c64_i32_763 : BitVec 32 := 64#32
  let c8_i32 : BitVec 32 := 8#32
  let v3 : BitVec 32 := Scalar.divsi v2 c8_i32
  let v773 : BitVec 32 := Scalar.addi v3 c1_i32_760
  let c4_i32_761 : BitVec 32 := 4#32
  let v774 : BitVec 32 := Scalar.remsi v773 c4_i32_761
  let v777 : BitVec 32 := Scalar.muli c64_i32_763 v774
  let v778 : BitVec 32 := Scalar.addi v768 v777
  let v779 : Index := Scalar.indexCast v778
  let c0_764 : Index := 0#32
  ![v779.toNat, 0]
def k0_dev20 (d0 : Dev nD) : Nat :=
  let c0_i32_773 : BitVec 32 := 0#32
  let c8_i32_762 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c1_i32_760 : BitVec 32 := 1#32
  let v773 : BitVec 32 := Scalar.addi v3 c1_i32_760
  let c4_i32_761 : BitVec 32 := 4#32
  let v774 : BitVec 32 := Scalar.remsi v773 c4_i32_761
  let v775 : BitVec 32 := Scalar.muli c8_i32_762 v774
  let c8_i32_0 : BitVec 32 := 8#32
  let v4 : BitVec 32 := Scalar.remsi v2 c8_i32_0
  let v776 : BitVec 32 := Scalar.addi v775 v4
  let c1_i32_772 : BitVec 32 := 1#32
  let v785 : BitVec 32 := Scalar.muli v776 c1_i32_772
  let v786 : BitVec 32 := Scalar.addi c0_i32_773 v785
  v786.toNat
def k0_off6 (d0 : Dev nD) (c1_i32_760 : BitVec 32) : Fin 2 → Nat :=
  let c0_i32_3 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c0_i32 : BitVec 32 := 0#32
  let v5 : BitVec 1 := Scalar.cmpi .eq v4 c0_i32
  let c0_i32_1 : BitVec 32 := 0#32
  let c0_i32_2 : BitVec 32 := 0#32
  let v6 : BitVec 32 := Scalar.select v5 c0_i32_1 c0_i32_2
  let v7 : BitVec 32 := Scalar.addi c0_i32_3 v6
  let c1_i32_4 : BitVec 32 := 1#32
  let v8 : BitVec 1 := Scalar.cmpi .eq v4 c1_i32_4
  let c1_i32_5 : BitVec 32 := 1#32
  let c0_i32_6 : BitVec 32 := 0#32
  let v9 : BitVec 32 := Scalar.select v8 c1_i32_5 c0_i32_6
  let v10 : BitVec 32 := Scalar.addi v7 v9
  let c2_i32 : BitVec 32 := 2#32
  let v11 : BitVec 1 := Scalar.cmpi .eq v4 c2_i32
  let c2_i32_7 : BitVec 32 := 2#32
  let c0_i32_8 : BitVec 32 := 0#32
  let v12 : BitVec 32 := Scalar.select v11 c2_i32_7 c0_i32_8
  let v13 : BitVec 32 := Scalar.addi v10 v12
  let c5_i32 : BitVec 32 := 5#32
  let v14 : BitVec 1 := Scalar.cmpi .eq v4 c5_i32
  let c3_i32 : BitVec 32 := 3#32
  let c0_i32_9 : BitVec 32 := 0#32
  let v15 : BitVec 32 := Scalar.select v14 c3_i32 c0_i32_9
  let v16 : BitVec 32 := Scalar.addi v13 v15
  let c6_i32 : BitVec 32 := 6#32
  let v17 : BitVec 1 := Scalar.cmpi .eq v4 c6_i32
  let c4_i32 : BitVec 32 := 4#32
  let c0_i32_10 : BitVec 32 := 0#32
  let v18 : BitVec 32 := Scalar.select v17 c4_i32 c0_i32_10
  let v19 : BitVec 32 := Scalar.addi v16 v18
  let c7_i32 : BitVec 32 := 7#32
  let v20 : BitVec 1 := Scalar.cmpi .eq v4 c7_i32
  let c5_i32_11 : BitVec 32 := 5#32
  let c0_i32_12 : BitVec 32 := 0#32
  let v21 : BitVec 32 := Scalar.select v20 c5_i32_11 c0_i32_12
  let v22 : BitVec 32 := Scalar.addi v19 v21
  let c4_i32_13 : BitVec 32 := 4#32
  let v23 : BitVec 1 := Scalar.cmpi .eq v4 c4_i32_13
  let c6_i32_14 : BitVec 32 := 6#32
  let c0_i32_15 : BitVec 32 := 0#32
  let v24 : BitVec 32 := Scalar.select v23 c6_i32_14 c0_i32_15
  let v25 : BitVec 32 := Scalar.addi v22 v24
  let c3_i32_16 : BitVec 32 := 3#32
  let v26 : BitVec 1 := Scalar.cmpi .eq v4 c3_i32_16
  let c7_i32_17 : BitVec 32 := 7#32
  let c0_i32_18 : BitVec 32 := 0#32
  let v27 : BitVec 32 := Scalar.select v26 c7_i32_17 c0_i32_18
  let v28 : BitVec 32 := Scalar.addi v25 v27
  let c1_i32_756 : BitVec 32 := 1#32
  let v769 : BitVec 32 := Scalar.subi v28 c1_i32_756
  let c64_i32_757 : BitVec 32 := 64#32
  let v770 : BitVec 32 := Scalar.addi v769 c64_i32_757
  let c8_i32_758 : BitVec 32 := 8#32
  let v771 : BitVec 32 := Scalar.remsi v770 c8_i32_758
  let c256_i32_759 : BitVec 32 := 256#32
  let v772 : BitVec 32 := Scalar.muli v771 c256_i32_759
  let c64_i32_778 : BitVec 32 := 64#32
  let c8_i32 : BitVec 32 := 8#32
  let v3 : BitVec 32 := Scalar.divsi v2 c8_i32
  let v773 : BitVec 32 := Scalar.addi v3 c1_i32_760
  let c4_i32_761 : BitVec 32 := 4#32
  let v774 : BitVec 32 := Scalar.remsi v773 c4_i32_761
  let v795 : BitVec 32 := Scalar.muli c64_i32_778 v774
  let v796 : BitVec 32 := Scalar.addi v772 v795
  let v797 : Index := Scalar.indexCast v796
  let c512_779 : Index := 512#32
  ![v797.toNat, 512]
def k0_dev21 (d0 : Dev nD) : Nat :=
  let c0_i32_788 : BitVec 32 := 0#32
  let c8_i32_762 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c1_i32_760 : BitVec 32 := 1#32
  let v773 : BitVec 32 := Scalar.addi v3 c1_i32_760
  let c4_i32_761 : BitVec 32 := 4#32
  let v774 : BitVec 32 := Scalar.remsi v773 c4_i32_761
  let v775 : BitVec 32 := Scalar.muli c8_i32_762 v774
  let c8_i32_0 : BitVec 32 := 8#32
  let v4 : BitVec 32 := Scalar.remsi v2 c8_i32_0
  let v776 : BitVec 32 := Scalar.addi v775 v4
  let c1_i32_787 : BitVec 32 := 1#32
  let v803 : BitVec 32 := Scalar.muli v776 c1_i32_787
  let v804 : BitVec 32 := Scalar.addi c0_i32_788 v803
  v804.toNat
def k0_dev22 (d0 : Dev nD) : Nat :=
  let c0_i32_806 : BitVec 32 := 0#32
  let c8_i32_795 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c2_i32_793 : BitVec 32 := 2#32
  let v813 : BitVec 32 := Scalar.addi v3 c2_i32_793
  let c4_i32_794 : BitVec 32 := 4#32
  let v814 : BitVec 32 := Scalar.remsi v813 c4_i32_794
  let v815 : BitVec 32 := Scalar.muli c8_i32_795 v814
  let c8_i32_0 : BitVec 32 := 8#32
  let v4 : BitVec 32 := Scalar.remsi v2 c8_i32_0
  let v816 : BitVec 32 := Scalar.addi v815 v4
  let c1_i32_805 : BitVec 32 := 1#32
  let v825 : BitVec 32 := Scalar.muli v816 c1_i32_805
  let v826 : BitVec 32 := Scalar.addi c0_i32_806 v825
  v826.toNat
def k0_dev23 (d0 : Dev nD) : Nat :=
  let c0_i32_821 : BitVec 32 := 0#32
  let c8_i32_795 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c2_i32_793 : BitVec 32 := 2#32
  let v813 : BitVec 32 := Scalar.addi v3 c2_i32_793
  let c4_i32_794 : BitVec 32 := 4#32
  let v814 : BitVec 32 := Scalar.remsi v813 c4_i32_794
  let v815 : BitVec 32 := Scalar.muli c8_i32_795 v814
  let c8_i32_0 : BitVec 32 := 8#32
  let v4 : BitVec 32 := Scalar.remsi v2 c8_i32_0
  let v816 : BitVec 32 := Scalar.addi v815 v4
  let c1_i32_820 : BitVec 32 := 1#32
  let v843 : BitVec 32 := Scalar.muli v816 c1_i32_820
  let v844 : BitVec 32 := Scalar.addi c0_i32_821 v843
  v844.toNat
def k0_dev24 (d0 : Dev nD) : Nat :=
  let c0_i32_838 : BitVec 32 := 0#32
  let c8_i32_828 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c3_i32_826 : BitVec 32 := 3#32
  let v853 : BitVec 32 := Scalar.addi v3 c3_i32_826
  let c4_i32_827 : BitVec 32 := 4#32
  let v854 : BitVec 32 := Scalar.remsi v853 c4_i32_827
  let v855 : BitVec 32 := Scalar.muli c8_i32_828 v854
  let c8_i32_0 : BitVec 32 := 8#32
  let v4 : BitVec 32 := Scalar.remsi v2 c8_i32_0
  let v856 : BitVec 32 := Scalar.addi v855 v4
  let c1_i32_837 : BitVec 32 := 1#32
  let v865 : BitVec 32 := Scalar.muli v856 c1_i32_837
  let v866 : BitVec 32 := Scalar.addi c0_i32_838 v865
  v866.toNat
def k0_dev25 (d0 : Dev nD) : Nat :=
  let c0_i32_852 : BitVec 32 := 0#32
  let c8_i32_828 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c3_i32_826 : BitVec 32 := 3#32
  let v853 : BitVec 32 := Scalar.addi v3 c3_i32_826
  let c4_i32_827 : BitVec 32 := 4#32
  let v854 : BitVec 32 := Scalar.remsi v853 c4_i32_827
  let v855 : BitVec 32 := Scalar.muli c8_i32_828 v854
  let c8_i32_0 : BitVec 32 := 8#32
  let v4 : BitVec 32 := Scalar.remsi v2 c8_i32_0
  let v856 : BitVec 32 := Scalar.addi v855 v4
  let c1_i32_851 : BitVec 32 := 1#32
  let v883 : BitVec 32 := Scalar.muli v856 c1_i32_851
  let v884 : BitVec 32 := Scalar.addi c0_i32_852 v883
  v884.toNat
def k0_off7 (d0 : Dev nD) : Fin 2 → Nat :=
  let c0_i32_3 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c0_i32 : BitVec 32 := 0#32
  let v5 : BitVec 1 := Scalar.cmpi .eq v4 c0_i32
  let c0_i32_1 : BitVec 32 := 0#32
  let c0_i32_2 : BitVec 32 := 0#32
  let v6 : BitVec 32 := Scalar.select v5 c0_i32_1 c0_i32_2
  let v7 : BitVec 32 := Scalar.addi c0_i32_3 v6
  let c1_i32_4 : BitVec 32 := 1#32
  let v8 : BitVec 1 := Scalar.cmpi .eq v4 c1_i32_4
  let c1_i32_5 : BitVec 32 := 1#32
  let c0_i32_6 : BitVec 32 := 0#32
  let v9 : BitVec 32 := Scalar.select v8 c1_i32_5 c0_i32_6
  let v10 : BitVec 32 := Scalar.addi v7 v9
  let c2_i32 : BitVec 32 := 2#32
  let v11 : BitVec 1 := Scalar.cmpi .eq v4 c2_i32
  let c2_i32_7 : BitVec 32 := 2#32
  let c0_i32_8 : BitVec 32 := 0#32
  let v12 : BitVec 32 := Scalar.select v11 c2_i32_7 c0_i32_8
  let v13 : BitVec 32 := Scalar.addi v10 v12
  let c5_i32 : BitVec 32 := 5#32
  let v14 : BitVec 1 := Scalar.cmpi .eq v4 c5_i32
  let c3_i32 : BitVec 32 := 3#32
  let c0_i32_9 : BitVec 32 := 0#32
  let v15 : BitVec 32 := Scalar.select v14 c3_i32 c0_i32_9
  let v16 : BitVec 32 := Scalar.addi v13 v15
  let c6_i32 : BitVec 32 := 6#32
  let v17 : BitVec 1 := Scalar.cmpi .eq v4 c6_i32
  let c4_i32 : BitVec 32 := 4#32
  let c0_i32_10 : BitVec 32 := 0#32
  let v18 : BitVec 32 := Scalar.select v17 c4_i32 c0_i32_10
  let v19 : BitVec 32 := Scalar.addi v16 v18
  let c7_i32 : BitVec 32 := 7#32
  let v20 : BitVec 1 := Scalar.cmpi .eq v4 c7_i32
  let c5_i32_11 : BitVec 32 := 5#32
  let c0_i32_12 : BitVec 32 := 0#32
  let v21 : BitVec 32 := Scalar.select v20 c5_i32_11 c0_i32_12
  let v22 : BitVec 32 := Scalar.addi v19 v21
  let c4_i32_13 : BitVec 32 := 4#32
  let v23 : BitVec 1 := Scalar.cmpi .eq v4 c4_i32_13
  let c6_i32_14 : BitVec 32 := 6#32
  let c0_i32_15 : BitVec 32 := 0#32
  let v24 : BitVec 32 := Scalar.select v23 c6_i32_14 c0_i32_15
  let v25 : BitVec 32 := Scalar.addi v22 v24
  let c3_i32_16 : BitVec 32 := 3#32
  let v26 : BitVec 1 := Scalar.cmpi .eq v4 c3_i32_16
  let c7_i32_17 : BitVec 32 := 7#32
  let c0_i32_18 : BitVec 32 := 0#32
  let v27 : BitVec 32 := Scalar.select v26 c7_i32_17 c0_i32_18
  let v28 : BitVec 32 := Scalar.addi v25 v27
  let c1_i32_752 : BitVec 32 := 1#32
  let v765 : BitVec 32 := Scalar.addi v28 c1_i32_752
  let c64_i32_753 : BitVec 32 := 64#32
  let v766 : BitVec 32 := Scalar.addi v765 c64_i32_753
  let c8_i32_754 : BitVec 32 := 8#32
  let v767 : BitVec 32 := Scalar.remsi v766 c8_i32_754
  let c256_i32_755 : BitVec 32 := 256#32
  let v768 : BitVec 32 := Scalar.muli v767 c256_i32_755
  let c64_i32_989 : BitVec 32 := 64#32
  let c8_i32 : BitVec 32 := 8#32
  let v3 : BitVec 32 := Scalar.divsi v2 c8_i32
  let v993 : BitVec 32 := Scalar.muli c64_i32_989 v3
  let v994 : BitVec 32 := Scalar.addi v768 v993
  let v995 : Index := Scalar.indexCast v994
  let c0_990 : Index := 0#32
  ![v995.toNat, 0]
def k0_off8 (d0 : Dev nD) : Fin 2 → Nat :=
  let c0_i32_3 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c0_i32 : BitVec 32 := 0#32
  let v5 : BitVec 1 := Scalar.cmpi .eq v4 c0_i32
  let c0_i32_1 : BitVec 32 := 0#32
  let c0_i32_2 : BitVec 32 := 0#32
  let v6 : BitVec 32 := Scalar.select v5 c0_i32_1 c0_i32_2
  let v7 : BitVec 32 := Scalar.addi c0_i32_3 v6
  let c1_i32_4 : BitVec 32 := 1#32
  let v8 : BitVec 1 := Scalar.cmpi .eq v4 c1_i32_4
  let c1_i32_5 : BitVec 32 := 1#32
  let c0_i32_6 : BitVec 32 := 0#32
  let v9 : BitVec 32 := Scalar.select v8 c1_i32_5 c0_i32_6
  let v10 : BitVec 32 := Scalar.addi v7 v9
  let c2_i32 : BitVec 32 := 2#32
  let v11 : BitVec 1 := Scalar.cmpi .eq v4 c2_i32
  let c2_i32_7 : BitVec 32 := 2#32
  let c0_i32_8 : BitVec 32 := 0#32
  let v12 : BitVec 32 := Scalar.select v11 c2_i32_7 c0_i32_8
  let v13 : BitVec 32 := Scalar.addi v10 v12
  let c5_i32 : BitVec 32 := 5#32
  let v14 : BitVec 1 := Scalar.cmpi .eq v4 c5_i32
  let c3_i32 : BitVec 32 := 3#32
  let c0_i32_9 : BitVec 32 := 0#32
  let v15 : BitVec 32 := Scalar.select v14 c3_i32 c0_i32_9
  let v16 : BitVec 32 := Scalar.addi v13 v15
  let c6_i32 : BitVec 32 := 6#32
  let v17 : BitVec 1 := Scalar.cmpi .eq v4 c6_i32
  let c4_i32 : BitVec 32 := 4#32
  let c0_i32_10 : BitVec 32 := 0#32
  let v18 : BitVec 32 := Scalar.select v17 c4_i32 c0_i32_10
  let v19 : BitVec 32 := Scalar.addi v16 v18
  let c7_i32 : BitVec 32 := 7#32
  let v20 : BitVec 1 := Scalar.cmpi .eq v4 c7_i32
  let c5_i32_11 : BitVec 32 := 5#32
  let c0_i32_12 : BitVec 32 := 0#32
  let v21 : BitVec 32 := Scalar.select v20 c5_i32_11 c0_i32_12
  let v22 : BitVec 32 := Scalar.addi v19 v21
  let c4_i32_13 : BitVec 32 := 4#32
  let v23 : BitVec 1 := Scalar.cmpi .eq v4 c4_i32_13
  let c6_i32_14 : BitVec 32 := 6#32
  let c0_i32_15 : BitVec 32 := 0#32
  let v24 : BitVec 32 := Scalar.select v23 c6_i32_14 c0_i32_15
  let v25 : BitVec 32 := Scalar.addi v22 v24
  let c3_i32_16 : BitVec 32 := 3#32
  let v26 : BitVec 1 := Scalar.cmpi .eq v4 c3_i32_16
  let c7_i32_17 : BitVec 32 := 7#32
  let c0_i32_18 : BitVec 32 := 0#32
  let v27 : BitVec 32 := Scalar.select v26 c7_i32_17 c0_i32_18
  let v28 : BitVec 32 := Scalar.addi v25 v27
  let c1_i32_756 : BitVec 32 := 1#32
  let v769 : BitVec 32 := Scalar.subi v28 c1_i32_756
  let c64_i32_757 : BitVec 32 := 64#32
  let v770 : BitVec 32 := Scalar.addi v769 c64_i32_757
  let c8_i32_758 : BitVec 32 := 8#32
  let v771 : BitVec 32 := Scalar.remsi v770 c8_i32_758
  let c256_i32_759 : BitVec 32 := 256#32
  let v772 : BitVec 32 := Scalar.muli v771 c256_i32_759
  let c64_i32_992 : BitVec 32 := 64#32
  let c8_i32 : BitVec 32 := 8#32
  let v3 : BitVec 32 := Scalar.divsi v2 c8_i32
  let v1001 : BitVec 32 := Scalar.muli c64_i32_992 v3
  let v1002 : BitVec 32 := Scalar.addi v772 v1001
  let v1003 : Index := Scalar.indexCast v1002
  let c512_993 : Index := 512#32
  ![v1003.toNat, 512]
def k0_dev26 (d0 : Dev nD) : Nat :=
  let c0_i32_1013 : BitVec 32 := 0#32
  let c8_i32_1007 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c1_i32_1005 : BitVec 32 := 1#32
  let v1025 : BitVec 32 := Scalar.addi v3 c1_i32_1005
  let c4_i32_1006 : BitVec 32 := 4#32
  let v1026 : BitVec 32 := Scalar.remsi v1025 c4_i32_1006
  let v1027 : BitVec 32 := Scalar.muli c8_i32_1007 v1026
  let c8_i32_0 : BitVec 32 := 8#32
  let v4 : BitVec 32 := Scalar.remsi v2 c8_i32_0
  let v1028 : BitVec 32 := Scalar.addi v1027 v4
  let c1_i32_1012 : BitVec 32 := 1#32
  let v1029 : BitVec 32 := Scalar.muli v1028 c1_i32_1012
  let v1030 : BitVec 32 := Scalar.addi c0_i32_1013 v1029
  v1030.toNat
def k0_dev27 (d0 : Dev nD) : Nat :=
  let c0_i32_1023 : BitVec 32 := 0#32
  let c8_i32_1007 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c1_i32_1005 : BitVec 32 := 1#32
  let v1025 : BitVec 32 := Scalar.addi v3 c1_i32_1005
  let c4_i32_1006 : BitVec 32 := 4#32
  let v1026 : BitVec 32 := Scalar.remsi v1025 c4_i32_1006
  let v1027 : BitVec 32 := Scalar.muli c8_i32_1007 v1026
  let c8_i32_0 : BitVec 32 := 8#32
  let v4 : BitVec 32 := Scalar.remsi v2 c8_i32_0
  let v1028 : BitVec 32 := Scalar.addi v1027 v4
  let c1_i32_1022 : BitVec 32 := 1#32
  let v1039 : BitVec 32 := Scalar.muli v1028 c1_i32_1022
  let v1040 : BitVec 32 := Scalar.addi c0_i32_1023 v1039
  v1040.toNat
def k0_dev28 (d0 : Dev nD) : Nat :=
  let c0_i32_1036 : BitVec 32 := 0#32
  let c8_i32_1030 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c2_i32_1028 : BitVec 32 := 2#32
  let v1049 : BitVec 32 := Scalar.addi v3 c2_i32_1028
  let c4_i32_1029 : BitVec 32 := 4#32
  let v1050 : BitVec 32 := Scalar.remsi v1049 c4_i32_1029
  let v1051 : BitVec 32 := Scalar.muli c8_i32_1030 v1050
  let c8_i32_0 : BitVec 32 := 8#32
  let v4 : BitVec 32 := Scalar.remsi v2 c8_i32_0
  let v1052 : BitVec 32 := Scalar.addi v1051 v4
  let c1_i32_1035 : BitVec 32 := 1#32
  let v1053 : BitVec 32 := Scalar.muli v1052 c1_i32_1035
  let v1054 : BitVec 32 := Scalar.addi c0_i32_1036 v1053
  v1054.toNat
def k0_dev29 (d0 : Dev nD) : Nat :=
  let c0_i32_1046 : BitVec 32 := 0#32
  let c8_i32_1030 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c2_i32_1028 : BitVec 32 := 2#32
  let v1049 : BitVec 32 := Scalar.addi v3 c2_i32_1028
  let c4_i32_1029 : BitVec 32 := 4#32
  let v1050 : BitVec 32 := Scalar.remsi v1049 c4_i32_1029
  let v1051 : BitVec 32 := Scalar.muli c8_i32_1030 v1050
  let c8_i32_0 : BitVec 32 := 8#32
  let v4 : BitVec 32 := Scalar.remsi v2 c8_i32_0
  let v1052 : BitVec 32 := Scalar.addi v1051 v4
  let c1_i32_1045 : BitVec 32 := 1#32
  let v1063 : BitVec 32 := Scalar.muli v1052 c1_i32_1045
  let v1064 : BitVec 32 := Scalar.addi c0_i32_1046 v1063
  v1064.toNat
def k0_dev30 (d0 : Dev nD) : Nat :=
  let c0_i32_1059 : BitVec 32 := 0#32
  let c8_i32_1053 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c3_i32_1051 : BitVec 32 := 3#32
  let v1073 : BitVec 32 := Scalar.addi v3 c3_i32_1051
  let c4_i32_1052 : BitVec 32 := 4#32
  let v1074 : BitVec 32 := Scalar.remsi v1073 c4_i32_1052
  let v1075 : BitVec 32 := Scalar.muli c8_i32_1053 v1074
  let c8_i32_0 : BitVec 32 := 8#32
  let v4 : BitVec 32 := Scalar.remsi v2 c8_i32_0
  let v1076 : BitVec 32 := Scalar.addi v1075 v4
  let c1_i32_1058 : BitVec 32 := 1#32
  let v1077 : BitVec 32 := Scalar.muli v1076 c1_i32_1058
  let v1078 : BitVec 32 := Scalar.addi c0_i32_1059 v1077
  v1078.toNat
def k0_dev31 (d0 : Dev nD) : Nat :=
  let c0_i32_1069 : BitVec 32 := 0#32
  let c8_i32_1053 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c3_i32_1051 : BitVec 32 := 3#32
  let v1073 : BitVec 32 := Scalar.addi v3 c3_i32_1051
  let c4_i32_1052 : BitVec 32 := 4#32
  let v1074 : BitVec 32 := Scalar.remsi v1073 c4_i32_1052
  let v1075 : BitVec 32 := Scalar.muli c8_i32_1053 v1074
  let c8_i32_0 : BitVec 32 := 8#32
  let v4 : BitVec 32 := Scalar.remsi v2 c8_i32_0
  let v1076 : BitVec 32 := Scalar.addi v1075 v4
  let c1_i32_1068 : BitVec 32 := 1#32
  let v1087 : BitVec 32 := Scalar.muli v1076 c1_i32_1068
  let v1088 : BitVec 32 := Scalar.addi c0_i32_1069 v1087
  v1088.toNat
def k0_off9 (d0 : Dev nD) (c1_i32_1189 : BitVec 32) : Fin 2 → Nat :=
  let c0_i32_3 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c0_i32 : BitVec 32 := 0#32
  let v5 : BitVec 1 := Scalar.cmpi .eq v4 c0_i32
  let c0_i32_1 : BitVec 32 := 0#32
  let c0_i32_2 : BitVec 32 := 0#32
  let v6 : BitVec 32 := Scalar.select v5 c0_i32_1 c0_i32_2
  let v7 : BitVec 32 := Scalar.addi c0_i32_3 v6
  let c1_i32_4 : BitVec 32 := 1#32
  let v8 : BitVec 1 := Scalar.cmpi .eq v4 c1_i32_4
  let c1_i32_5 : BitVec 32 := 1#32
  let c0_i32_6 : BitVec 32 := 0#32
  let v9 : BitVec 32 := Scalar.select v8 c1_i32_5 c0_i32_6
  let v10 : BitVec 32 := Scalar.addi v7 v9
  let c2_i32 : BitVec 32 := 2#32
  let v11 : BitVec 1 := Scalar.cmpi .eq v4 c2_i32
  let c2_i32_7 : BitVec 32 := 2#32
  let c0_i32_8 : BitVec 32 := 0#32
  let v12 : BitVec 32 := Scalar.select v11 c2_i32_7 c0_i32_8
  let v13 : BitVec 32 := Scalar.addi v10 v12
  let c5_i32 : BitVec 32 := 5#32
  let v14 : BitVec 1 := Scalar.cmpi .eq v4 c5_i32
  let c3_i32 : BitVec 32 := 3#32
  let c0_i32_9 : BitVec 32 := 0#32
  let v15 : BitVec 32 := Scalar.select v14 c3_i32 c0_i32_9
  let v16 : BitVec 32 := Scalar.addi v13 v15
  let c6_i32 : BitVec 32 := 6#32
  let v17 : BitVec 1 := Scalar.cmpi .eq v4 c6_i32
  let c4_i32 : BitVec 32 := 4#32
  let c0_i32_10 : BitVec 32 := 0#32
  let v18 : BitVec 32 := Scalar.select v17 c4_i32 c0_i32_10
  let v19 : BitVec 32 := Scalar.addi v16 v18
  let c7_i32 : BitVec 32 := 7#32
  let v20 : BitVec 1 := Scalar.cmpi .eq v4 c7_i32
  let c5_i32_11 : BitVec 32 := 5#32
  let c0_i32_12 : BitVec 32 := 0#32
  let v21 : BitVec 32 := Scalar.select v20 c5_i32_11 c0_i32_12
  let v22 : BitVec 32 := Scalar.addi v19 v21
  let c4_i32_13 : BitVec 32 := 4#32
  let v23 : BitVec 1 := Scalar.cmpi .eq v4 c4_i32_13
  let c6_i32_14 : BitVec 32 := 6#32
  let c0_i32_15 : BitVec 32 := 0#32
  let v24 : BitVec 32 := Scalar.select v23 c6_i32_14 c0_i32_15
  let v25 : BitVec 32 := Scalar.addi v22 v24
  let c3_i32_16 : BitVec 32 := 3#32
  let v26 : BitVec 1 := Scalar.cmpi .eq v4 c3_i32_16
  let c7_i32_17 : BitVec 32 := 7#32
  let c0_i32_18 : BitVec 32 := 0#32
  let v27 : BitVec 32 := Scalar.select v26 c7_i32_17 c0_i32_18
  let v28 : BitVec 32 := Scalar.addi v25 v27
  let c1_i32_752 : BitVec 32 := 1#32
  let v765 : BitVec 32 := Scalar.addi v28 c1_i32_752
  let c64_i32_753 : BitVec 32 := 64#32
  let v766 : BitVec 32 := Scalar.addi v765 c64_i32_753
  let c8_i32_754 : BitVec 32 := 8#32
  let v767 : BitVec 32 := Scalar.remsi v766 c8_i32_754
  let c256_i32_755 : BitVec 32 := 256#32
  let v768 : BitVec 32 := Scalar.muli v767 c256_i32_755
  let c64_i32_1194 : BitVec 32 := 64#32
  let c8_i32 : BitVec 32 := 8#32
  let v3 : BitVec 32 := Scalar.divsi v2 c8_i32
  let c4_i32_1188 : BitVec 32 := 4#32
  let v1181 : BitVec 32 := Scalar.addi v3 c4_i32_1188
  let v1182 : BitVec 32 := Scalar.subi v1181 c1_i32_1189
  let c4_i32_1190 : BitVec 32 := 4#32
  let v1183 : BitVec 32 := Scalar.remsi v1182 c4_i32_1190
  let v1186 : BitVec 32 := Scalar.muli c64_i32_1194 v1183
  let v1187 : BitVec 32 := Scalar.addi v768 v1186
  let v1188 : Index := Scalar.indexCast v1187
  let c0_1195 : Index := 0#32
  ![v1188.toNat, 0]
def k0_off10 (d0 : Dev nD) (c1_i32_1189 : BitVec 32) : Fin 2 → Nat :=
  let c0_i32_3 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c0_i32 : BitVec 32 := 0#32
  let v5 : BitVec 1 := Scalar.cmpi .eq v4 c0_i32
  let c0_i32_1 : BitVec 32 := 0#32
  let c0_i32_2 : BitVec 32 := 0#32
  let v6 : BitVec 32 := Scalar.select v5 c0_i32_1 c0_i32_2
  let v7 : BitVec 32 := Scalar.addi c0_i32_3 v6
  let c1_i32_4 : BitVec 32 := 1#32
  let v8 : BitVec 1 := Scalar.cmpi .eq v4 c1_i32_4
  let c1_i32_5 : BitVec 32 := 1#32
  let c0_i32_6 : BitVec 32 := 0#32
  let v9 : BitVec 32 := Scalar.select v8 c1_i32_5 c0_i32_6
  let v10 : BitVec 32 := Scalar.addi v7 v9
  let c2_i32 : BitVec 32 := 2#32
  let v11 : BitVec 1 := Scalar.cmpi .eq v4 c2_i32
  let c2_i32_7 : BitVec 32 := 2#32
  let c0_i32_8 : BitVec 32 := 0#32
  let v12 : BitVec 32 := Scalar.select v11 c2_i32_7 c0_i32_8
  let v13 : BitVec 32 := Scalar.addi v10 v12
  let c5_i32 : BitVec 32 := 5#32
  let v14 : BitVec 1 := Scalar.cmpi .eq v4 c5_i32
  let c3_i32 : BitVec 32 := 3#32
  let c0_i32_9 : BitVec 32 := 0#32
  let v15 : BitVec 32 := Scalar.select v14 c3_i32 c0_i32_9
  let v16 : BitVec 32 := Scalar.addi v13 v15
  let c6_i32 : BitVec 32 := 6#32
  let v17 : BitVec 1 := Scalar.cmpi .eq v4 c6_i32
  let c4_i32 : BitVec 32 := 4#32
  let c0_i32_10 : BitVec 32 := 0#32
  let v18 : BitVec 32 := Scalar.select v17 c4_i32 c0_i32_10
  let v19 : BitVec 32 := Scalar.addi v16 v18
  let c7_i32 : BitVec 32 := 7#32
  let v20 : BitVec 1 := Scalar.cmpi .eq v4 c7_i32
  let c5_i32_11 : BitVec 32 := 5#32
  let c0_i32_12 : BitVec 32 := 0#32
  let v21 : BitVec 32 := Scalar.select v20 c5_i32_11 c0_i32_12
  let v22 : BitVec 32 := Scalar.addi v19 v21
  let c4_i32_13 : BitVec 32 := 4#32
  let v23 : BitVec 1 := Scalar.cmpi .eq v4 c4_i32_13
  let c6_i32_14 : BitVec 32 := 6#32
  let c0_i32_15 : BitVec 32 := 0#32
  let v24 : BitVec 32 := Scalar.select v23 c6_i32_14 c0_i32_15
  let v25 : BitVec 32 := Scalar.addi v22 v24
  let c3_i32_16 : BitVec 32 := 3#32
  let v26 : BitVec 1 := Scalar.cmpi .eq v4 c3_i32_16
  let c7_i32_17 : BitVec 32 := 7#32
  let c0_i32_18 : BitVec 32 := 0#32
  let v27 : BitVec 32 := Scalar.select v26 c7_i32_17 c0_i32_18
  let v28 : BitVec 32 := Scalar.addi v25 v27
  let c1_i32_756 : BitVec 32 := 1#32
  let v769 : BitVec 32 := Scalar.subi v28 c1_i32_756
  let c64_i32_757 : BitVec 32 := 64#32
  let v770 : BitVec 32 := Scalar.addi v769 c64_i32_757
  let c8_i32_758 : BitVec 32 := 8#32
  let v771 : BitVec 32 := Scalar.remsi v770 c8_i32_758
  let c256_i32_759 : BitVec 32 := 256#32
  let v772 : BitVec 32 := Scalar.muli v771 c256_i32_759
  let c64_i32_1199 : BitVec 32 := 64#32
  let c8_i32 : BitVec 32 := 8#32
  let v3 : BitVec 32 := Scalar.divsi v2 c8_i32
  let c4_i32_1188 : BitVec 32 := 4#32
  let v1181 : BitVec 32 := Scalar.addi v3 c4_i32_1188
  let v1182 : BitVec 32 := Scalar.subi v1181 c1_i32_1189
  let c4_i32_1190 : BitVec 32 := 4#32
  let v1183 : BitVec 32 := Scalar.remsi v1182 c4_i32_1190
  let v1192 : BitVec 32 := Scalar.muli c64_i32_1199 v1183
  let v1193 : BitVec 32 := Scalar.addi v772 v1192
  let v1194 : Index := Scalar.indexCast v1193
  let c512_1200 : Index := 512#32
  ![v1194.toNat, 512]
def k0_off11 (d0 : Dev nD) (c0_i32_1228 : BitVec 32) : Fin 2 → Nat :=
  let c0_i32_3 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c0_i32 : BitVec 32 := 0#32
  let v5 : BitVec 1 := Scalar.cmpi .eq v4 c0_i32
  let c0_i32_1 : BitVec 32 := 0#32
  let c0_i32_2 : BitVec 32 := 0#32
  let v6 : BitVec 32 := Scalar.select v5 c0_i32_1 c0_i32_2
  let v7 : BitVec 32 := Scalar.addi c0_i32_3 v6
  let c1_i32_4 : BitVec 32 := 1#32
  let v8 : BitVec 1 := Scalar.cmpi .eq v4 c1_i32_4
  let c1_i32_5 : BitVec 32 := 1#32
  let c0_i32_6 : BitVec 32 := 0#32
  let v9 : BitVec 32 := Scalar.select v8 c1_i32_5 c0_i32_6
  let v10 : BitVec 32 := Scalar.addi v7 v9
  let c2_i32 : BitVec 32 := 2#32
  let v11 : BitVec 1 := Scalar.cmpi .eq v4 c2_i32
  let c2_i32_7 : BitVec 32 := 2#32
  let c0_i32_8 : BitVec 32 := 0#32
  let v12 : BitVec 32 := Scalar.select v11 c2_i32_7 c0_i32_8
  let v13 : BitVec 32 := Scalar.addi v10 v12
  let c5_i32 : BitVec 32 := 5#32
  let v14 : BitVec 1 := Scalar.cmpi .eq v4 c5_i32
  let c3_i32 : BitVec 32 := 3#32
  let c0_i32_9 : BitVec 32 := 0#32
  let v15 : BitVec 32 := Scalar.select v14 c3_i32 c0_i32_9
  let v16 : BitVec 32 := Scalar.addi v13 v15
  let c6_i32 : BitVec 32 := 6#32
  let v17 : BitVec 1 := Scalar.cmpi .eq v4 c6_i32
  let c4_i32 : BitVec 32 := 4#32
  let c0_i32_10 : BitVec 32 := 0#32
  let v18 : BitVec 32 := Scalar.select v17 c4_i32 c0_i32_10
  let v19 : BitVec 32 := Scalar.addi v16 v18
  let c7_i32 : BitVec 32 := 7#32
  let v20 : BitVec 1 := Scalar.cmpi .eq v4 c7_i32
  let c5_i32_11 : BitVec 32 := 5#32
  let c0_i32_12 : BitVec 32 := 0#32
  let v21 : BitVec 32 := Scalar.select v20 c5_i32_11 c0_i32_12
  let v22 : BitVec 32 := Scalar.addi v19 v21
  let c4_i32_13 : BitVec 32 := 4#32
  let v23 : BitVec 1 := Scalar.cmpi .eq v4 c4_i32_13
  let c6_i32_14 : BitVec 32 := 6#32
  let c0_i32_15 : BitVec 32 := 0#32
  let v24 : BitVec 32 := Scalar.select v23 c6_i32_14 c0_i32_15
  let v25 : BitVec 32 := Scalar.addi v22 v24
  let c3_i32_16 : BitVec 32 := 3#32
  let v26 : BitVec 1 := Scalar.cmpi .eq v4 c3_i32_16
  let c7_i32_17 : BitVec 32 := 7#32
  let c0_i32_18 : BitVec 32 := 0#32
  let v27 : BitVec 32 := Scalar.select v26 c7_i32_17 c0_i32_18
  let v28 : BitVec 32 := Scalar.addi v25 v27
  let c1_i32_1227 : BitVec 32 := 1#32
  let v1226 : BitVec 32 := Scalar.addi v28 c1_i32_1227
  let v1227 : BitVec 32 := Scalar.subi v1226 c0_i32_1228
  let c64_i32_1229 : BitVec 32 := 64#32
  let v1228 : BitVec 32 := Scalar.addi v1227 c64_i32_1229
  let c8_i32_1230 : BitVec 32 := 8#32
  let v1229 : BitVec 32 := Scalar.remsi v1228 c8_i32_1230
  let c256_i32_1241 : BitVec 32 := 256#32
  let v1240 : BitVec 32 := Scalar.muli v1229 c256_i32_1241
  let v1241 : Index := Scalar.indexCast v1240
  let c0_1242 : Index := 0#32
  ![v1241.toNat, 0]
def k0_off12 (d0 : Dev nD) (c0_i32_1235 : BitVec 32) : Fin 2 → Nat :=
  let c0_i32_3 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c0_i32 : BitVec 32 := 0#32
  let v5 : BitVec 1 := Scalar.cmpi .eq v4 c0_i32
  let c0_i32_1 : BitVec 32 := 0#32
  let c0_i32_2 : BitVec 32 := 0#32
  let v6 : BitVec 32 := Scalar.select v5 c0_i32_1 c0_i32_2
  let v7 : BitVec 32 := Scalar.addi c0_i32_3 v6
  let c1_i32_4 : BitVec 32 := 1#32
  let v8 : BitVec 1 := Scalar.cmpi .eq v4 c1_i32_4
  let c1_i32_5 : BitVec 32 := 1#32
  let c0_i32_6 : BitVec 32 := 0#32
  let v9 : BitVec 32 := Scalar.select v8 c1_i32_5 c0_i32_6
  let v10 : BitVec 32 := Scalar.addi v7 v9
  let c2_i32 : BitVec 32 := 2#32
  let v11 : BitVec 1 := Scalar.cmpi .eq v4 c2_i32
  let c2_i32_7 : BitVec 32 := 2#32
  let c0_i32_8 : BitVec 32 := 0#32
  let v12 : BitVec 32 := Scalar.select v11 c2_i32_7 c0_i32_8
  let v13 : BitVec 32 := Scalar.addi v10 v12
  let c5_i32 : BitVec 32 := 5#32
  let v14 : BitVec 1 := Scalar.cmpi .eq v4 c5_i32
  let c3_i32 : BitVec 32 := 3#32
  let c0_i32_9 : BitVec 32 := 0#32
  let v15 : BitVec 32 := Scalar.select v14 c3_i32 c0_i32_9
  let v16 : BitVec 32 := Scalar.addi v13 v15
  let c6_i32 : BitVec 32 := 6#32
  let v17 : BitVec 1 := Scalar.cmpi .eq v4 c6_i32
  let c4_i32 : BitVec 32 := 4#32
  let c0_i32_10 : BitVec 32 := 0#32
  let v18 : BitVec 32 := Scalar.select v17 c4_i32 c0_i32_10
  let v19 : BitVec 32 := Scalar.addi v16 v18
  let c7_i32 : BitVec 32 := 7#32
  let v20 : BitVec 1 := Scalar.cmpi .eq v4 c7_i32
  let c5_i32_11 : BitVec 32 := 5#32
  let c0_i32_12 : BitVec 32 := 0#32
  let v21 : BitVec 32 := Scalar.select v20 c5_i32_11 c0_i32_12
  let v22 : BitVec 32 := Scalar.addi v19 v21
  let c4_i32_13 : BitVec 32 := 4#32
  let v23 : BitVec 1 := Scalar.cmpi .eq v4 c4_i32_13
  let c6_i32_14 : BitVec 32 := 6#32
  let c0_i32_15 : BitVec 32 := 0#32
  let v24 : BitVec 32 := Scalar.select v23 c6_i32_14 c0_i32_15
  let v25 : BitVec 32 := Scalar.addi v22 v24
  let c3_i32_16 : BitVec 32 := 3#32
  let v26 : BitVec 1 := Scalar.cmpi .eq v4 c3_i32_16
  let c7_i32_17 : BitVec 32 := 7#32
  let c0_i32_18 : BitVec 32 := 0#32
  let v27 : BitVec 32 := Scalar.select v26 c7_i32_17 c0_i32_18
  let v28 : BitVec 32 := Scalar.addi v25 v27
  let c1_i32_1234 : BitVec 32 := 1#32
  let v1233 : BitVec 32 := Scalar.subi v28 c1_i32_1234
  let v1234 : BitVec 32 := Scalar.addi v1233 c0_i32_1235
  let c64_i32_1236 : BitVec 32 := 64#32
  let v1235 : BitVec 32 := Scalar.addi v1234 c64_i32_1236
  let c8_i32_1237 : BitVec 32 := 8#32
  let v1236 : BitVec 32 := Scalar.remsi v1235 c8_i32_1237
  let c256_i32_1246 : BitVec 32 := 256#32
  let v1247 : BitVec 32 := Scalar.muli v1236 c256_i32_1246
  let v1248 : Index := Scalar.indexCast v1247
  let c512_1247 : Index := 512#32
  ![v1248.toNat, 512]
def k0_dev32 (d0 : Dev nD) : Nat :=
  let c0_i32_1256 : BitVec 32 := 0#32
  let c8_i32_69 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let v77 : BitVec 32 := Scalar.muli c8_i32_69 v3
  let c0_i32_22 : BitVec 32 := 0#32
  let c0_i32_3 : BitVec 32 := 0#32
  let c8_i32_0 : BitVec 32 := 8#32
  let v4 : BitVec 32 := Scalar.remsi v2 c8_i32_0
  let c0_i32 : BitVec 32 := 0#32
  let v5 : BitVec 1 := Scalar.cmpi .eq v4 c0_i32
  let c0_i32_1 : BitVec 32 := 0#32
  let c0_i32_2 : BitVec 32 := 0#32
  let v6 : BitVec 32 := Scalar.select v5 c0_i32_1 c0_i32_2
  let v7 : BitVec 32 := Scalar.addi c0_i32_3 v6
  let c1_i32_4 : BitVec 32 := 1#32
  let v8 : BitVec 1 := Scalar.cmpi .eq v4 c1_i32_4
  let c1_i32_5 : BitVec 32 := 1#32
  let c0_i32_6 : BitVec 32 := 0#32
  let v9 : BitVec 32 := Scalar.select v8 c1_i32_5 c0_i32_6
  let v10 : BitVec 32 := Scalar.addi v7 v9
  let c2_i32 : BitVec 32 := 2#32
  let v11 : BitVec 1 := Scalar.cmpi .eq v4 c2_i32
  let c2_i32_7 : BitVec 32 := 2#32
  let c0_i32_8 : BitVec 32 := 0#32
  let v12 : BitVec 32 := Scalar.select v11 c2_i32_7 c0_i32_8
  let v13 : BitVec 32 := Scalar.addi v10 v12
  let c5_i32 : BitVec 32 := 5#32
  let v14 : BitVec 1 := Scalar.cmpi .eq v4 c5_i32
  let c3_i32 : BitVec 32 := 3#32
  let c0_i32_9 : BitVec 32 := 0#32
  let v15 : BitVec 32 := Scalar.select v14 c3_i32 c0_i32_9
  let v16 : BitVec 32 := Scalar.addi v13 v15
  let c6_i32 : BitVec 32 := 6#32
  let v17 : BitVec 1 := Scalar.cmpi .eq v4 c6_i32
  let c4_i32 : BitVec 32 := 4#32
  let c0_i32_10 : BitVec 32 := 0#32
  let v18 : BitVec 32 := Scalar.select v17 c4_i32 c0_i32_10
  let v19 : BitVec 32 := Scalar.addi v16 v18
  let c7_i32 : BitVec 32 := 7#32
  let v20 : BitVec 1 := Scalar.cmpi .eq v4 c7_i32
  let c5_i32_11 : BitVec 32 := 5#32
  let c0_i32_12 : BitVec 32 := 0#32
  let v21 : BitVec 32 := Scalar.select v20 c5_i32_11 c0_i32_12
  let v22 : BitVec 32 := Scalar.addi v19 v21
  let c4_i32_13 : BitVec 32 := 4#32
  let v23 : BitVec 1 := Scalar.cmpi .eq v4 c4_i32_13
  let c6_i32_14 : BitVec 32 := 6#32
  let c0_i32_15 : BitVec 32 := 0#32
  let v24 : BitVec 32 := Scalar.select v23 c6_i32_14 c0_i32_15
  let v25 : BitVec 32 := Scalar.addi v22 v24
  let c3_i32_16 : BitVec 32 := 3#32
  let v26 : BitVec 1 := Scalar.cmpi .eq v4 c3_i32_16
  let c7_i32_17 : BitVec 32 := 7#32
  let c0_i32_18 : BitVec 32 := 0#32
  let v27 : BitVec 32 := Scalar.select v26 c7_i32_17 c0_i32_18
  let v28 : BitVec 32 := Scalar.addi v25 v27
  let c0_i32_19 : BitVec 32 := 0#32
  let v29 : BitVec 1 := Scalar.cmpi .eq v28 c0_i32_19
  let c1_i32_20 : BitVec 32 := 1#32
  let c0_i32_21 : BitVec 32 := 0#32
  let v30 : BitVec 32 := Scalar.select v29 c1_i32_20 c0_i32_21
  let v31 : BitVec 32 := Scalar.addi c0_i32_22 v30
  let c1_i32_27 : BitVec 32 := 1#32
  let v35 : BitVec 1 := Scalar.cmpi .eq v28 c1_i32_27
  let c2_i32_28 : BitVec 32 := 2#32
  let c0_i32_29 : BitVec 32 := 0#32
  let v36 : BitVec 32 := Scalar.select v35 c2_i32_28 c0_i32_29
  let v37 : BitVec 32 := Scalar.addi v31 v36
  let c2_i32_33 : BitVec 32 := 2#32
  let v41 : BitVec 1 := Scalar.cmpi .eq v28 c2_i32_33
  let c5_i32_34 : BitVec 32 := 5#32
  let c0_i32_35 : BitVec 32 := 0#32
  let v42 : BitVec 32 := Scalar.select v41 c5_i32_34 c0_i32_35
  let v43 : BitVec 32 := Scalar.addi v37 v42
  let c3_i32_39 : BitVec 32 := 3#32
  let v47 : BitVec 1 := Scalar.cmpi .eq v28 c3_i32_39
  let c6_i32_40 : BitVec 32 := 6#32
  let c0_i32_41 : BitVec 32 := 0#32
  let v48 : BitVec 32 := Scalar.select v47 c6_i32_40 c0_i32_41
  let v49 : BitVec 32 := Scalar.addi v43 v48
  let c4_i32_45 : BitVec 32 := 4#32
  let v53 : BitVec 1 := Scalar.cmpi .eq v28 c4_i32_45
  let c7_i32_46 : BitVec 32 := 7#32
  let c0_i32_47 : BitVec 32 := 0#32
  let v54 : BitVec 32 := Scalar.select v53 c7_i32_46 c0_i32_47
  let v55 : BitVec 32 := Scalar.addi v49 v54
  let c5_i32_51 : BitVec 32 := 5#32
  let v59 : BitVec 1 := Scalar.cmpi .eq v28 c5_i32_51
  let c4_i32_52 : BitVec 32 := 4#32
  let c0_i32_53 : BitVec 32 := 0#32
  let v60 : BitVec 32 := Scalar.select v59 c4_i32_52 c0_i32_53
  let v61 : BitVec 32 := Scalar.addi v55 v60
  let c6_i32_57 : BitVec 32 := 6#32
  let v65 : BitVec 1 := Scalar.cmpi .eq v28 c6_i32_57
  let c3_i32_58 : BitVec 32 := 3#32
  let c0_i32_59 : BitVec 32 := 0#32
  let v66 : BitVec 32 := Scalar.select v65 c3_i32_58 c0_i32_59
  let v67 : BitVec 32 := Scalar.addi v61 v66
  let c7_i32_63 : BitVec 32 := 7#32
  let v71 : BitVec 1 := Scalar.cmpi .eq v28 c7_i32_63
  let c0_i32_64 : BitVec 32 := 0#32
  let c0_i32_65 : BitVec 32 := 0#32
  let v72 : BitVec 32 := Scalar.select v71 c0_i32_64 c0_i32_65
  let v73 : BitVec 32 := Scalar.addi v67 v72
  let v78 : BitVec 32 := Scalar.addi v77 v73
  let c1_i32_1255 : BitVec 32 := 1#32
  let v1254 : BitVec 32 := Scalar.muli v78 c1_i32_1255
  let v1255 : BitVec 32 := Scalar.addi c0_i32_1256 v1254
  v1255.toNat
def k0_dev33 (d0 : Dev nD) : Nat :=
  let c0_i32_1266 : BitVec 32 := 0#32
  let c8_i32_70 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let v79 : BitVec 32 := Scalar.muli c8_i32_70 v3
  let c0_i32_26 : BitVec 32 := 0#32
  let c0_i32_3 : BitVec 32 := 0#32
  let c8_i32_0 : BitVec 32 := 8#32
  let v4 : BitVec 32 := Scalar.remsi v2 c8_i32_0
  let c0_i32 : BitVec 32 := 0#32
  let v5 : BitVec 1 := Scalar.cmpi .eq v4 c0_i32
  let c0_i32_1 : BitVec 32 := 0#32
  let c0_i32_2 : BitVec 32 := 0#32
  let v6 : BitVec 32 := Scalar.select v5 c0_i32_1 c0_i32_2
  let v7 : BitVec 32 := Scalar.addi c0_i32_3 v6
  let c1_i32_4 : BitVec 32 := 1#32
  let v8 : BitVec 1 := Scalar.cmpi .eq v4 c1_i32_4
  let c1_i32_5 : BitVec 32 := 1#32
  let c0_i32_6 : BitVec 32 := 0#32
  let v9 : BitVec 32 := Scalar.select v8 c1_i32_5 c0_i32_6
  let v10 : BitVec 32 := Scalar.addi v7 v9
  let c2_i32 : BitVec 32 := 2#32
  let v11 : BitVec 1 := Scalar.cmpi .eq v4 c2_i32
  let c2_i32_7 : BitVec 32 := 2#32
  let c0_i32_8 : BitVec 32 := 0#32
  let v12 : BitVec 32 := Scalar.select v11 c2_i32_7 c0_i32_8
  let v13 : BitVec 32 := Scalar.addi v10 v12
  let c5_i32 : BitVec 32 := 5#32
  let v14 : BitVec 1 := Scalar.cmpi .eq v4 c5_i32
  let c3_i32 : BitVec 32 := 3#32
  let c0_i32_9 : BitVec 32 := 0#32
  let v15 : BitVec 32 := Scalar.select v14 c3_i32 c0_i32_9
  let v16 : BitVec 32 := Scalar.addi v13 v15
  let c6_i32 : BitVec 32 := 6#32
  let v17 : BitVec 1 := Scalar.cmpi .eq v4 c6_i32
  let c4_i32 : BitVec 32 := 4#32
  let c0_i32_10 : BitVec 32 := 0#32
  let v18 : BitVec 32 := Scalar.select v17 c4_i32 c0_i32_10
  let v19 : BitVec 32 := Scalar.addi v16 v18
  let c7_i32 : BitVec 32 := 7#32
  let v20 : BitVec 1 := Scalar.cmpi .eq v4 c7_i32
  let c5_i32_11 : BitVec 32 := 5#32
  let c0_i32_12 : BitVec 32 := 0#32
  let v21 : BitVec 32 := Scalar.select v20 c5_i32_11 c0_i32_12
  let v22 : BitVec 32 := Scalar.addi v19 v21
  let c4_i32_13 : BitVec 32 := 4#32
  let v23 : BitVec 1 := Scalar.cmpi .eq v4 c4_i32_13
  let c6_i32_14 : BitVec 32 := 6#32
  let c0_i32_15 : BitVec 32 := 0#32
  let v24 : BitVec 32 := Scalar.select v23 c6_i32_14 c0_i32_15
  let v25 : BitVec 32 := Scalar.addi v22 v24
  let c3_i32_16 : BitVec 32 := 3#32
  let v26 : BitVec 1 := Scalar.cmpi .eq v4 c3_i32_16
  let c7_i32_17 : BitVec 32 := 7#32
  let c0_i32_18 : BitVec 32 := 0#32
  let v27 : BitVec 32 := Scalar.select v26 c7_i32_17 c0_i32_18
  let v28 : BitVec 32 := Scalar.addi v25 v27
  let c0_i32_23 : BitVec 32 := 0#32
  let v32 : BitVec 1 := Scalar.cmpi .eq v28 c0_i32_23
  let c3_i32_24 : BitVec 32 := 3#32
  let c0_i32_25 : BitVec 32 := 0#32
  let v33 : BitVec 32 := Scalar.select v32 c3_i32_24 c0_i32_25
  let v34 : BitVec 32 := Scalar.addi c0_i32_26 v33
  let c1_i32_30 : BitVec 32 := 1#32
  let v38 : BitVec 1 := Scalar.cmpi .eq v28 c1_i32_30
  let c0_i32_31 : BitVec 32 := 0#32
  let c0_i32_32 : BitVec 32 := 0#32
  let v39 : BitVec 32 := Scalar.select v38 c0_i32_31 c0_i32_32
  let v40 : BitVec 32 := Scalar.addi v34 v39
  let c2_i32_36 : BitVec 32 := 2#32
  let v44 : BitVec 1 := Scalar.cmpi .eq v28 c2_i32_36
  let c1_i32_37 : BitVec 32 := 1#32
  let c0_i32_38 : BitVec 32 := 0#32
  let v45 : BitVec 32 := Scalar.select v44 c1_i32_37 c0_i32_38
  let v46 : BitVec 32 := Scalar.addi v40 v45
  let c3_i32_42 : BitVec 32 := 3#32
  let v50 : BitVec 1 := Scalar.cmpi .eq v28 c3_i32_42
  let c2_i32_43 : BitVec 32 := 2#32
  let c0_i32_44 : BitVec 32 := 0#32
  let v51 : BitVec 32 := Scalar.select v50 c2_i32_43 c0_i32_44
  let v52 : BitVec 32 := Scalar.addi v46 v51
  let c4_i32_48 : BitVec 32 := 4#32
  let v56 : BitVec 1 := Scalar.cmpi .eq v28 c4_i32_48
  let c5_i32_49 : BitVec 32 := 5#32
  let c0_i32_50 : BitVec 32 := 0#32
  let v57 : BitVec 32 := Scalar.select v56 c5_i32_49 c0_i32_50
  let v58 : BitVec 32 := Scalar.addi v52 v57
  let c5_i32_54 : BitVec 32 := 5#32
  let v62 : BitVec 1 := Scalar.cmpi .eq v28 c5_i32_54
  let c6_i32_55 : BitVec 32 := 6#32
  let c0_i32_56 : BitVec 32 := 0#32
  let v63 : BitVec 32 := Scalar.select v62 c6_i32_55 c0_i32_56
  let v64 : BitVec 32 := Scalar.addi v58 v63
  let c6_i32_60 : BitVec 32 := 6#32
  let v68 : BitVec 1 := Scalar.cmpi .eq v28 c6_i32_60
  let c7_i32_61 : BitVec 32 := 7#32
  let c0_i32_62 : BitVec 32 := 0#32
  let v69 : BitVec 32 := Scalar.select v68 c7_i32_61 c0_i32_62
  let v70 : BitVec 32 := Scalar.addi v64 v69
  let c7_i32_66 : BitVec 32 := 7#32
  let v74 : BitVec 1 := Scalar.cmpi .eq v28 c7_i32_66
  let c4_i32_67 : BitVec 32 := 4#32
  let c0_i32_68 : BitVec 32 := 0#32
  let v75 : BitVec 32 := Scalar.select v74 c4_i32_67 c0_i32_68
  let v76 : BitVec 32 := Scalar.addi v70 v75
  let v80 : BitVec 32 := Scalar.addi v79 v76
  let c1_i32_1265 : BitVec 32 := 1#32
  let v1264 : BitVec 32 := Scalar.muli v80 c1_i32_1265
  let v1265 : BitVec 32 := Scalar.addi c0_i32_1266 v1264
  v1265.toNat
def k0_dev34 (d0 : Dev nD) : Nat :=
  let c0_i32_1348 : BitVec 32 := 0#32
  let c8_i32_69 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let v77 : BitVec 32 := Scalar.muli c8_i32_69 v3
  let c0_i32_22 : BitVec 32 := 0#32
  let c0_i32_3 : BitVec 32 := 0#32
  let c8_i32_0 : BitVec 32 := 8#32
  let v4 : BitVec 32 := Scalar.remsi v2 c8_i32_0
  let c0_i32 : BitVec 32 := 0#32
  let v5 : BitVec 1 := Scalar.cmpi .eq v4 c0_i32
  let c0_i32_1 : BitVec 32 := 0#32
  let c0_i32_2 : BitVec 32 := 0#32
  let v6 : BitVec 32 := Scalar.select v5 c0_i32_1 c0_i32_2
  let v7 : BitVec 32 := Scalar.addi c0_i32_3 v6
  let c1_i32_4 : BitVec 32 := 1#32
  let v8 : BitVec 1 := Scalar.cmpi .eq v4 c1_i32_4
  let c1_i32_5 : BitVec 32 := 1#32
  let c0_i32_6 : BitVec 32 := 0#32
  let v9 : BitVec 32 := Scalar.select v8 c1_i32_5 c0_i32_6
  let v10 : BitVec 32 := Scalar.addi v7 v9
  let c2_i32 : BitVec 32 := 2#32
  let v11 : BitVec 1 := Scalar.cmpi .eq v4 c2_i32
  let c2_i32_7 : BitVec 32 := 2#32
  let c0_i32_8 : BitVec 32 := 0#32
  let v12 : BitVec 32 := Scalar.select v11 c2_i32_7 c0_i32_8
  let v13 : BitVec 32 := Scalar.addi v10 v12
  let c5_i32 : BitVec 32 := 5#32
  let v14 : BitVec 1 := Scalar.cmpi .eq v4 c5_i32
  let c3_i32 : BitVec 32 := 3#32
  let c0_i32_9 : BitVec 32 := 0#32
  let v15 : BitVec 32 := Scalar.select v14 c3_i32 c0_i32_9
  let v16 : BitVec 32 := Scalar.addi v13 v15
  let c6_i32 : BitVec 32 := 6#32
  let v17 : BitVec 1 := Scalar.cmpi .eq v4 c6_i32
  let c4_i32 : BitVec 32 := 4#32
  let c0_i32_10 : BitVec 32 := 0#32
  let v18 : BitVec 32 := Scalar.select v17 c4_i32 c0_i32_10
  let v19 : BitVec 32 := Scalar.addi v16 v18
  let c7_i32 : BitVec 32 := 7#32
  let v20 : BitVec 1 := Scalar.cmpi .eq v4 c7_i32
  let c5_i32_11 : BitVec 32 := 5#32
  let c0_i32_12 : BitVec 32 := 0#32
  let v21 : BitVec 32 := Scalar.select v20 c5_i32_11 c0_i32_12
  let v22 : BitVec 32 := Scalar.addi v19 v21
  let c4_i32_13 : BitVec 32 := 4#32
  let v23 : BitVec 1 := Scalar.cmpi .eq v4 c4_i32_13
  let c6_i32_14 : BitVec 32 := 6#32
  let c0_i32_15 : BitVec 32 := 0#32
  let v24 : BitVec 32 := Scalar.select v23 c6_i32_14 c0_i32_15
  let v25 : BitVec 32 := Scalar.addi v22 v24
  let c3_i32_16 : BitVec 32 := 3#32
  let v26 : BitVec 1 := Scalar.cmpi .eq v4 c3_i32_16
  let c7_i32_17 : BitVec 32 := 7#32
  let c0_i32_18 : BitVec 32 := 0#32
  let v27 : BitVec 32 := Scalar.select v26 c7_i32_17 c0_i32_18
  let v28 : BitVec 32 := Scalar.addi v25 v27
  let c0_i32_19 : BitVec 32 := 0#32
  let v29 : BitVec 1 := Scalar.cmpi .eq v28 c0_i32_19
  let c1_i32_20 : BitVec 32 := 1#32
  let c0_i32_21 : BitVec 32 := 0#32
  let v30 : BitVec 32 := Scalar.select v29 c1_i32_20 c0_i32_21
  let v31 : BitVec 32 := Scalar.addi c0_i32_22 v30
  let c1_i32_27 : BitVec 32 := 1#32
  let v35 : BitVec 1 := Scalar.cmpi .eq v28 c1_i32_27
  let c2_i32_28 : BitVec 32 := 2#32
  let c0_i32_29 : BitVec 32 := 0#32
  let v36 : BitVec 32 := Scalar.select v35 c2_i32_28 c0_i32_29
  let v37 : BitVec 32 := Scalar.addi v31 v36
  let c2_i32_33 : BitVec 32 := 2#32
  let v41 : BitVec 1 := Scalar.cmpi .eq v28 c2_i32_33
  let c5_i32_34 : BitVec 32 := 5#32
  let c0_i32_35 : BitVec 32 := 0#32
  let v42 : BitVec 32 := Scalar.select v41 c5_i32_34 c0_i32_35
  let v43 : BitVec 32 := Scalar.addi v37 v42
  let c3_i32_39 : BitVec 32 := 3#32
  let v47 : BitVec 1 := Scalar.cmpi .eq v28 c3_i32_39
  let c6_i32_40 : BitVec 32 := 6#32
  let c0_i32_41 : BitVec 32 := 0#32
  let v48 : BitVec 32 := Scalar.select v47 c6_i32_40 c0_i32_41
  let v49 : BitVec 32 := Scalar.addi v43 v48
  let c4_i32_45 : BitVec 32 := 4#32
  let v53 : BitVec 1 := Scalar.cmpi .eq v28 c4_i32_45
  let c7_i32_46 : BitVec 32 := 7#32
  let c0_i32_47 : BitVec 32 := 0#32
  let v54 : BitVec 32 := Scalar.select v53 c7_i32_46 c0_i32_47
  let v55 : BitVec 32 := Scalar.addi v49 v54
  let c5_i32_51 : BitVec 32 := 5#32
  let v59 : BitVec 1 := Scalar.cmpi .eq v28 c5_i32_51
  let c4_i32_52 : BitVec 32 := 4#32
  let c0_i32_53 : BitVec 32 := 0#32
  let v60 : BitVec 32 := Scalar.select v59 c4_i32_52 c0_i32_53
  let v61 : BitVec 32 := Scalar.addi v55 v60
  let c6_i32_57 : BitVec 32 := 6#32
  let v65 : BitVec 1 := Scalar.cmpi .eq v28 c6_i32_57
  let c3_i32_58 : BitVec 32 := 3#32
  let c0_i32_59 : BitVec 32 := 0#32
  let v66 : BitVec 32 := Scalar.select v65 c3_i32_58 c0_i32_59
  let v67 : BitVec 32 := Scalar.addi v61 v66
  let c7_i32_63 : BitVec 32 := 7#32
  let v71 : BitVec 1 := Scalar.cmpi .eq v28 c7_i32_63
  let c0_i32_64 : BitVec 32 := 0#32
  let c0_i32_65 : BitVec 32 := 0#32
  let v72 : BitVec 32 := Scalar.select v71 c0_i32_64 c0_i32_65
  let v73 : BitVec 32 := Scalar.addi v67 v72
  let v78 : BitVec 32 := Scalar.addi v77 v73
  let c1_i32_1347 : BitVec 32 := 1#32
  let v1340 : BitVec 32 := Scalar.muli v78 c1_i32_1347
  let v1341 : BitVec 32 := Scalar.addi c0_i32_1348 v1340
  v1341.toNat
def k0_dev35 (d0 : Dev nD) : Nat :=
  let c0_i32_1358 : BitVec 32 := 0#32
  let c8_i32_70 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let v79 : BitVec 32 := Scalar.muli c8_i32_70 v3
  let c0_i32_26 : BitVec 32 := 0#32
  let c0_i32_3 : BitVec 32 := 0#32
  let c8_i32_0 : BitVec 32 := 8#32
  let v4 : BitVec 32 := Scalar.remsi v2 c8_i32_0
  let c0_i32 : BitVec 32 := 0#32
  let v5 : BitVec 1 := Scalar.cmpi .eq v4 c0_i32
  let c0_i32_1 : BitVec 32 := 0#32
  let c0_i32_2 : BitVec 32 := 0#32
  let v6 : BitVec 32 := Scalar.select v5 c0_i32_1 c0_i32_2
  let v7 : BitVec 32 := Scalar.addi c0_i32_3 v6
  let c1_i32_4 : BitVec 32 := 1#32
  let v8 : BitVec 1 := Scalar.cmpi .eq v4 c1_i32_4
  let c1_i32_5 : BitVec 32 := 1#32
  let c0_i32_6 : BitVec 32 := 0#32
  let v9 : BitVec 32 := Scalar.select v8 c1_i32_5 c0_i32_6
  let v10 : BitVec 32 := Scalar.addi v7 v9
  let c2_i32 : BitVec 32 := 2#32
  let v11 : BitVec 1 := Scalar.cmpi .eq v4 c2_i32
  let c2_i32_7 : BitVec 32 := 2#32
  let c0_i32_8 : BitVec 32 := 0#32
  let v12 : BitVec 32 := Scalar.select v11 c2_i32_7 c0_i32_8
  let v13 : BitVec 32 := Scalar.addi v10 v12
  let c5_i32 : BitVec 32 := 5#32
  let v14 : BitVec 1 := Scalar.cmpi .eq v4 c5_i32
  let c3_i32 : BitVec 32 := 3#32
  let c0_i32_9 : BitVec 32 := 0#32
  let v15 : BitVec 32 := Scalar.select v14 c3_i32 c0_i32_9
  let v16 : BitVec 32 := Scalar.addi v13 v15
  let c6_i32 : BitVec 32 := 6#32
  let v17 : BitVec 1 := Scalar.cmpi .eq v4 c6_i32
  let c4_i32 : BitVec 32 := 4#32
  let c0_i32_10 : BitVec 32 := 0#32
  let v18 : BitVec 32 := Scalar.select v17 c4_i32 c0_i32_10
  let v19 : BitVec 32 := Scalar.addi v16 v18
  let c7_i32 : BitVec 32 := 7#32
  let v20 : BitVec 1 := Scalar.cmpi .eq v4 c7_i32
  let c5_i32_11 : BitVec 32 := 5#32
  let c0_i32_12 : BitVec 32 := 0#32
  let v21 : BitVec 32 := Scalar.select v20 c5_i32_11 c0_i32_12
  let v22 : BitVec 32 := Scalar.addi v19 v21
  let c4_i32_13 : BitVec 32 := 4#32
  let v23 : BitVec 1 := Scalar.cmpi .eq v4 c4_i32_13
  let c6_i32_14 : BitVec 32 := 6#32
  let c0_i32_15 : BitVec 32 := 0#32
  let v24 : BitVec 32 := Scalar.select v23 c6_i32_14 c0_i32_15
  let v25 : BitVec 32 := Scalar.addi v22 v24
  let c3_i32_16 : BitVec 32 := 3#32
  let v26 : BitVec 1 := Scalar.cmpi .eq v4 c3_i32_16
  let c7_i32_17 : BitVec 32 := 7#32
  let c0_i32_18 : BitVec 32 := 0#32
  let v27 : BitVec 32 := Scalar.select v26 c7_i32_17 c0_i32_18
  let v28 : BitVec 32 := Scalar.addi v25 v27
  let c0_i32_23 : BitVec 32 := 0#32
  let v32 : BitVec 1 := Scalar.cmpi .eq v28 c0_i32_23
  let c3_i32_24 : BitVec 32 := 3#32
  let c0_i32_25 : BitVec 32 := 0#32
  let v33 : BitVec 32 := Scalar.select v32 c3_i32_24 c0_i32_25
  let v34 : BitVec 32 := Scalar.addi c0_i32_26 v33
  let c1_i32_30 : BitVec 32 := 1#32
  let v38 : BitVec 1 := Scalar.cmpi .eq v28 c1_i32_30
  let c0_i32_31 : BitVec 32 := 0#32
  let c0_i32_32 : BitVec 32 := 0#32
  let v39 : BitVec 32 := Scalar.select v38 c0_i32_31 c0_i32_32
  let v40 : BitVec 32 := Scalar.addi v34 v39
  let c2_i32_36 : BitVec 32 := 2#32
  let v44 : BitVec 1 := Scalar.cmpi .eq v28 c2_i32_36
  let c1_i32_37 : BitVec 32 := 1#32
  let c0_i32_38 : BitVec 32 := 0#32
  let v45 : BitVec 32 := Scalar.select v44 c1_i32_37 c0_i32_38
  let v46 : BitVec 32 := Scalar.addi v40 v45
  let c3_i32_42 : BitVec 32 := 3#32
  let v50 : BitVec 1 := Scalar.cmpi .eq v28 c3_i32_42
  let c2_i32_43 : BitVec 32 := 2#32
  let c0_i32_44 : BitVec 32 := 0#32
  let v51 : BitVec 32 := Scalar.select v50 c2_i32_43 c0_i32_44
  let v52 : BitVec 32 := Scalar.addi v46 v51
  let c4_i32_48 : BitVec 32 := 4#32
  let v56 : BitVec 1 := Scalar.cmpi .eq v28 c4_i32_48
  let c5_i32_49 : BitVec 32 := 5#32
  let c0_i32_50 : BitVec 32 := 0#32
  let v57 : BitVec 32 := Scalar.select v56 c5_i32_49 c0_i32_50
  let v58 : BitVec 32 := Scalar.addi v52 v57
  let c5_i32_54 : BitVec 32 := 5#32
  let v62 : BitVec 1 := Scalar.cmpi .eq v28 c5_i32_54
  let c6_i32_55 : BitVec 32 := 6#32
  let c0_i32_56 : BitVec 32 := 0#32
  let v63 : BitVec 32 := Scalar.select v62 c6_i32_55 c0_i32_56
  let v64 : BitVec 32 := Scalar.addi v58 v63
  let c6_i32_60 : BitVec 32 := 6#32
  let v68 : BitVec 1 := Scalar.cmpi .eq v28 c6_i32_60
  let c7_i32_61 : BitVec 32 := 7#32
  let c0_i32_62 : BitVec 32 := 0#32
  let v69 : BitVec 32 := Scalar.select v68 c7_i32_61 c0_i32_62
  let v70 : BitVec 32 := Scalar.addi v64 v69
  let c7_i32_66 : BitVec 32 := 7#32
  let v74 : BitVec 1 := Scalar.cmpi .eq v28 c7_i32_66
  let c4_i32_67 : BitVec 32 := 4#32
  let c0_i32_68 : BitVec 32 := 0#32
  let v75 : BitVec 32 := Scalar.select v74 c4_i32_67 c0_i32_68
  let v76 : BitVec 32 := Scalar.addi v70 v75
  let v80 : BitVec 32 := Scalar.addi v79 v76
  let c1_i32_1357 : BitVec 32 := 1#32
  let v1350 : BitVec 32 := Scalar.muli v80 c1_i32_1357
  let v1351 : BitVec 32 := Scalar.addi c0_i32_1358 v1350
  v1351.toNat
def k0_dev36 (d0 : Dev nD) : Nat :=
  let c0_i32_1440 : BitVec 32 := 0#32
  let c8_i32_69 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let v77 : BitVec 32 := Scalar.muli c8_i32_69 v3
  let c0_i32_22 : BitVec 32 := 0#32
  let c0_i32_3 : BitVec 32 := 0#32
  let c8_i32_0 : BitVec 32 := 8#32
  let v4 : BitVec 32 := Scalar.remsi v2 c8_i32_0
  let c0_i32 : BitVec 32 := 0#32
  let v5 : BitVec 1 := Scalar.cmpi .eq v4 c0_i32
  let c0_i32_1 : BitVec 32 := 0#32
  let c0_i32_2 : BitVec 32 := 0#32
  let v6 : BitVec 32 := Scalar.select v5 c0_i32_1 c0_i32_2
  let v7 : BitVec 32 := Scalar.addi c0_i32_3 v6
  let c1_i32_4 : BitVec 32 := 1#32
  let v8 : BitVec 1 := Scalar.cmpi .eq v4 c1_i32_4
  let c1_i32_5 : BitVec 32 := 1#32
  let c0_i32_6 : BitVec 32 := 0#32
  let v9 : BitVec 32 := Scalar.select v8 c1_i32_5 c0_i32_6
  let v10 : BitVec 32 := Scalar.addi v7 v9
  let c2_i32 : BitVec 32 := 2#32
  let v11 : BitVec 1 := Scalar.cmpi .eq v4 c2_i32
  let c2_i32_7 : BitVec 32 := 2#32
  let c0_i32_8 : BitVec 32 := 0#32
  let v12 : BitVec 32 := Scalar.select v11 c2_i32_7 c0_i32_8
  let v13 : BitVec 32 := Scalar.addi v10 v12
  let c5_i32 : BitVec 32 := 5#32
  let v14 : BitVec 1 := Scalar.cmpi .eq v4 c5_i32
  let c3_i32 : BitVec 32 := 3#32
  let c0_i32_9 : BitVec 32 := 0#32
  let v15 : BitVec 32 := Scalar.select v14 c3_i32 c0_i32_9
  let v16 : BitVec 32 := Scalar.addi v13 v15
  let c6_i32 : BitVec 32 := 6#32
  let v17 : BitVec 1 := Scalar.cmpi .eq v4 c6_i32
  let c4_i32 : BitVec 32 := 4#32
  let c0_i32_10 : BitVec 32 := 0#32
  let v18 : BitVec 32 := Scalar.select v17 c4_i32 c0_i32_10
  let v19 : BitVec 32 := Scalar.addi v16 v18
  let c7_i32 : BitVec 32 := 7#32
  let v20 : BitVec 1 := Scalar.cmpi .eq v4 c7_i32
  let c5_i32_11 : BitVec 32 := 5#32
  let c0_i32_12 : BitVec 32 := 0#32
  let v21 : BitVec 32 := Scalar.select v20 c5_i32_11 c0_i32_12
  let v22 : BitVec 32 := Scalar.addi v19 v21
  let c4_i32_13 : BitVec 32 := 4#32
  let v23 : BitVec 1 := Scalar.cmpi .eq v4 c4_i32_13
  let c6_i32_14 : BitVec 32 := 6#32
  let c0_i32_15 : BitVec 32 := 0#32
  let v24 : BitVec 32 := Scalar.select v23 c6_i32_14 c0_i32_15
  let v25 : BitVec 32 := Scalar.addi v22 v24
  let c3_i32_16 : BitVec 32 := 3#32
  let v26 : BitVec 1 := Scalar.cmpi .eq v4 c3_i32_16
  let c7_i32_17 : BitVec 32 := 7#32
  let c0_i32_18 : BitVec 32 := 0#32
  let v27 : BitVec 32 := Scalar.select v26 c7_i32_17 c0_i32_18
  let v28 : BitVec 32 := Scalar.addi v25 v27
  let c0_i32_19 : BitVec 32 := 0#32
  let v29 : BitVec 1 := Scalar.cmpi .eq v28 c0_i32_19
  let c1_i32_20 : BitVec 32 := 1#32
  let c0_i32_21 : BitVec 32 := 0#32
  let v30 : BitVec 32 := Scalar.select v29 c1_i32_20 c0_i32_21
  let v31 : BitVec 32 := Scalar.addi c0_i32_22 v30
  let c1_i32_27 : BitVec 32 := 1#32
  let v35 : BitVec 1 := Scalar.cmpi .eq v28 c1_i32_27
  let c2_i32_28 : BitVec 32 := 2#32
  let c0_i32_29 : BitVec 32 := 0#32
  let v36 : BitVec 32 := Scalar.select v35 c2_i32_28 c0_i32_29
  let v37 : BitVec 32 := Scalar.addi v31 v36
  let c2_i32_33 : BitVec 32 := 2#32
  let v41 : BitVec 1 := Scalar.cmpi .eq v28 c2_i32_33
  let c5_i32_34 : BitVec 32 := 5#32
  let c0_i32_35 : BitVec 32 := 0#32
  let v42 : BitVec 32 := Scalar.select v41 c5_i32_34 c0_i32_35
  let v43 : BitVec 32 := Scalar.addi v37 v42
  let c3_i32_39 : BitVec 32 := 3#32
  let v47 : BitVec 1 := Scalar.cmpi .eq v28 c3_i32_39
  let c6_i32_40 : BitVec 32 := 6#32
  let c0_i32_41 : BitVec 32 := 0#32
  let v48 : BitVec 32 := Scalar.select v47 c6_i32_40 c0_i32_41
  let v49 : BitVec 32 := Scalar.addi v43 v48
  let c4_i32_45 : BitVec 32 := 4#32
  let v53 : BitVec 1 := Scalar.cmpi .eq v28 c4_i32_45
  let c7_i32_46 : BitVec 32 := 7#32
  let c0_i32_47 : BitVec 32 := 0#32
  let v54 : BitVec 32 := Scalar.select v53 c7_i32_46 c0_i32_47
  let v55 : BitVec 32 := Scalar.addi v49 v54
  let c5_i32_51 : BitVec 32 := 5#32
  let v59 : BitVec 1 := Scalar.cmpi .eq v28 c5_i32_51
  let c4_i32_52 : BitVec 32 := 4#32
  let c0_i32_53 : BitVec 32 := 0#32
  let v60 : BitVec 32 := Scalar.select v59 c4_i32_52 c0_i32_53
  let v61 : BitVec 32 := Scalar.addi v55 v60
  let c6_i32_57 : BitVec 32 := 6#32
  let v65 : BitVec 1 := Scalar.cmpi .eq v28 c6_i32_57
  let c3_i32_58 : BitVec 32 := 3#32
  let c0_i32_59 : BitVec 32 := 0#32
  let v66 : BitVec 32 := Scalar.select v65 c3_i32_58 c0_i32_59
  let v67 : BitVec 32 := Scalar.addi v61 v66
  let c7_i32_63 : BitVec 32 := 7#32
  let v71 : BitVec 1 := Scalar.cmpi .eq v28 c7_i32_63
  let c0_i32_64 : BitVec 32 := 0#32
  let c0_i32_65 : BitVec 32 := 0#32
  let v72 : BitVec 32 := Scalar.select v71 c0_i32_64 c0_i32_65
  let v73 : BitVec 32 := Scalar.addi v67 v72
  let v78 : BitVec 32 := Scalar.addi v77 v73
  let c1_i32_1439 : BitVec 32 := 1#32
  let v1426 : BitVec 32 := Scalar.muli v78 c1_i32_1439
  let v1427 : BitVec 32 := Scalar.addi c0_i32_1440 v1426
  v1427.toNat
def k0_dev37 (d0 : Dev nD) : Nat :=
  let c0_i32_1450 : BitVec 32 := 0#32
  let c8_i32_70 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let v79 : BitVec 32 := Scalar.muli c8_i32_70 v3
  let c0_i32_26 : BitVec 32 := 0#32
  let c0_i32_3 : BitVec 32 := 0#32
  let c8_i32_0 : BitVec 32 := 8#32
  let v4 : BitVec 32 := Scalar.remsi v2 c8_i32_0
  let c0_i32 : BitVec 32 := 0#32
  let v5 : BitVec 1 := Scalar.cmpi .eq v4 c0_i32
  let c0_i32_1 : BitVec 32 := 0#32
  let c0_i32_2 : BitVec 32 := 0#32
  let v6 : BitVec 32 := Scalar.select v5 c0_i32_1 c0_i32_2
  let v7 : BitVec 32 := Scalar.addi c0_i32_3 v6
  let c1_i32_4 : BitVec 32 := 1#32
  let v8 : BitVec 1 := Scalar.cmpi .eq v4 c1_i32_4
  let c1_i32_5 : BitVec 32 := 1#32
  let c0_i32_6 : BitVec 32 := 0#32
  let v9 : BitVec 32 := Scalar.select v8 c1_i32_5 c0_i32_6
  let v10 : BitVec 32 := Scalar.addi v7 v9
  let c2_i32 : BitVec 32 := 2#32
  let v11 : BitVec 1 := Scalar.cmpi .eq v4 c2_i32
  let c2_i32_7 : BitVec 32 := 2#32
  let c0_i32_8 : BitVec 32 := 0#32
  let v12 : BitVec 32 := Scalar.select v11 c2_i32_7 c0_i32_8
  let v13 : BitVec 32 := Scalar.addi v10 v12
  let c5_i32 : BitVec 32 := 5#32
  let v14 : BitVec 1 := Scalar.cmpi .eq v4 c5_i32
  let c3_i32 : BitVec 32 := 3#32
  let c0_i32_9 : BitVec 32 := 0#32
  let v15 : BitVec 32 := Scalar.select v14 c3_i32 c0_i32_9
  let v16 : BitVec 32 := Scalar.addi v13 v15
  let c6_i32 : BitVec 32 := 6#32
  let v17 : BitVec 1 := Scalar.cmpi .eq v4 c6_i32
  let c4_i32 : BitVec 32 := 4#32
  let c0_i32_10 : BitVec 32 := 0#32
  let v18 : BitVec 32 := Scalar.select v17 c4_i32 c0_i32_10
  let v19 : BitVec 32 := Scalar.addi v16 v18
  let c7_i32 : BitVec 32 := 7#32
  let v20 : BitVec 1 := Scalar.cmpi .eq v4 c7_i32
  let c5_i32_11 : BitVec 32 := 5#32
  let c0_i32_12 : BitVec 32 := 0#32
  let v21 : BitVec 32 := Scalar.select v20 c5_i32_11 c0_i32_12
  let v22 : BitVec 32 := Scalar.addi v19 v21
  let c4_i32_13 : BitVec 32 := 4#32
  let v23 : BitVec 1 := Scalar.cmpi .eq v4 c4_i32_13
  let c6_i32_14 : BitVec 32 := 6#32
  let c0_i32_15 : BitVec 32 := 0#32
  let v24 : BitVec 32 := Scalar.select v23 c6_i32_14 c0_i32_15
  let v25 : BitVec 32 := Scalar.addi v22 v24
  let c3_i32_16 : BitVec 32 := 3#32
  let v26 : BitVec 1 := Scalar.cmpi .eq v4 c3_i32_16
  let c7_i32_17 : BitVec 32 := 7#32
  let c0_i32_18 : BitVec 32 := 0#32
  let v27 : BitVec 32 := Scalar.select v26 c7_i32_17 c0_i32_18
  let v28 : BitVec 32 := Scalar.addi v25 v27
  let c0_i32_23 : BitVec 32 := 0#32
  let v32 : BitVec 1 := Scalar.cmpi .eq v28 c0_i32_23
  let c3_i32_24 : BitVec 32 := 3#32
  let c0_i32_25 : BitVec 32 := 0#32
  let v33 : BitVec 32 := Scalar.select v32 c3_i32_24 c0_i32_25
  let v34 : BitVec 32 := Scalar.addi c0_i32_26 v33
  let c1_i32_30 : BitVec 32 := 1#32
  let v38 : BitVec 1 := Scalar.cmpi .eq v28 c1_i32_30
  let c0_i32_31 : BitVec 32 := 0#32
  let c0_i32_32 : BitVec 32 := 0#32
  let v39 : BitVec 32 := Scalar.select v38 c0_i32_31 c0_i32_32
  let v40 : BitVec 32 := Scalar.addi v34 v39
  let c2_i32_36 : BitVec 32 := 2#32
  let v44 : BitVec 1 := Scalar.cmpi .eq v28 c2_i32_36
  let c1_i32_37 : BitVec 32 := 1#32
  let c0_i32_38 : BitVec 32 := 0#32
  let v45 : BitVec 32 := Scalar.select v44 c1_i32_37 c0_i32_38
  let v46 : BitVec 32 := Scalar.addi v40 v45
  let c3_i32_42 : BitVec 32 := 3#32
  let v50 : BitVec 1 := Scalar.cmpi .eq v28 c3_i32_42
  let c2_i32_43 : BitVec 32 := 2#32
  let c0_i32_44 : BitVec 32 := 0#32
  let v51 : BitVec 32 := Scalar.select v50 c2_i32_43 c0_i32_44
  let v52 : BitVec 32 := Scalar.addi v46 v51
  let c4_i32_48 : BitVec 32 := 4#32
  let v56 : BitVec 1 := Scalar.cmpi .eq v28 c4_i32_48
  let c5_i32_49 : BitVec 32 := 5#32
  let c0_i32_50 : BitVec 32 := 0#32
  let v57 : BitVec 32 := Scalar.select v56 c5_i32_49 c0_i32_50
  let v58 : BitVec 32 := Scalar.addi v52 v57
  let c5_i32_54 : BitVec 32 := 5#32
  let v62 : BitVec 1 := Scalar.cmpi .eq v28 c5_i32_54
  let c6_i32_55 : BitVec 32 := 6#32
  let c0_i32_56 : BitVec 32 := 0#32
  let v63 : BitVec 32 := Scalar.select v62 c6_i32_55 c0_i32_56
  let v64 : BitVec 32 := Scalar.addi v58 v63
  let c6_i32_60 : BitVec 32 := 6#32
  let v68 : BitVec 1 := Scalar.cmpi .eq v28 c6_i32_60
  let c7_i32_61 : BitVec 32 := 7#32
  let c0_i32_62 : BitVec 32 := 0#32
  let v69 : BitVec 32 := Scalar.select v68 c7_i32_61 c0_i32_62
  let v70 : BitVec 32 := Scalar.addi v64 v69
  let c7_i32_66 : BitVec 32 := 7#32
  let v74 : BitVec 1 := Scalar.cmpi .eq v28 c7_i32_66
  let c4_i32_67 : BitVec 32 := 4#32
  let c0_i32_68 : BitVec 32 := 0#32
  let v75 : BitVec 32 := Scalar.select v74 c4_i32_67 c0_i32_68
  let v76 : BitVec 32 := Scalar.addi v70 v75
  let v80 : BitVec 32 := Scalar.addi v79 v76
  let c1_i32_1449 : BitVec 32 := 1#32
  let v1436 : BitVec 32 := Scalar.muli v80 c1_i32_1449
  let v1437 : BitVec 32 := Scalar.addi c0_i32_1450 v1436
  v1437.toNat
def k0_dev38 (d0 : Dev nD) : Nat :=
  let c0_i32_1532 : BitVec 32 := 0#32
  let c8_i32_69 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let v77 : BitVec 32 := Scalar.muli c8_i32_69 v3
  let c0_i32_22 : BitVec 32 := 0#32
  let c0_i32_3 : BitVec 32 := 0#32
  let c8_i32_0 : BitVec 32 := 8#32
  let v4 : BitVec 32 := Scalar.remsi v2 c8_i32_0
  let c0_i32 : BitVec 32 := 0#32
  let v5 : BitVec 1 := Scalar.cmpi .eq v4 c0_i32
  let c0_i32_1 : BitVec 32 := 0#32
  let c0_i32_2 : BitVec 32 := 0#32
  let v6 : BitVec 32 := Scalar.select v5 c0_i32_1 c0_i32_2
  let v7 : BitVec 32 := Scalar.addi c0_i32_3 v6
  let c1_i32_4 : BitVec 32 := 1#32
  let v8 : BitVec 1 := Scalar.cmpi .eq v4 c1_i32_4
  let c1_i32_5 : BitVec 32 := 1#32
  let c0_i32_6 : BitVec 32 := 0#32
  let v9 : BitVec 32 := Scalar.select v8 c1_i32_5 c0_i32_6
  let v10 : BitVec 32 := Scalar.addi v7 v9
  let c2_i32 : BitVec 32 := 2#32
  let v11 : BitVec 1 := Scalar.cmpi .eq v4 c2_i32
  let c2_i32_7 : BitVec 32 := 2#32
  let c0_i32_8 : BitVec 32 := 0#32
  let v12 : BitVec 32 := Scalar.select v11 c2_i32_7 c0_i32_8
  let v13 : BitVec 32 := Scalar.addi v10 v12
  let c5_i32 : BitVec 32 := 5#32
  let v14 : BitVec 1 := Scalar.cmpi .eq v4 c5_i32
  let c3_i32 : BitVec 32 := 3#32
  let c0_i32_9 : BitVec 32 := 0#32
  let v15 : BitVec 32 := Scalar.select v14 c3_i32 c0_i32_9
  let v16 : BitVec 32 := Scalar.addi v13 v15
  let c6_i32 : BitVec 32 := 6#32
  let v17 : BitVec 1 := Scalar.cmpi .eq v4 c6_i32
  let c4_i32 : BitVec 32 := 4#32
  let c0_i32_10 : BitVec 32 := 0#32
  let v18 : BitVec 32 := Scalar.select v17 c4_i32 c0_i32_10
  let v19 : BitVec 32 := Scalar.addi v16 v18
  let c7_i32 : BitVec 32 := 7#32
  let v20 : BitVec 1 := Scalar.cmpi .eq v4 c7_i32
  let c5_i32_11 : BitVec 32 := 5#32
  let c0_i32_12 : BitVec 32 := 0#32
  let v21 : BitVec 32 := Scalar.select v20 c5_i32_11 c0_i32_12
  let v22 : BitVec 32 := Scalar.addi v19 v21
  let c4_i32_13 : BitVec 32 := 4#32
  let v23 : BitVec 1 := Scalar.cmpi .eq v4 c4_i32_13
  let c6_i32_14 : BitVec 32 := 6#32
  let c0_i32_15 : BitVec 32 := 0#32
  let v24 : BitVec 32 := Scalar.select v23 c6_i32_14 c0_i32_15
  let v25 : BitVec 32 := Scalar.addi v22 v24
  let c3_i32_16 : BitVec 32 := 3#32
  let v26 : BitVec 1 := Scalar.cmpi .eq v4 c3_i32_16
  let c7_i32_17 : BitVec 32 := 7#32
  let c0_i32_18 : BitVec 32 := 0#32
  let v27 : BitVec 32 := Scalar.select v26 c7_i32_17 c0_i32_18
  let v28 : BitVec 32 := Scalar.addi v25 v27
  let c0_i32_19 : BitVec 32 := 0#32
  let v29 : BitVec 1 := Scalar.cmpi .eq v28 c0_i32_19
  let c1_i32_20 : BitVec 32 := 1#32
  let c0_i32_21 : BitVec 32 := 0#32
  let v30 : BitVec 32 := Scalar.select v29 c1_i32_20 c0_i32_21
  let v31 : BitVec 32 := Scalar.addi c0_i32_22 v30
  let c1_i32_27 : BitVec 32 := 1#32
  let v35 : BitVec 1 := Scalar.cmpi .eq v28 c1_i32_27
  let c2_i32_28 : BitVec 32 := 2#32
  let c0_i32_29 : BitVec 32 := 0#32
  let v36 : BitVec 32 := Scalar.select v35 c2_i32_28 c0_i32_29
  let v37 : BitVec 32 := Scalar.addi v31 v36
  let c2_i32_33 : BitVec 32 := 2#32
  let v41 : BitVec 1 := Scalar.cmpi .eq v28 c2_i32_33
  let c5_i32_34 : BitVec 32 := 5#32
  let c0_i32_35 : BitVec 32 := 0#32
  let v42 : BitVec 32 := Scalar.select v41 c5_i32_34 c0_i32_35
  let v43 : BitVec 32 := Scalar.addi v37 v42
  let c3_i32_39 : BitVec 32 := 3#32
  let v47 : BitVec 1 := Scalar.cmpi .eq v28 c3_i32_39
  let c6_i32_40 : BitVec 32 := 6#32
  let c0_i32_41 : BitVec 32 := 0#32
  let v48 : BitVec 32 := Scalar.select v47 c6_i32_40 c0_i32_41
  let v49 : BitVec 32 := Scalar.addi v43 v48
  let c4_i32_45 : BitVec 32 := 4#32
  let v53 : BitVec 1 := Scalar.cmpi .eq v28 c4_i32_45
  let c7_i32_46 : BitVec 32 := 7#32
  let c0_i32_47 : BitVec 32 := 0#32
  let v54 : BitVec 32 := Scalar.select v53 c7_i32_46 c0_i32_47
  let v55 : BitVec 32 := Scalar.addi v49 v54
  let c5_i32_51 : BitVec 32 := 5#32
  let v59 : BitVec 1 := Scalar.cmpi .eq v28 c5_i32_51
  let c4_i32_52 : BitVec 32 := 4#32
  let c0_i32_53 : BitVec 32 := 0#32
  let v60 : BitVec 32 := Scalar.select v59 c4_i32_52 c0_i32_53
  let v61 : BitVec 32 := Scalar.addi v55 v60
  let c6_i32_57 : BitVec 32 := 6#32
  let v65 : BitVec 1 := Scalar.cmpi .eq v28 c6_i32_57
  let c3_i32_58 : BitVec 32 := 3#32
  let c0_i32_59 : BitVec 32 := 0#32
  let v66 : BitVec 32 := Scalar.select v65 c3_i32_58 c0_i32_59
  let v67 : BitVec 32 := Scalar.addi v61 v66
  let c7_i32_63 : BitVec 32 := 7#32
  let v71 : BitVec 1 := Scalar.cmpi .eq v28 c7_i32_63
  let c0_i32_64 : BitVec 32 := 0#32
  let c0_i32_65 : BitVec 32 := 0#32
  let v72 : BitVec 32 := Scalar.select v71 c0_i32_64 c0_i32_65
  let v73 : BitVec 32 := Scalar.addi v67 v72
  let v78 : BitVec 32 := Scalar.addi v77 v73
  let c1_i32_1531 : BitVec 32 := 1#32
  let v1512 : BitVec 32 := Scalar.muli v78 c1_i32_1531
  let v1513 : BitVec 32 := Scalar.addi c0_i32_1532 v1512
  v1513.toNat
def k0_dev39 (d0 : Dev nD) : Nat :=
  let c0_i32_1542 : BitVec 32 := 0#32
  let c8_i32_70 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let v79 : BitVec 32 := Scalar.muli c8_i32_70 v3
  let c0_i32_26 : BitVec 32 := 0#32
  let c0_i32_3 : BitVec 32 := 0#32
  let c8_i32_0 : BitVec 32 := 8#32
  let v4 : BitVec 32 := Scalar.remsi v2 c8_i32_0
  let c0_i32 : BitVec 32 := 0#32
  let v5 : BitVec 1 := Scalar.cmpi .eq v4 c0_i32
  let c0_i32_1 : BitVec 32 := 0#32
  let c0_i32_2 : BitVec 32 := 0#32
  let v6 : BitVec 32 := Scalar.select v5 c0_i32_1 c0_i32_2
  let v7 : BitVec 32 := Scalar.addi c0_i32_3 v6
  let c1_i32_4 : BitVec 32 := 1#32
  let v8 : BitVec 1 := Scalar.cmpi .eq v4 c1_i32_4
  let c1_i32_5 : BitVec 32 := 1#32
  let c0_i32_6 : BitVec 32 := 0#32
  let v9 : BitVec 32 := Scalar.select v8 c1_i32_5 c0_i32_6
  let v10 : BitVec 32 := Scalar.addi v7 v9
  let c2_i32 : BitVec 32 := 2#32
  let v11 : BitVec 1 := Scalar.cmpi .eq v4 c2_i32
  let c2_i32_7 : BitVec 32 := 2#32
  let c0_i32_8 : BitVec 32 := 0#32
  let v12 : BitVec 32 := Scalar.select v11 c2_i32_7 c0_i32_8
  let v13 : BitVec 32 := Scalar.addi v10 v12
  let c5_i32 : BitVec 32 := 5#32
  let v14 : BitVec 1 := Scalar.cmpi .eq v4 c5_i32
  let c3_i32 : BitVec 32 := 3#32
  let c0_i32_9 : BitVec 32 := 0#32
  let v15 : BitVec 32 := Scalar.select v14 c3_i32 c0_i32_9
  let v16 : BitVec 32 := Scalar.addi v13 v15
  let c6_i32 : BitVec 32 := 6#32
  let v17 : BitVec 1 := Scalar.cmpi .eq v4 c6_i32
  let c4_i32 : BitVec 32 := 4#32
  let c0_i32_10 : BitVec 32 := 0#32
  let v18 : BitVec 32 := Scalar.select v17 c4_i32 c0_i32_10
  let v19 : BitVec 32 := Scalar.addi v16 v18
  let c7_i32 : BitVec 32 := 7#32
  let v20 : BitVec 1 := Scalar.cmpi .eq v4 c7_i32
  let c5_i32_11 : BitVec 32 := 5#32
  let c0_i32_12 : BitVec 32 := 0#32
  let v21 : BitVec 32 := Scalar.select v20 c5_i32_11 c0_i32_12
  let v22 : BitVec 32 := Scalar.addi v19 v21
  let c4_i32_13 : BitVec 32 := 4#32
  let v23 : BitVec 1 := Scalar.cmpi .eq v4 c4_i32_13
  let c6_i32_14 : BitVec 32 := 6#32
  let c0_i32_15 : BitVec 32 := 0#32
  let v24 : BitVec 32 := Scalar.select v23 c6_i32_14 c0_i32_15
  let v25 : BitVec 32 := Scalar.addi v22 v24
  let c3_i32_16 : BitVec 32 := 3#32
  let v26 : BitVec 1 := Scalar.cmpi .eq v4 c3_i32_16
  let c7_i32_17 : BitVec 32 := 7#32
  let c0_i32_18 : BitVec 32 := 0#32
  let v27 : BitVec 32 := Scalar.select v26 c7_i32_17 c0_i32_18
  let v28 : BitVec 32 := Scalar.addi v25 v27
  let c0_i32_23 : BitVec 32 := 0#32
  let v32 : BitVec 1 := Scalar.cmpi .eq v28 c0_i32_23
  let c3_i32_24 : BitVec 32 := 3#32
  let c0_i32_25 : BitVec 32 := 0#32
  let v33 : BitVec 32 := Scalar.select v32 c3_i32_24 c0_i32_25
  let v34 : BitVec 32 := Scalar.addi c0_i32_26 v33
  let c1_i32_30 : BitVec 32 := 1#32
  let v38 : BitVec 1 := Scalar.cmpi .eq v28 c1_i32_30
  let c0_i32_31 : BitVec 32 := 0#32
  let c0_i32_32 : BitVec 32 := 0#32
  let v39 : BitVec 32 := Scalar.select v38 c0_i32_31 c0_i32_32
  let v40 : BitVec 32 := Scalar.addi v34 v39
  let c2_i32_36 : BitVec 32 := 2#32
  let v44 : BitVec 1 := Scalar.cmpi .eq v28 c2_i32_36
  let c1_i32_37 : BitVec 32 := 1#32
  let c0_i32_38 : BitVec 32 := 0#32
  let v45 : BitVec 32 := Scalar.select v44 c1_i32_37 c0_i32_38
  let v46 : BitVec 32 := Scalar.addi v40 v45
  let c3_i32_42 : BitVec 32 := 3#32
  let v50 : BitVec 1 := Scalar.cmpi .eq v28 c3_i32_42
  let c2_i32_43 : BitVec 32 := 2#32
  let c0_i32_44 : BitVec 32 := 0#32
  let v51 : BitVec 32 := Scalar.select v50 c2_i32_43 c0_i32_44
  let v52 : BitVec 32 := Scalar.addi v46 v51
  let c4_i32_48 : BitVec 32 := 4#32
  let v56 : BitVec 1 := Scalar.cmpi .eq v28 c4_i32_48
  let c5_i32_49 : BitVec 32 := 5#32
  let c0_i32_50 : BitVec 32 := 0#32
  let v57 : BitVec 32 := Scalar.select v56 c5_i32_49 c0_i32_50
  let v58 : BitVec 32 := Scalar.addi v52 v57
  let c5_i32_54 : BitVec 32 := 5#32
  let v62 : BitVec 1 := Scalar.cmpi .eq v28 c5_i32_54
  let c6_i32_55 : BitVec 32 := 6#32
  let c0_i32_56 : BitVec 32 := 0#32
  let v63 : BitVec 32 := Scalar.select v62 c6_i32_55 c0_i32_56
  let v64 : BitVec 32 := Scalar.addi v58 v63
  let c6_i32_60 : BitVec 32 := 6#32
  let v68 : BitVec 1 := Scalar.cmpi .eq v28 c6_i32_60
  let c7_i32_61 : BitVec 32 := 7#32
  let c0_i32_62 : BitVec 32 := 0#32
  let v69 : BitVec 32 := Scalar.select v68 c7_i32_61 c0_i32_62
  let v70 : BitVec 32 := Scalar.addi v64 v69
  let c7_i32_66 : BitVec 32 := 7#32
  let v74 : BitVec 1 := Scalar.cmpi .eq v28 c7_i32_66
  let c4_i32_67 : BitVec 32 := 4#32
  let c0_i32_68 : BitVec 32 := 0#32
  let v75 : BitVec 32 := Scalar.select v74 c4_i32_67 c0_i32_68
  let v76 : BitVec 32 := Scalar.addi v70 v75
  let v80 : BitVec 32 := Scalar.addi v79 v76
  let c1_i32_1541 : BitVec 32 := 1#32
  let v1522 : BitVec 32 := Scalar.muli v80 c1_i32_1541
  let v1523 : BitVec 32 := Scalar.addi c0_i32_1542 v1522
  v1523.toNat
def k0_dev40 (d0 : Dev nD) : Nat :=
  let c0_i32_1624 : BitVec 32 := 0#32
  let c8_i32_69 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let v77 : BitVec 32 := Scalar.muli c8_i32_69 v3
  let c0_i32_22 : BitVec 32 := 0#32
  let c0_i32_3 : BitVec 32 := 0#32
  let c8_i32_0 : BitVec 32 := 8#32
  let v4 : BitVec 32 := Scalar.remsi v2 c8_i32_0
  let c0_i32 : BitVec 32 := 0#32
  let v5 : BitVec 1 := Scalar.cmpi .eq v4 c0_i32
  let c0_i32_1 : BitVec 32 := 0#32
  let c0_i32_2 : BitVec 32 := 0#32
  let v6 : BitVec 32 := Scalar.select v5 c0_i32_1 c0_i32_2
  let v7 : BitVec 32 := Scalar.addi c0_i32_3 v6
  let c1_i32_4 : BitVec 32 := 1#32
  let v8 : BitVec 1 := Scalar.cmpi .eq v4 c1_i32_4
  let c1_i32_5 : BitVec 32 := 1#32
  let c0_i32_6 : BitVec 32 := 0#32
  let v9 : BitVec 32 := Scalar.select v8 c1_i32_5 c0_i32_6
  let v10 : BitVec 32 := Scalar.addi v7 v9
  let c2_i32 : BitVec 32 := 2#32
  let v11 : BitVec 1 := Scalar.cmpi .eq v4 c2_i32
  let c2_i32_7 : BitVec 32 := 2#32
  let c0_i32_8 : BitVec 32 := 0#32
  let v12 : BitVec 32 := Scalar.select v11 c2_i32_7 c0_i32_8
  let v13 : BitVec 32 := Scalar.addi v10 v12
  let c5_i32 : BitVec 32 := 5#32
  let v14 : BitVec 1 := Scalar.cmpi .eq v4 c5_i32
  let c3_i32 : BitVec 32 := 3#32
  let c0_i32_9 : BitVec 32 := 0#32
  let v15 : BitVec 32 := Scalar.select v14 c3_i32 c0_i32_9
  let v16 : BitVec 32 := Scalar.addi v13 v15
  let c6_i32 : BitVec 32 := 6#32
  let v17 : BitVec 1 := Scalar.cmpi .eq v4 c6_i32
  let c4_i32 : BitVec 32 := 4#32
  let c0_i32_10 : BitVec 32 := 0#32
  let v18 : BitVec 32 := Scalar.select v17 c4_i32 c0_i32_10
  let v19 : BitVec 32 := Scalar.addi v16 v18
  let c7_i32 : BitVec 32 := 7#32
  let v20 : BitVec 1 := Scalar.cmpi .eq v4 c7_i32
  let c5_i32_11 : BitVec 32 := 5#32
  let c0_i32_12 : BitVec 32 := 0#32
  let v21 : BitVec 32 := Scalar.select v20 c5_i32_11 c0_i32_12
  let v22 : BitVec 32 := Scalar.addi v19 v21
  let c4_i32_13 : BitVec 32 := 4#32
  let v23 : BitVec 1 := Scalar.cmpi .eq v4 c4_i32_13
  let c6_i32_14 : BitVec 32 := 6#32
  let c0_i32_15 : BitVec 32 := 0#32
  let v24 : BitVec 32 := Scalar.select v23 c6_i32_14 c0_i32_15
  let v25 : BitVec 32 := Scalar.addi v22 v24
  let c3_i32_16 : BitVec 32 := 3#32
  let v26 : BitVec 1 := Scalar.cmpi .eq v4 c3_i32_16
  let c7_i32_17 : BitVec 32 := 7#32
  let c0_i32_18 : BitVec 32 := 0#32
  let v27 : BitVec 32 := Scalar.select v26 c7_i32_17 c0_i32_18
  let v28 : BitVec 32 := Scalar.addi v25 v27
  let c0_i32_19 : BitVec 32 := 0#32
  let v29 : BitVec 1 := Scalar.cmpi .eq v28 c0_i32_19
  let c1_i32_20 : BitVec 32 := 1#32
  let c0_i32_21 : BitVec 32 := 0#32
  let v30 : BitVec 32 := Scalar.select v29 c1_i32_20 c0_i32_21
  let v31 : BitVec 32 := Scalar.addi c0_i32_22 v30
  let c1_i32_27 : BitVec 32 := 1#32
  let v35 : BitVec 1 := Scalar.cmpi .eq v28 c1_i32_27
  let c2_i32_28 : BitVec 32 := 2#32
  let c0_i32_29 : BitVec 32 := 0#32
  let v36 : BitVec 32 := Scalar.select v35 c2_i32_28 c0_i32_29
  let v37 : BitVec 32 := Scalar.addi v31 v36
  let c2_i32_33 : BitVec 32 := 2#32
  let v41 : BitVec 1 := Scalar.cmpi .eq v28 c2_i32_33
  let c5_i32_34 : BitVec 32 := 5#32
  let c0_i32_35 : BitVec 32 := 0#32
  let v42 : BitVec 32 := Scalar.select v41 c5_i32_34 c0_i32_35
  let v43 : BitVec 32 := Scalar.addi v37 v42
  let c3_i32_39 : BitVec 32 := 3#32
  let v47 : BitVec 1 := Scalar.cmpi .eq v28 c3_i32_39
  let c6_i32_40 : BitVec 32 := 6#32
  let c0_i32_41 : BitVec 32 := 0#32
  let v48 : BitVec 32 := Scalar.select v47 c6_i32_40 c0_i32_41
  let v49 : BitVec 32 := Scalar.addi v43 v48
  let c4_i32_45 : BitVec 32 := 4#32
  let v53 : BitVec 1 := Scalar.cmpi .eq v28 c4_i32_45
  let c7_i32_46 : BitVec 32 := 7#32
  let c0_i32_47 : BitVec 32 := 0#32
  let v54 : BitVec 32 := Scalar.select v53 c7_i32_46 c0_i32_47
  let v55 : BitVec 32 := Scalar.addi v49 v54
  let c5_i32_51 : BitVec 32 := 5#32
  let v59 : BitVec 1 := Scalar.cmpi .eq v28 c5_i32_51
  let c4_i32_52 : BitVec 32 := 4#32
  let c0_i32_53 : BitVec 32 := 0#32
  let v60 : BitVec 32 := Scalar.select v59 c4_i32_52 c0_i32_53
  let v61 : BitVec 32 := Scalar.addi v55 v60
  let c6_i32_57 : BitVec 32 := 6#32
  let v65 : BitVec 1 := Scalar.cmpi .eq v28 c6_i32_57
  let c3_i32_58 : BitVec 32 := 3#32
  let c0_i32_59 : BitVec 32 := 0#32
  let v66 : BitVec 32 := Scalar.select v65 c3_i32_58 c0_i32_59
  let v67 : BitVec 32 := Scalar.addi v61 v66
  let c7_i32_63 : BitVec 32 := 7#32
  let v71 : BitVec 1 := Scalar.cmpi .eq v28 c7_i32_63
  let c0_i32_64 : BitVec 32 := 0#32
  let c0_i32_65 : BitVec 32 := 0#32
  let v72 : BitVec 32 := Scalar.select v71 c0_i32_64 c0_i32_65
  let v73 : BitVec 32 := Scalar.addi v67 v72
  let v78 : BitVec 32 := Scalar.addi v77 v73
  let c1_i32_1623 : BitVec 32 := 1#32
  let v1598 : BitVec 32 := Scalar.muli v78 c1_i32_1623
  let v1599 : BitVec 32 := Scalar.addi c0_i32_1624 v1598
  v1599.toNat
def k0_dev41 (d0 : Dev nD) : Nat :=
  let c0_i32_1634 : BitVec 32 := 0#32
  let c8_i32_70 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let v79 : BitVec 32 := Scalar.muli c8_i32_70 v3
  let c0_i32_26 : BitVec 32 := 0#32
  let c0_i32_3 : BitVec 32 := 0#32
  let c8_i32_0 : BitVec 32 := 8#32
  let v4 : BitVec 32 := Scalar.remsi v2 c8_i32_0
  let c0_i32 : BitVec 32 := 0#32
  let v5 : BitVec 1 := Scalar.cmpi .eq v4 c0_i32
  let c0_i32_1 : BitVec 32 := 0#32
  let c0_i32_2 : BitVec 32 := 0#32
  let v6 : BitVec 32 := Scalar.select v5 c0_i32_1 c0_i32_2
  let v7 : BitVec 32 := Scalar.addi c0_i32_3 v6
  let c1_i32_4 : BitVec 32 := 1#32
  let v8 : BitVec 1 := Scalar.cmpi .eq v4 c1_i32_4
  let c1_i32_5 : BitVec 32 := 1#32
  let c0_i32_6 : BitVec 32 := 0#32
  let v9 : BitVec 32 := Scalar.select v8 c1_i32_5 c0_i32_6
  let v10 : BitVec 32 := Scalar.addi v7 v9
  let c2_i32 : BitVec 32 := 2#32
  let v11 : BitVec 1 := Scalar.cmpi .eq v4 c2_i32
  let c2_i32_7 : BitVec 32 := 2#32
  let c0_i32_8 : BitVec 32 := 0#32
  let v12 : BitVec 32 := Scalar.select v11 c2_i32_7 c0_i32_8
  let v13 : BitVec 32 := Scalar.addi v10 v12
  let c5_i32 : BitVec 32 := 5#32
  let v14 : BitVec 1 := Scalar.cmpi .eq v4 c5_i32
  let c3_i32 : BitVec 32 := 3#32
  let c0_i32_9 : BitVec 32 := 0#32
  let v15 : BitVec 32 := Scalar.select v14 c3_i32 c0_i32_9
  let v16 : BitVec 32 := Scalar.addi v13 v15
  let c6_i32 : BitVec 32 := 6#32
  let v17 : BitVec 1 := Scalar.cmpi .eq v4 c6_i32
  let c4_i32 : BitVec 32 := 4#32
  let c0_i32_10 : BitVec 32 := 0#32
  let v18 : BitVec 32 := Scalar.select v17 c4_i32 c0_i32_10
  let v19 : BitVec 32 := Scalar.addi v16 v18
  let c7_i32 : BitVec 32 := 7#32
  let v20 : BitVec 1 := Scalar.cmpi .eq v4 c7_i32
  let c5_i32_11 : BitVec 32 := 5#32
  let c0_i32_12 : BitVec 32 := 0#32
  let v21 : BitVec 32 := Scalar.select v20 c5_i32_11 c0_i32_12
  let v22 : BitVec 32 := Scalar.addi v19 v21
  let c4_i32_13 : BitVec 32 := 4#32
  let v23 : BitVec 1 := Scalar.cmpi .eq v4 c4_i32_13
  let c6_i32_14 : BitVec 32 := 6#32
  let c0_i32_15 : BitVec 32 := 0#32
  let v24 : BitVec 32 := Scalar.select v23 c6_i32_14 c0_i32_15
  let v25 : BitVec 32 := Scalar.addi v22 v24
  let c3_i32_16 : BitVec 32 := 3#32
  let v26 : BitVec 1 := Scalar.cmpi .eq v4 c3_i32_16
  let c7_i32_17 : BitVec 32 := 7#32
  let c0_i32_18 : BitVec 32 := 0#32
  let v27 : BitVec 32 := Scalar.select v26 c7_i32_17 c0_i32_18
  let v28 : BitVec 32 := Scalar.addi v25 v27
  let c0_i32_23 : BitVec 32 := 0#32
  let v32 : BitVec 1 := Scalar.cmpi .eq v28 c0_i32_23
  let c3_i32_24 : BitVec 32 := 3#32
  let c0_i32_25 : BitVec 32 := 0#32
  let v33 : BitVec 32 := Scalar.select v32 c3_i32_24 c0_i32_25
  let v34 : BitVec 32 := Scalar.addi c0_i32_26 v33
  let c1_i32_30 : BitVec 32 := 1#32
  let v38 : BitVec 1 := Scalar.cmpi .eq v28 c1_i32_30
  let c0_i32_31 : BitVec 32 := 0#32
  let c0_i32_32 : BitVec 32 := 0#32
  let v39 : BitVec 32 := Scalar.select v38 c0_i32_31 c0_i32_32
  let v40 : BitVec 32 := Scalar.addi v34 v39
  let c2_i32_36 : BitVec 32 := 2#32
  let v44 : BitVec 1 := Scalar.cmpi .eq v28 c2_i32_36
  let c1_i32_37 : BitVec 32 := 1#32
  let c0_i32_38 : BitVec 32 := 0#32
  let v45 : BitVec 32 := Scalar.select v44 c1_i32_37 c0_i32_38
  let v46 : BitVec 32 := Scalar.addi v40 v45
  let c3_i32_42 : BitVec 32 := 3#32
  let v50 : BitVec 1 := Scalar.cmpi .eq v28 c3_i32_42
  let c2_i32_43 : BitVec 32 := 2#32
  let c0_i32_44 : BitVec 32 := 0#32
  let v51 : BitVec 32 := Scalar.select v50 c2_i32_43 c0_i32_44
  let v52 : BitVec 32 := Scalar.addi v46 v51
  let c4_i32_48 : BitVec 32 := 4#32
  let v56 : BitVec 1 := Scalar.cmpi .eq v28 c4_i32_48
  let c5_i32_49 : BitVec 32 := 5#32
  let c0_i32_50 : BitVec 32 := 0#32
  let v57 : BitVec 32 := Scalar.select v56 c5_i32_49 c0_i32_50
  let v58 : BitVec 32 := Scalar.addi v52 v57
  let c5_i32_54 : BitVec 32 := 5#32
  let v62 : BitVec 1 := Scalar.cmpi .eq v28 c5_i32_54
  let c6_i32_55 : BitVec 32 := 6#32
  let c0_i32_56 : BitVec 32 := 0#32
  let v63 : BitVec 32 := Scalar.select v62 c6_i32_55 c0_i32_56
  let v64 : BitVec 32 := Scalar.addi v58 v63
  let c6_i32_60 : BitVec 32 := 6#32
  let v68 : BitVec 1 := Scalar.cmpi .eq v28 c6_i32_60
  let c7_i32_61 : BitVec 32 := 7#32
  let c0_i32_62 : BitVec 32 := 0#32
  let v69 : BitVec 32 := Scalar.select v68 c7_i32_61 c0_i32_62
  let v70 : BitVec 32 := Scalar.addi v64 v69
  let c7_i32_66 : BitVec 32 := 7#32
  let v74 : BitVec 1 := Scalar.cmpi .eq v28 c7_i32_66
  let c4_i32_67 : BitVec 32 := 4#32
  let c0_i32_68 : BitVec 32 := 0#32
  let v75 : BitVec 32 := Scalar.select v74 c4_i32_67 c0_i32_68
  let v76 : BitVec 32 := Scalar.addi v70 v75
  let v80 : BitVec 32 := Scalar.addi v79 v76
  let c1_i32_1633 : BitVec 32 := 1#32
  let v1608 : BitVec 32 := Scalar.muli v80 c1_i32_1633
  let v1609 : BitVec 32 := Scalar.addi c0_i32_1634 v1608
  v1609.toNat
def k0_dev42 (d0 : Dev nD) : Nat :=
  let c0_i32_1716 : BitVec 32 := 0#32
  let c8_i32_69 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let v77 : BitVec 32 := Scalar.muli c8_i32_69 v3
  let c0_i32_22 : BitVec 32 := 0#32
  let c0_i32_3 : BitVec 32 := 0#32
  let c8_i32_0 : BitVec 32 := 8#32
  let v4 : BitVec 32 := Scalar.remsi v2 c8_i32_0
  let c0_i32 : BitVec 32 := 0#32
  let v5 : BitVec 1 := Scalar.cmpi .eq v4 c0_i32
  let c0_i32_1 : BitVec 32 := 0#32
  let c0_i32_2 : BitVec 32 := 0#32
  let v6 : BitVec 32 := Scalar.select v5 c0_i32_1 c0_i32_2
  let v7 : BitVec 32 := Scalar.addi c0_i32_3 v6
  let c1_i32_4 : BitVec 32 := 1#32
  let v8 : BitVec 1 := Scalar.cmpi .eq v4 c1_i32_4
  let c1_i32_5 : BitVec 32 := 1#32
  let c0_i32_6 : BitVec 32 := 0#32
  let v9 : BitVec 32 := Scalar.select v8 c1_i32_5 c0_i32_6
  let v10 : BitVec 32 := Scalar.addi v7 v9
  let c2_i32 : BitVec 32 := 2#32
  let v11 : BitVec 1 := Scalar.cmpi .eq v4 c2_i32
  let c2_i32_7 : BitVec 32 := 2#32
  let c0_i32_8 : BitVec 32 := 0#32
  let v12 : BitVec 32 := Scalar.select v11 c2_i32_7 c0_i32_8
  let v13 : BitVec 32 := Scalar.addi v10 v12
  let c5_i32 : BitVec 32 := 5#32
  let v14 : BitVec 1 := Scalar.cmpi .eq v4 c5_i32
  let c3_i32 : BitVec 32 := 3#32
  let c0_i32_9 : BitVec 32 := 0#32
  let v15 : BitVec 32 := Scalar.select v14 c3_i32 c0_i32_9
  let v16 : BitVec 32 := Scalar.addi v13 v15
  let c6_i32 : BitVec 32 := 6#32
  let v17 : BitVec 1 := Scalar.cmpi .eq v4 c6_i32
  let c4_i32 : BitVec 32 := 4#32
  let c0_i32_10 : BitVec 32 := 0#32
  let v18 : BitVec 32 := Scalar.select v17 c4_i32 c0_i32_10
  let v19 : BitVec 32 := Scalar.addi v16 v18
  let c7_i32 : BitVec 32 := 7#32
  let v20 : BitVec 1 := Scalar.cmpi .eq v4 c7_i32
  let c5_i32_11 : BitVec 32 := 5#32
  let c0_i32_12 : BitVec 32 := 0#32
  let v21 : BitVec 32 := Scalar.select v20 c5_i32_11 c0_i32_12
  let v22 : BitVec 32 := Scalar.addi v19 v21
  let c4_i32_13 : BitVec 32 := 4#32
  let v23 : BitVec 1 := Scalar.cmpi .eq v4 c4_i32_13
  let c6_i32_14 : BitVec 32 := 6#32
  let c0_i32_15 : BitVec 32 := 0#32
  let v24 : BitVec 32 := Scalar.select v23 c6_i32_14 c0_i32_15
  let v25 : BitVec 32 := Scalar.addi v22 v24
  let c3_i32_16 : BitVec 32 := 3#32
  let v26 : BitVec 1 := Scalar.cmpi .eq v4 c3_i32_16
  let c7_i32_17 : BitVec 32 := 7#32
  let c0_i32_18 : BitVec 32 := 0#32
  let v27 : BitVec 32 := Scalar.select v26 c7_i32_17 c0_i32_18
  let v28 : BitVec 32 := Scalar.addi v25 v27
  let c0_i32_19 : BitVec 32 := 0#32
  let v29 : BitVec 1 := Scalar.cmpi .eq v28 c0_i32_19
  let c1_i32_20 : BitVec 32 := 1#32
  let c0_i32_21 : BitVec 32 := 0#32
  let v30 : BitVec 32 := Scalar.select v29 c1_i32_20 c0_i32_21
  let v31 : BitVec 32 := Scalar.addi c0_i32_22 v30
  let c1_i32_27 : BitVec 32 := 1#32
  let v35 : BitVec 1 := Scalar.cmpi .eq v28 c1_i32_27
  let c2_i32_28 : BitVec 32 := 2#32
  let c0_i32_29 : BitVec 32 := 0#32
  let v36 : BitVec 32 := Scalar.select v35 c2_i32_28 c0_i32_29
  let v37 : BitVec 32 := Scalar.addi v31 v36
  let c2_i32_33 : BitVec 32 := 2#32
  let v41 : BitVec 1 := Scalar.cmpi .eq v28 c2_i32_33
  let c5_i32_34 : BitVec 32 := 5#32
  let c0_i32_35 : BitVec 32 := 0#32
  let v42 : BitVec 32 := Scalar.select v41 c5_i32_34 c0_i32_35
  let v43 : BitVec 32 := Scalar.addi v37 v42
  let c3_i32_39 : BitVec 32 := 3#32
  let v47 : BitVec 1 := Scalar.cmpi .eq v28 c3_i32_39
  let c6_i32_40 : BitVec 32 := 6#32
  let c0_i32_41 : BitVec 32 := 0#32
  let v48 : BitVec 32 := Scalar.select v47 c6_i32_40 c0_i32_41
  let v49 : BitVec 32 := Scalar.addi v43 v48
  let c4_i32_45 : BitVec 32 := 4#32
  let v53 : BitVec 1 := Scalar.cmpi .eq v28 c4_i32_45
  let c7_i32_46 : BitVec 32 := 7#32
  let c0_i32_47 : BitVec 32 := 0#32
  let v54 : BitVec 32 := Scalar.select v53 c7_i32_46 c0_i32_47
  let v55 : BitVec 32 := Scalar.addi v49 v54
  let c5_i32_51 : BitVec 32 := 5#32
  let v59 : BitVec 1 := Scalar.cmpi .eq v28 c5_i32_51
  let c4_i32_52 : BitVec 32 := 4#32
  let c0_i32_53 : BitVec 32 := 0#32
  let v60 : BitVec 32 := Scalar.select v59 c4_i32_52 c0_i32_53
  let v61 : BitVec 32 := Scalar.addi v55 v60
  let c6_i32_57 : BitVec 32 := 6#32
  let v65 : BitVec 1 := Scalar.cmpi .eq v28 c6_i32_57
  let c3_i32_58 : BitVec 32 := 3#32
  let c0_i32_59 : BitVec 32 := 0#32
  let v66 : BitVec 32 := Scalar.select v65 c3_i32_58 c0_i32_59
  let v67 : BitVec 32 := Scalar.addi v61 v66
  let c7_i32_63 : BitVec 32 := 7#32
  let v71 : BitVec 1 := Scalar.cmpi .eq v28 c7_i32_63
  let c0_i32_64 : BitVec 32 := 0#32
  let c0_i32_65 : BitVec 32 := 0#32
  let v72 : BitVec 32 := Scalar.select v71 c0_i32_64 c0_i32_65
  let v73 : BitVec 32 := Scalar.addi v67 v72
  let v78 : BitVec 32 := Scalar.addi v77 v73
  let c1_i32_1715 : BitVec 32 := 1#32
  let v1684 : BitVec 32 := Scalar.muli v78 c1_i32_1715
  let v1685 : BitVec 32 := Scalar.addi c0_i32_1716 v1684
  v1685.toNat
def k0_dev43 (d0 : Dev nD) : Nat :=
  let c0_i32_1726 : BitVec 32 := 0#32
  let c8_i32_70 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let v79 : BitVec 32 := Scalar.muli c8_i32_70 v3
  let c0_i32_26 : BitVec 32 := 0#32
  let c0_i32_3 : BitVec 32 := 0#32
  let c8_i32_0 : BitVec 32 := 8#32
  let v4 : BitVec 32 := Scalar.remsi v2 c8_i32_0
  let c0_i32 : BitVec 32 := 0#32
  let v5 : BitVec 1 := Scalar.cmpi .eq v4 c0_i32
  let c0_i32_1 : BitVec 32 := 0#32
  let c0_i32_2 : BitVec 32 := 0#32
  let v6 : BitVec 32 := Scalar.select v5 c0_i32_1 c0_i32_2
  let v7 : BitVec 32 := Scalar.addi c0_i32_3 v6
  let c1_i32_4 : BitVec 32 := 1#32
  let v8 : BitVec 1 := Scalar.cmpi .eq v4 c1_i32_4
  let c1_i32_5 : BitVec 32 := 1#32
  let c0_i32_6 : BitVec 32 := 0#32
  let v9 : BitVec 32 := Scalar.select v8 c1_i32_5 c0_i32_6
  let v10 : BitVec 32 := Scalar.addi v7 v9
  let c2_i32 : BitVec 32 := 2#32
  let v11 : BitVec 1 := Scalar.cmpi .eq v4 c2_i32
  let c2_i32_7 : BitVec 32 := 2#32
  let c0_i32_8 : BitVec 32 := 0#32
  let v12 : BitVec 32 := Scalar.select v11 c2_i32_7 c0_i32_8
  let v13 : BitVec 32 := Scalar.addi v10 v12
  let c5_i32 : BitVec 32 := 5#32
  let v14 : BitVec 1 := Scalar.cmpi .eq v4 c5_i32
  let c3_i32 : BitVec 32 := 3#32
  let c0_i32_9 : BitVec 32 := 0#32
  let v15 : BitVec 32 := Scalar.select v14 c3_i32 c0_i32_9
  let v16 : BitVec 32 := Scalar.addi v13 v15
  let c6_i32 : BitVec 32 := 6#32
  let v17 : BitVec 1 := Scalar.cmpi .eq v4 c6_i32
  let c4_i32 : BitVec 32 := 4#32
  let c0_i32_10 : BitVec 32 := 0#32
  let v18 : BitVec 32 := Scalar.select v17 c4_i32 c0_i32_10
  let v19 : BitVec 32 := Scalar.addi v16 v18
  let c7_i32 : BitVec 32 := 7#32
  let v20 : BitVec 1 := Scalar.cmpi .eq v4 c7_i32
  let c5_i32_11 : BitVec 32 := 5#32
  let c0_i32_12 : BitVec 32 := 0#32
  let v21 : BitVec 32 := Scalar.select v20 c5_i32_11 c0_i32_12
  let v22 : BitVec 32 := Scalar.addi v19 v21
  let c4_i32_13 : BitVec 32 := 4#32
  let v23 : BitVec 1 := Scalar.cmpi .eq v4 c4_i32_13
  let c6_i32_14 : BitVec 32 := 6#32
  let c0_i32_15 : BitVec 32 := 0#32
  let v24 : BitVec 32 := Scalar.select v23 c6_i32_14 c0_i32_15
  let v25 : BitVec 32 := Scalar.addi v22 v24
  let c3_i32_16 : BitVec 32 := 3#32
  let v26 : BitVec 1 := Scalar.cmpi .eq v4 c3_i32_16
  let c7_i32_17 : BitVec 32 := 7#32
  let c0_i32_18 : BitVec 32 := 0#32
  let v27 : BitVec 32 := Scalar.select v26 c7_i32_17 c0_i32_18
  let v28 : BitVec 32 := Scalar.addi v25 v27
  let c0_i32_23 : BitVec 32 := 0#32
  let v32 : BitVec 1 := Scalar.cmpi .eq v28 c0_i32_23
  let c3_i32_24 : BitVec 32 := 3#32
  let c0_i32_25 : BitVec 32 := 0#32
  let v33 : BitVec 32 := Scalar.select v32 c3_i32_24 c0_i32_25
  let v34 : BitVec 32 := Scalar.addi c0_i32_26 v33
  let c1_i32_30 : BitVec 32 := 1#32
  let v38 : BitVec 1 := Scalar.cmpi .eq v28 c1_i32_30
  let c0_i32_31 : BitVec 32 := 0#32
  let c0_i32_32 : BitVec 32 := 0#32
  let v39 : BitVec 32 := Scalar.select v38 c0_i32_31 c0_i32_32
  let v40 : BitVec 32 := Scalar.addi v34 v39
  let c2_i32_36 : BitVec 32 := 2#32
  let v44 : BitVec 1 := Scalar.cmpi .eq v28 c2_i32_36
  let c1_i32_37 : BitVec 32 := 1#32
  let c0_i32_38 : BitVec 32 := 0#32
  let v45 : BitVec 32 := Scalar.select v44 c1_i32_37 c0_i32_38
  let v46 : BitVec 32 := Scalar.addi v40 v45
  let c3_i32_42 : BitVec 32 := 3#32
  let v50 : BitVec 1 := Scalar.cmpi .eq v28 c3_i32_42
  let c2_i32_43 : BitVec 32 := 2#32
  let c0_i32_44 : BitVec 32 := 0#32
  let v51 : BitVec 32 := Scalar.select v50 c2_i32_43 c0_i32_44
  let v52 : BitVec 32 := Scalar.addi v46 v51
  let c4_i32_48 : BitVec 32 := 4#32
  let v56 : BitVec 1 := Scalar.cmpi .eq v28 c4_i32_48
  let c5_i32_49 : BitVec 32 := 5#32
  let c0_i32_50 : BitVec 32 := 0#32
  let v57 : BitVec 32 := Scalar.select v56 c5_i32_49 c0_i32_50
  let v58 : BitVec 32 := Scalar.addi v52 v57
  let c5_i32_54 : BitVec 32 := 5#32
  let v62 : BitVec 1 := Scalar.cmpi .eq v28 c5_i32_54
  let c6_i32_55 : BitVec 32 := 6#32
  let c0_i32_56 : BitVec 32 := 0#32
  let v63 : BitVec 32 := Scalar.select v62 c6_i32_55 c0_i32_56
  let v64 : BitVec 32 := Scalar.addi v58 v63
  let c6_i32_60 : BitVec 32 := 6#32
  let v68 : BitVec 1 := Scalar.cmpi .eq v28 c6_i32_60
  let c7_i32_61 : BitVec 32 := 7#32
  let c0_i32_62 : BitVec 32 := 0#32
  let v69 : BitVec 32 := Scalar.select v68 c7_i32_61 c0_i32_62
  let v70 : BitVec 32 := Scalar.addi v64 v69
  let c7_i32_66 : BitVec 32 := 7#32
  let v74 : BitVec 1 := Scalar.cmpi .eq v28 c7_i32_66
  let c4_i32_67 : BitVec 32 := 4#32
  let c0_i32_68 : BitVec 32 := 0#32
  let v75 : BitVec 32 := Scalar.select v74 c4_i32_67 c0_i32_68
  let v76 : BitVec 32 := Scalar.addi v70 v75
  let v80 : BitVec 32 := Scalar.addi v79 v76
  let c1_i32_1725 : BitVec 32 := 1#32
  let v1694 : BitVec 32 := Scalar.muli v80 c1_i32_1725
  let v1695 : BitVec 32 := Scalar.addi c0_i32_1726 v1694
  v1695.toNat
def k0_dev44 (d0 : Dev nD) : Nat :=
  let c0_i32_1808 : BitVec 32 := 0#32
  let c8_i32_69 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let v77 : BitVec 32 := Scalar.muli c8_i32_69 v3
  let c0_i32_22 : BitVec 32 := 0#32
  let c0_i32_3 : BitVec 32 := 0#32
  let c8_i32_0 : BitVec 32 := 8#32
  let v4 : BitVec 32 := Scalar.remsi v2 c8_i32_0
  let c0_i32 : BitVec 32 := 0#32
  let v5 : BitVec 1 := Scalar.cmpi .eq v4 c0_i32
  let c0_i32_1 : BitVec 32 := 0#32
  let c0_i32_2 : BitVec 32 := 0#32
  let v6 : BitVec 32 := Scalar.select v5 c0_i32_1 c0_i32_2
  let v7 : BitVec 32 := Scalar.addi c0_i32_3 v6
  let c1_i32_4 : BitVec 32 := 1#32
  let v8 : BitVec 1 := Scalar.cmpi .eq v4 c1_i32_4
  let c1_i32_5 : BitVec 32 := 1#32
  let c0_i32_6 : BitVec 32 := 0#32
  let v9 : BitVec 32 := Scalar.select v8 c1_i32_5 c0_i32_6
  let v10 : BitVec 32 := Scalar.addi v7 v9
  let c2_i32 : BitVec 32 := 2#32
  let v11 : BitVec 1 := Scalar.cmpi .eq v4 c2_i32
  let c2_i32_7 : BitVec 32 := 2#32
  let c0_i32_8 : BitVec 32 := 0#32
  let v12 : BitVec 32 := Scalar.select v11 c2_i32_7 c0_i32_8
  let v13 : BitVec 32 := Scalar.addi v10 v12
  let c5_i32 : BitVec 32 := 5#32
  let v14 : BitVec 1 := Scalar.cmpi .eq v4 c5_i32
  let c3_i32 : BitVec 32 := 3#32
  let c0_i32_9 : BitVec 32 := 0#32
  let v15 : BitVec 32 := Scalar.select v14 c3_i32 c0_i32_9
  let v16 : BitVec 32 := Scalar.addi v13 v15
  let c6_i32 : BitVec 32 := 6#32
  let v17 : BitVec 1 := Scalar.cmpi .eq v4 c6_i32
  let c4_i32 : BitVec 32 := 4#32
  let c0_i32_10 : BitVec 32 := 0#32
  let v18 : BitVec 32 := Scalar.select v17 c4_i32 c0_i32_10
  let v19 : BitVec 32 := Scalar.addi v16 v18
  let c7_i32 : BitVec 32 := 7#32
  let v20 : BitVec 1 := Scalar.cmpi .eq v4 c7_i32
  let c5_i32_11 : BitVec 32 := 5#32
  let c0_i32_12 : BitVec 32 := 0#32
  let v21 : BitVec 32 := Scalar.select v20 c5_i32_11 c0_i32_12
  let v22 : BitVec 32 := Scalar.addi v19 v21
  let c4_i32_13 : BitVec 32 := 4#32
  let v23 : BitVec 1 := Scalar.cmpi .eq v4 c4_i32_13
  let c6_i32_14 : BitVec 32 := 6#32
  let c0_i32_15 : BitVec 32 := 0#32
  let v24 : BitVec 32 := Scalar.select v23 c6_i32_14 c0_i32_15
  let v25 : BitVec 32 := Scalar.addi v22 v24
  let c3_i32_16 : BitVec 32 := 3#32
  let v26 : BitVec 1 := Scalar.cmpi .eq v4 c3_i32_16
  let c7_i32_17 : BitVec 32 := 7#32
  let c0_i32_18 : BitVec 32 := 0#32
  let v27 : BitVec 32 := Scalar.select v26 c7_i32_17 c0_i32_18
  let v28 : BitVec 32 := Scalar.addi v25 v27
  let c0_i32_19 : BitVec 32 := 0#32
  let v29 : BitVec 1 := Scalar.cmpi .eq v28 c0_i32_19
  let c1_i32_20 : BitVec 32 := 1#32
  let c0_i32_21 : BitVec 32 := 0#32
  let v30 : BitVec 32 := Scalar.select v29 c1_i32_20 c0_i32_21
  let v31 : BitVec 32 := Scalar.addi c0_i32_22 v30
  let c1_i32_27 : BitVec 32 := 1#32
  let v35 : BitVec 1 := Scalar.cmpi .eq v28 c1_i32_27
  let c2_i32_28 : BitVec 32 := 2#32
  let c0_i32_29 : BitVec 32 := 0#32
  let v36 : BitVec 32 := Scalar.select v35 c2_i32_28 c0_i32_29
  let v37 : BitVec 32 := Scalar.addi v31 v36
  let c2_i32_33 : BitVec 32 := 2#32
  let v41 : BitVec 1 := Scalar.cmpi .eq v28 c2_i32_33
  let c5_i32_34 : BitVec 32 := 5#32
  let c0_i32_35 : BitVec 32 := 0#32
  let v42 : BitVec 32 := Scalar.select v41 c5_i32_34 c0_i32_35
  let v43 : BitVec 32 := Scalar.addi v37 v42
  let c3_i32_39 : BitVec 32 := 3#32
  let v47 : BitVec 1 := Scalar.cmpi .eq v28 c3_i32_39
  let c6_i32_40 : BitVec 32 := 6#32
  let c0_i32_41 : BitVec 32 := 0#32
  let v48 : BitVec 32 := Scalar.select v47 c6_i32_40 c0_i32_41
  let v49 : BitVec 32 := Scalar.addi v43 v48
  let c4_i32_45 : BitVec 32 := 4#32
  let v53 : BitVec 1 := Scalar.cmpi .eq v28 c4_i32_45
  let c7_i32_46 : BitVec 32 := 7#32
  let c0_i32_47 : BitVec 32 := 0#32
  let v54 : BitVec 32 := Scalar.select v53 c7_i32_46 c0_i32_47
  let v55 : BitVec 32 := Scalar.addi v49 v54
  let c5_i32_51 : BitVec 32 := 5#32
  let v59 : BitVec 1 := Scalar.cmpi .eq v28 c5_i32_51
  let c4_i32_52 : BitVec 32 := 4#32
  let c0_i32_53 : BitVec 32 := 0#32
  let v60 : BitVec 32 := Scalar.select v59 c4_i32_52 c0_i32_53
  let v61 : BitVec 32 := Scalar.addi v55 v60
  let c6_i32_57 : BitVec 32 := 6#32
  let v65 : BitVec 1 := Scalar.cmpi .eq v28 c6_i32_57
  let c3_i32_58 : BitVec 32 := 3#32
  let c0_i32_59 : BitVec 32 := 0#32
  let v66 : BitVec 32 := Scalar.select v65 c3_i32_58 c0_i32_59
  let v67 : BitVec 32 := Scalar.addi v61 v66
  let c7_i32_63 : BitVec 32 := 7#32
  let v71 : BitVec 1 := Scalar.cmpi .eq v28 c7_i32_63
  let c0_i32_64 : BitVec 32 := 0#32
  let c0_i32_65 : BitVec 32 := 0#32
  let v72 : BitVec 32 := Scalar.select v71 c0_i32_64 c0_i32_65
  let v73 : BitVec 32 := Scalar.addi v67 v72
  let v78 : BitVec 32 := Scalar.addi v77 v73
  let c1_i32_1807 : BitVec 32 := 1#32
  let v1770 : BitVec 32 := Scalar.muli v78 c1_i32_1807
  let v1771 : BitVec 32 := Scalar.addi c0_i32_1808 v1770
  v1771.toNat
def k0_dev45 (d0 : Dev nD) : Nat :=
  let c0_i32_1818 : BitVec 32 := 0#32
  let c8_i32_70 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let v79 : BitVec 32 := Scalar.muli c8_i32_70 v3
  let c0_i32_26 : BitVec 32 := 0#32
  let c0_i32_3 : BitVec 32 := 0#32
  let c8_i32_0 : BitVec 32 := 8#32
  let v4 : BitVec 32 := Scalar.remsi v2 c8_i32_0
  let c0_i32 : BitVec 32 := 0#32
  let v5 : BitVec 1 := Scalar.cmpi .eq v4 c0_i32
  let c0_i32_1 : BitVec 32 := 0#32
  let c0_i32_2 : BitVec 32 := 0#32
  let v6 : BitVec 32 := Scalar.select v5 c0_i32_1 c0_i32_2
  let v7 : BitVec 32 := Scalar.addi c0_i32_3 v6
  let c1_i32_4 : BitVec 32 := 1#32
  let v8 : BitVec 1 := Scalar.cmpi .eq v4 c1_i32_4
  let c1_i32_5 : BitVec 32 := 1#32
  let c0_i32_6 : BitVec 32 := 0#32
  let v9 : BitVec 32 := Scalar.select v8 c1_i32_5 c0_i32_6
  let v10 : BitVec 32 := Scalar.addi v7 v9
  let c2_i32 : BitVec 32 := 2#32
  let v11 : BitVec 1 := Scalar.cmpi .eq v4 c2_i32
  let c2_i32_7 : BitVec 32 := 2#32
  let c0_i32_8 : BitVec 32 := 0#32
  let v12 : BitVec 32 := Scalar.select v11 c2_i32_7 c0_i32_8
  let v13 : BitVec 32 := Scalar.addi v10 v12
  let c5_i32 : BitVec 32 := 5#32
  let v14 : BitVec 1 := Scalar.cmpi .eq v4 c5_i32
  let c3_i32 : BitVec 32 := 3#32
  let c0_i32_9 : BitVec 32 := 0#32
  let v15 : BitVec 32 := Scalar.select v14 c3_i32 c0_i32_9
  let v16 : BitVec 32 := Scalar.addi v13 v15
  let c6_i32 : BitVec 32 := 6#32
  let v17 : BitVec 1 := Scalar.cmpi .eq v4 c6_i32
  let c4_i32 : BitVec 32 := 4#32
  let c0_i32_10 : BitVec 32 := 0#32
  let v18 : BitVec 32 := Scalar.select v17 c4_i32 c0_i32_10
  let v19 : BitVec 32 := Scalar.addi v16 v18
  let c7_i32 : BitVec 32 := 7#32
  let v20 : BitVec 1 := Scalar.cmpi .eq v4 c7_i32
  let c5_i32_11 : BitVec 32 := 5#32
  let c0_i32_12 : BitVec 32 := 0#32
  let v21 : BitVec 32 := Scalar.select v20 c5_i32_11 c0_i32_12
  let v22 : BitVec 32 := Scalar.addi v19 v21
  let c4_i32_13 : BitVec 32 := 4#32
  let v23 : BitVec 1 := Scalar.cmpi .eq v4 c4_i32_13
  let c6_i32_14 : BitVec 32 := 6#32
  let c0_i32_15 : BitVec 32 := 0#32
  let v24 : BitVec 32 := Scalar.select v23 c6_i32_14 c0_i32_15
  let v25 : BitVec 32 := Scalar.addi v22 v24
  let c3_i32_16 : BitVec 32 := 3#32
  let v26 : BitVec 1 := Scalar.cmpi .eq v4 c3_i32_16
  let c7_i32_17 : BitVec 32 := 7#32
  let c0_i32_18 : BitVec 32 := 0#32
  let v27 : BitVec 32 := Scalar.select v26 c7_i32_17 c0_i32_18
  let v28 : BitVec 32 := Scalar.addi v25 v27
  let c0_i32_23 : BitVec 32 := 0#32
  let v32 : BitVec 1 := Scalar.cmpi .eq v28 c0_i32_23
  let c3_i32_24 : BitVec 32 := 3#32
  let c0_i32_25 : BitVec 32 := 0#32
  let v33 : BitVec 32 := Scalar.select v32 c3_i32_24 c0_i32_25
  let v34 : BitVec 32 := Scalar.addi c0_i32_26 v33
  let c1_i32_30 : BitVec 32 := 1#32
  let v38 : BitVec 1 := Scalar.cmpi .eq v28 c1_i32_30
  let c0_i32_31 : BitVec 32 := 0#32
  let c0_i32_32 : BitVec 32 := 0#32
  let v39 : BitVec 32 := Scalar.select v38 c0_i32_31 c0_i32_32
  let v40 : BitVec 32 := Scalar.addi v34 v39
  let c2_i32_36 : BitVec 32 := 2#32
  let v44 : BitVec 1 := Scalar.cmpi .eq v28 c2_i32_36
  let c1_i32_37 : BitVec 32 := 1#32
  let c0_i32_38 : BitVec 32 := 0#32
  let v45 : BitVec 32 := Scalar.select v44 c1_i32_37 c0_i32_38
  let v46 : BitVec 32 := Scalar.addi v40 v45
  let c3_i32_42 : BitVec 32 := 3#32
  let v50 : BitVec 1 := Scalar.cmpi .eq v28 c3_i32_42
  let c2_i32_43 : BitVec 32 := 2#32
  let c0_i32_44 : BitVec 32 := 0#32
  let v51 : BitVec 32 := Scalar.select v50 c2_i32_43 c0_i32_44
  let v52 : BitVec 32 := Scalar.addi v46 v51
  let c4_i32_48 : BitVec 32 := 4#32
  let v56 : BitVec 1 := Scalar.cmpi .eq v28 c4_i32_48
  let c5_i32_49 : BitVec 32 := 5#32
  let c0_i32_50 : BitVec 32 := 0#32
  let v57 : BitVec 32 := Scalar.select v56 c5_i32_49 c0_i32_50
  let v58 : BitVec 32 := Scalar.addi v52 v57
  let c5_i32_54 : BitVec 32 := 5#32
  let v62 : BitVec 1 := Scalar.cmpi .eq v28 c5_i32_54
  let c6_i32_55 : BitVec 32 := 6#32
  let c0_i32_56 : BitVec 32 := 0#32
  let v63 : BitVec 32 := Scalar.select v62 c6_i32_55 c0_i32_56
  let v64 : BitVec 32 := Scalar.addi v58 v63
  let c6_i32_60 : BitVec 32 := 6#32
  let v68 : BitVec 1 := Scalar.cmpi .eq v28 c6_i32_60
  let c7_i32_61 : BitVec 32 := 7#32
  let c0_i32_62 : BitVec 32 := 0#32
  let v69 : BitVec 32 := Scalar.select v68 c7_i32_61 c0_i32_62
  let v70 : BitVec 32 := Scalar.addi v64 v69
  let c7_i32_66 : BitVec 32 := 7#32
  let v74 : BitVec 1 := Scalar.cmpi .eq v28 c7_i32_66
  let c4_i32_67 : BitVec 32 := 4#32
  let c0_i32_68 : BitVec 32 := 0#32
  let v75 : BitVec 32 := Scalar.select v74 c4_i32_67 c0_i32_68
  let v76 : BitVec 32 := Scalar.addi v70 v75
  let v80 : BitVec 32 := Scalar.addi v79 v76
  let c1_i32_1817 : BitVec 32 := 1#32
  let v1780 : BitVec 32 := Scalar.muli v80 c1_i32_1817
  let v1781 : BitVec 32 := Scalar.addi c0_i32_1818 v1780
  v1781.toNat
abbrev stage0_0 : Fin 1 → Memref sig .tc .vmem S1x2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S32x2048x1024 : Shape := ⟨3, ![32, 2048, 1024]⟩
abbrev S_ : Shape := ⟨0, ![]⟩
abbrev S2048x1024 : Shape := ⟨2, ![2048, 1024]⟩

abbrev nBuf : Space → Nat
  | .hbm => 5
  | .vmem => 0
  | .smem => 0
  | _ => 0

abbrev bufTy : (tb : Table) → Fin (tcTables nBuf tb) → BufTy
  | .hbm, ⟨0, _⟩ => ⟨S32x2048x1024, .bf16⟩
  | .hbm, ⟨1, _⟩ => ⟨S32x2048x1024, .f32⟩
  | .hbm, ⟨2, _⟩ => ⟨S_, .f32⟩
  | .hbm, ⟨3, _⟩ => ⟨S2048x1024, .f32⟩
  | .hbm, ⟨4, _⟩ => ⟨S2048x1024, .bf16⟩
  | _, _ => ⟨S32x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Steps.lean ====
/-  The kernel's body cut into the steps it is made of.

    The printed body is one long text. Here it is written again as a sequence of a few kinds of
    step — hand over one block to a neighbour, wait, add what came in, copy what came in — each a
    function of the slot it uses, the direction it runs in and the block of the result it works
    on. `cc0_body_eq` says that the printed body, on the buffers the pipeline calls it with, is
    this sequence. -/
module

public import proofs.«01_k».proof.Proof.Gen.KernelIdeal
public import proofs.«01_k».proof.Proof.Gen.KernelIdeal.Skeleton
public import proofs.«01_k».proof.Proof.Gen.KernelIdeal.Points

@[expose] public section

noncomputable section

namespace Cert.Reduce

open Cert.KernelIdeal Cert.KernelIdeal.Gen
open Idealize.ShloMosaic Idealize.SL.Sem

variable {F : FTy → Type} [FloatOps F]

/-- The program type of the kernel's steps. -/
abbrev Act (α : Type) := Prog (TpuEff nD τ sig (Elt F) Λ₀ .tc) α

/-! ## Buffers, slots, semaphores -/

/-- The device's operand and its result, both whole in VMEM. -/
abbrev inM : Memref sig .tc .vmem S1x2048x1024 .bf16 := Memref.whole cc0_stg0_0
abbrev outM : Memref sig .tc .vmem S2048x1024 .bf16 := Memref.whole cc0_stg1_0

/-- The buffers the ring copies leave from, one per direction (`false` runs to the right
    neighbour, `true` to the left one), -/
def ringS : Bool → Memref sig .tc .vmem S4x256x512 .bf16
  | false => Memref.whole cc0_scratch0
  | true => Memref.whole cc0_scratch2
/-- and the buffers they land in. -/
def ringR : Bool → Memref sig .tc .vmem S4x256x512 .bf16
  | false => Memref.whole cc0_scratch1
  | true => Memref.whole cc0_scratch3

theorem ringS_whole : ∀ d, (ringS d).IsWhole
  | false => Memref.isWhole_whole _
  | true => Memref.isWhole_whole _
theorem ringR_whole : ∀ d, (ringR d).IsWhole
  | false => Memref.isWhole_whole _
  | true => Memref.isWhole_whole _

/-- The buffers of the two exchanges between planes: the first leaves from six slots, the second
    from two (each slot goes to three planes); both land in six. -/
abbrev sumS : Memref sig .tc .vmem S6x64x512 .bf16 := Memref.whole cc0_scratch4
abbrev sumR : Memref sig .tc .vmem S6x64x512 .bf16 := Memref.whole cc0_scratch5
abbrev fillS : Memref sig .tc .vmem S2x64x512 .bf16 := Memref.whole cc0_scratch6
abbrev fillR : Memref sig .tc .vmem S6x64x512 .bf16 := Memref.whole cc0_scratch7

theorem inb4 (s : Fin 4) : ∀ a, (![s.val, 0, 0] : Fin 3 → Nat) a + S1x256x512.size a ≤ S4x256x512.size a := by
  revert s; decide
theorem inb6 (s : Fin 6) : ∀ a, (![s.val, 0, 0] : Fin 3 → Nat) a + S1x64x512.size a ≤ S6x64x512.size a := by
  revert s; decide
theorem inb2 (s : Fin 2) : ∀ a, (![s.val, 0, 0] : Fin 3 → Nat) a + S1x64x512.size a ≤ S2x64x512.size a := by
  revert s; decide

/-- Slot `s` of a ring buffer, of a six-slot and of a two-slot buffer. -/
abbrev slot4 (s : Fin 4) : Rect S4x256x512 := Rect.unit (s := S4x256x512) ![s.val, 0, 0] S1x256x512.size (inb4 s)
abbrev slot6 (s : Fin 6) : Rect S6x64x512 := Rect.unit (s := S6x64x512) ![s.val, 0, 0] S1x64x512.size (inb6 s)
abbrev slot2 (s : Fin 2) : Rect S2x64x512 := Rect.unit (s := S2x64x512) ![s.val, 0, 0] S1x64x512.size (inb2 s)

theorem packed4 (s : Fin 4) : (slot4 s).PackedRows (EltTy.packing .bf16) := by revert s; decide
theorem packed6 (s : Fin 6) : (slot6 s).PackedRows (EltTy.packing .bf16) := by revert s; decide
theorem packed2 (s : Fin 2) : (slot2 s).PackedRows (EltTy.packing .bf16) := by revert s; decide
theorem words4 (s : Fin 4) : (slot4 s).WholeWords (EltTy.packing .bf16) := by revert s; decide
theorem words6 (s : Fin 6) : (slot6 s).WholeWords (EltTy.packing .bf16) := by revert s; decide
theorem words2 (s : Fin 2) : (slot2 s).WholeWords (EltTy.packing .bf16) := by revert s; decide

/-- A slot as the copies name it, its leading axis of extent one dropped. -/
abbrev sq4 (m : Memref sig .tc .vmem S4x256x512 .bf16) (s : Fin 4) : Memref sig .tc .vmem S256x512 .bf16 :=
  (m.slice (slot4 s) (fun _ => rfl)).squeeze S256x512 squeezes_S1x256x512_S256x512
abbrev sq6 (m : Memref sig .tc .vmem S6x64x512 .bf16) (s : Fin 6) : Memref sig .tc .vmem S64x512 .bf16 :=
  (m.slice (slot6 s) (fun _ => rfl)).squeeze S64x512 squeezes_S1x64x512_S64x512
abbrev sq2 (m : Memref sig .tc .vmem S2x64x512 .bf16) (s : Fin 2) : Memref sig .tc .vmem S64x512 .bf16 :=
  (m.slice (slot2 s) (fun _ => rfl)).squeeze S64x512 squeezes_S1x64x512_S64x512

theorem inbS4 (s : Fin 4) : ∀ a, (![s.val] : Fin 1 → Nat) a + S1.size a ≤ S4.size a := by revert s; decide
theorem inbS6 (s : Fin 6) : ∀ a, (![s.val] : Fin 1 → Nat) a + S1.size a ≤ S6.size a := by revert s; decide

abbrev sem4 (a : DmaSems sig S4) (s : Fin 4) : DmaSem sig :=
  ((a.slice (Rect.unit (s := S4) ![s.val] S1.size (inbS4 s))).squeeze S_ squeezes_S1_S_).sem
abbrev sem6 (a : DmaSems sig S6) (s : Fin 6) : DmaSem sig :=
  ((a.slice (Rect.unit (s := S6) ![s.val] S1.size (inbS6 s))).squeeze S_ squeezes_S1_S_).sem

/-- The semaphores of the ring copies by direction and side (`false` the sender's, `true` the
    receiver's), and those of the two exchanges. -/
def ringSem : Bool → Bool → Fin 4 → DmaSem sig
  | false, false, s => sem4 cc0_scratch8 s
  | false, true, s => sem4 cc0_scratch9 s
  | true, false, s => sem4 cc0_scratch10 s
  | true, true, s => sem4 cc0_scratch11 s
def crossSem : Bool → Bool → Fin 6 → DmaSem sig
  | false, false, s => sem6 cc0_scratch12 s
  | false, true, s => sem6 cc0_scratch13 s
  | true, false, s => sem6 cc0_scratch14 s
  | true, true, s => sem6 cc0_scratch15 s

/-- The semaphore the devices meet on before the first copy. -/
abbrev barS : Sem sig := (SemArray.scalar (sig.barrier 0 rfl) : Sems sig S_).sem

/-! ## Blocks of the result -/

/-- A block of 256 rows and half the columns. -/
structure Blk where
  off : Fin 2 → Nat
  inb : ∀ a, off a + S256x512.size a ≤ S2048x1024.size a
/-- The block as a rectangle. -/
abbrev Blk.rect (b : Blk) : Rect S2048x1024 := Rect.unit (s := S2048x1024) b.off S256x512.size b.inb
abbrev Blk.Packed (b : Blk) : Prop := b.rect.PackedRows (EltTy.packing .bf16)

/-- A block of 64 rows and half the columns. -/
structure Sub where
  off : Fin 2 → Nat
  inb : ∀ a, off a + S64x512.size a ≤ S2048x1024.size a
/-- The block as a rectangle. -/
abbrev Sub.rect (b : Sub) : Rect S2048x1024 := Rect.unit (s := S2048x1024) b.off S64x512.size b.inb
abbrev Sub.Packed (b : Sub) : Prop := b.rect.PackedRows (EltTy.packing .bf16)

/-- The block a device sends at step `k` of the first ring phase, by direction, -/
def sendB (c : Dev nD) (k : Fin 7) : Bool → Blk
  | false => ⟨k0_off1 c (BitVec.ofNat 32 k.val), k0_off1_inb c k⟩
  | true => ⟨k0_off2 c (BitVec.ofNat 32 k.val), k0_off2_inb c k⟩
/-- and the block it adds what it receives to. -/
def addB (c : Dev nD) (k : Fin 7) : Bool → Blk
  | false => ⟨k0_off3 c (BitVec.ofNat 32 k.val), k0_off3_inb c k⟩
  | true => ⟨k0_off4 c (BitVec.ofNat 32 k.val), k0_off4_inb c k⟩
/-- The block a device sends at step `k` of the second ring phase; the one it fills there is
    the one it sent at step `k` of the first. -/
def passB (c : Dev nD) (k : Fin 7) : Bool → Blk
  | false => ⟨k0_off11 c (BitVec.ofNat 32 k.val), k0_off11_inb c k⟩
  | true => ⟨k0_off12 c (BitVec.ofNat 32 k.val), k0_off12_inb c k⟩

theorem sendB_packed (c : Dev nD) (k : Fin 7) : ∀ d, (sendB c k d).Packed
  | false => k0_off1_packedbf16 c k
  | true => k0_off2_packedbf16 c k
theorem addB_packed (c : Dev nD) (k : Fin 7) : ∀ d, (addB c k d).Packed
  | false => k0_off3_packedbf16 c k
  | true => k0_off4_packedbf16 c k

/-- The distance between planes and the half of the columns slot `s` of an exchange serves. -/
def dist (s : Fin 6) : Fin 3 := ⟨s.val / 2, by omega⟩
def piece (s : Fin 6) : Fin 2 := ⟨s.val % 2, by omega⟩

/-- The block slot `s` of the first exchange sends, -/
def shareB (c : Dev nD) (r : Fin 3) : Fin 2 → Sub
  | 0 => ⟨k0_off5 c (BitVec.ofNat 32 (1 + r.val)), k0_off5_inb c r⟩
  | 1 => ⟨k0_off6 c (BitVec.ofNat 32 (1 + r.val)), k0_off6_inb c r⟩
/-- the block a device completes and sends on, -/
def ownB (c : Dev nD) : Fin 2 → Sub
  | 0 => ⟨k0_off7 c, k0_off7_inb c⟩
  | 1 => ⟨k0_off8 c, k0_off8_inb c⟩
/-- and the block slot `s` of the second exchange fills. -/
def fillB (c : Dev nD) (r : Fin 3) : Fin 2 → Sub
  | 0 => ⟨k0_off9 c (BitVec.ofNat 32 (1 + r.val)), k0_off9_inb c r⟩
  | 1 => ⟨k0_off10 c (BitVec.ofNat 32 (1 + r.val)), k0_off10_inb c r⟩

theorem ownB_packed (c : Dev nD) : ∀ p, (ownB c p).Packed
  | 0 => k0_off7_packedbf16 c
  | 1 => k0_off8_packedbf16 c
theorem fillB_packed (c : Dev nD) (r : Fin 3) : ∀ p, (fillB c r p).Packed
  | 0 => k0_off9_packedbf16 c r
  | 1 => k0_off10_packedbf16 c r

/-! ## The values the steps store -/

/-- A block as it is stored in a slot, and a slot's contents as a block. -/
def toSlot (v : Vec F S256x512 .bf16) : FVec F S1x256x512 .bf16 :=
  shapeCast S1x256x512 (shapeCast S256x512 v shapeCasts_S256x512_S256x512) shapeCasts_S256x512_S1x256x512
def ofSlot (v : Vec F S1x256x512 .bf16) : FVec F S256x512 .bf16 :=
  shapeCast S256x512 v shapeCasts_S1x256x512_S256x512
/-- The sum of a block and a slot's contents. -/
def plusSlot (v : Vec F S256x512 .bf16) (w : Vec F S1x256x512 .bf16) : FVec F S256x512 .bf16 :=
  addf (shapeCast S256x512 v shapeCasts_S256x512_S256x512) (ofSlot w)
/-- The same for the blocks of 64 rows; three slots are added up before they are added. -/
def toSub (v : Vec F S64x512 .bf16) : FVec F S1x64x512 .bf16 :=
  shapeCast S1x64x512 (shapeCast S64x512 v shapeCasts_S64x512_S64x512) shapeCasts_S64x512_S1x64x512
def ofSub (v : Vec F S1x64x512 .bf16) : FVec F S64x512 .bf16 :=
  shapeCast S64x512 v shapeCasts_S1x64x512_S64x512
def plusSubs (v : Vec F S64x512 .bf16) (a b c : Vec F S1x64x512 .bf16) : FVec F S64x512 .bf16 :=
  addf (shapeCast S64x512 v shapeCasts_S64x512_S64x512) (addf (addf (ofSub a) (ofSub b)) (ofSub c))

/-! ## The steps -/

/-- Read a block of the result. -/
def getB (b : Blk) : Act (F := F) (Vec F S256x512 .bf16) :=
  Prog.lift (.load outM b.rect.toLoadRect (View.loadsAt_vmem h_S256x512))
/-- Write a block of the result. -/
def setB (b : Blk) (hb : b.Packed) (w : Vec F S256x512 .bf16) : Act (F := F) PUnit :=
  Prog.lift (.store outM b.rect w Finset.univ
    (View.stores_vmem h_S256x512 ((Memref.isWhole_whole _ : outM.IsWhole).storeExact_slice rfl _ hb) (fun _ => rfl)) (.inl rfl))
def getSub (b : Sub) : Act (F := F) (Vec F S64x512 .bf16) :=
  Prog.lift (.load outM b.rect.toLoadRect (View.loadsAt_vmem h_S64x512))
def setSub (b : Sub) (hb : b.Packed) (w : Vec F S64x512 .bf16) : Act (F := F) PUnit :=
  Prog.lift (.store outM b.rect w Finset.univ
    (View.stores_vmem h_S64x512 ((Memref.isWhole_whole _ : outM.IsWhole).storeExact_slice rfl _ hb) (fun _ => rfl)) (.inl rfl))
/-- Read a slot. -/
def get4 (m : Memref sig .tc .vmem S4x256x512 .bf16) (s : Fin 4) : Act (F := F) (Vec F S1x256x512 .bf16) :=
  Prog.lift (.load m (slot4 s).toLoadRect (View.loadsAt_vmem h_S1x256x512))
def get6 (m : Memref sig .tc .vmem S6x64x512 .bf16) (s : Fin 6) : Act (F := F) (Vec F S1x64x512 .bf16) :=
  Prog.lift (.load m (slot6 s).toLoadRect (View.loadsAt_vmem h_S1x64x512))
def get2 (m : Memref sig .tc .vmem S2x64x512 .bf16) (s : Fin 2) : Act (F := F) (Vec F S1x64x512 .bf16) :=
  Prog.lift (.load m (slot2 s).toLoadRect (View.loadsAt_vmem h_S1x64x512))

/-- Put a block of the result into a slot of the send buffer. -/
def putRing (d : Bool) (s : Fin 4) (b : Blk) : Act (F := F) PUnit := do
  let v ← getB b
  let _ ← get4 (ringS d) s
  Prog.lift (.store (ringS d) (slot4 s) (toSlot v) Finset.univ
    (View.stores_vmem h_S1x256x512 ((ringS_whole d).storeExact_slice rfl _ (packed4 s)) (fun _ => rfl)) (.inl rfl))
/-- Start the copy of a slot to a neighbour. -/
def sendRing (d : Bool) (s : Fin 4) (dst : Dev nD) : Act (F := F) PUnit :=
  Prog.lift (.enqueueDma (sq4 (ringS d) s) (.remote (Dev.tc dst) (sq4 (ringR d) s) (.dma (ringSem d false s))) (.dma (ringSem d true s))
    (((ringS_whole d).wordExact_slice rfl _ (words4 s)).reshape _ _) (((ringR_whole d).wordExact_slice rfl _ (words4 s)).reshape _ _)
    ⟨⟨rfl, Or.inl rfl⟩, trivial⟩)
/-- Wait for the copy out of a slot, and for the copy into it. -/
def waitRing (d : Bool) (s : Fin 4) : Act (F := F) PUnit := do
  Prog.lift (.waitDma2 (ringSem d false s) (sq4 (ringR d) s) (sq4 (ringS d) s)
    (((ringR_whole d).wordExact_slice rfl _ (words4 s)).reshape _ _) (((ringS_whole d).wordExact_slice rfl _ (words4 s)).reshape _ _))
  Prog.lift (.waitDma2 (ringSem d true s) (sq4 (ringS d) s) (sq4 (ringR d) s)
    (((ringS_whole d).wordExact_slice rfl _ (words4 s)).reshape _ _) (((ringR_whole d).wordExact_slice rfl _ (words4 s)).reshape _ _))
/-- Add what came in to a block. -/
def addRing (d : Bool) (s : Fin 4) (b : Blk) (hb : b.Packed) : Act (F := F) PUnit := do
  let v ← getB b
  let w ← get4 (ringR d) s
  let _ ← getB b
  setB b hb (plusSlot v w)
/-- Copy what came in over a block. -/
def copyRing (d : Bool) (s : Fin 4) (b : Blk) (hb : b.Packed) : Act (F := F) PUnit := do
  let w ← get4 (ringR d) s
  let _ ← getB b
  setB b hb (ofSlot w)

/-- The part every ring step begins with: both blocks out, both blocks in. -/
def swapRing (s : Fin 4) (r l : Dev nD) (b : Bool → Blk) : Act (F := F) PUnit := do
  putRing false s (b false)
  putRing true s (b true)
  sendRing false s r
  sendRing true s l
  waitRing false s
  waitRing true s
/-- A step of the first ring phase, -/
def sumStep (s : Fin 4) (r l c : Dev nD) (k : Fin 7) : Act (F := F) PUnit := do
  swapRing s r l (sendB c k)
  addRing false s (addB c k false) (addB_packed c k false)
  addRing true s (addB c k true) (addB_packed c k true)
/-- and of the second. -/
def passStep (s : Fin 4) (r l c : Dev nD) (k : Fin 7) : Act (F := F) PUnit := do
  swapRing s r l (passB c k)
  copyRing false s (sendB c k false) (sendB_packed c k false)
  copyRing true s (sendB c k true) (sendB_packed c k true)

/-- Send a share of the device's block to another plane. -/
def sendSum (s : Fin 6) (dst c : Dev nD) : Act (F := F) PUnit := do
  let v ← getSub (shareB c (dist s) (piece s))
  let _ ← get6 sumS s
  Prog.lift (.store sumS (slot6 s) (toSub v) Finset.univ
    (View.stores_vmem h_S1x64x512 ((Memref.isWhole_whole _ : sumS.IsWhole).storeExact_slice rfl _ (packed6 s)) (fun _ => rfl)) (.inl rfl))
  Prog.lift (.enqueueDma (sq6 sumS s) (.remote (Dev.tc dst) (sq6 sumR s) (.dma (crossSem false false s))) (.dma (crossSem false true s))
    (((Memref.isWhole_whole _ : sumS.IsWhole).wordExact_slice rfl _ (words6 s)).reshape _ _)
    (((Memref.isWhole_whole _ : sumR.IsWhole).wordExact_slice rfl _ (words6 s)).reshape _ _)
    ⟨⟨rfl, Or.inl rfl⟩, trivial⟩)
/-- Wait for the share sent from slot `s` and for the one that comes into it. -/
def waitSum (s : Fin 6) : Act (F := F) PUnit := do
  Prog.lift (.waitDma2 (crossSem false false s) (sq6 sumR s) (sq6 sumS s)
    (((Memref.isWhole_whole _ : sumR.IsWhole).wordExact_slice rfl _ (words6 s)).reshape _ _)
    (((Memref.isWhole_whole _ : sumS.IsWhole).wordExact_slice rfl _ (words6 s)).reshape _ _))
  Prog.lift (.waitDma2 (crossSem false true s) (sq6 sumS s) (sq6 sumR s)
    (((Memref.isWhole_whole _ : sumS.IsWhole).wordExact_slice rfl _ (words6 s)).reshape _ _)
    (((Memref.isWhole_whole _ : sumR.IsWhole).wordExact_slice rfl _ (words6 s)).reshape _ _))
/-- Complete the device's own two blocks. -/
def addSums (c : Dev nD) : Act (F := F) PUnit := do
  let a0 ← get6 sumR 0
  let a2 ← get6 sumR 2
  let a4 ← get6 sumR 4
  let a1 ← get6 sumR 1
  let a3 ← get6 sumR 3
  let a5 ← get6 sumR 5
  let v ← getSub (ownB c 0)
  let _ ← getSub (ownB c 0)
  setSub (ownB c 0) (ownB_packed c 0) (plusSubs v a0 a2 a4)
  let w ← getSub (ownB c 1)
  let _ ← getSub (ownB c 1)
  setSub (ownB c 1) (ownB_packed c 1) (plusSubs w a1 a3 a5)
/-- Put a completed block into its slot. -/
def putFill (p : Fin 2) (c : Dev nD) : Act (F := F) PUnit := do
  let v ← getSub (ownB c p)
  let _ ← get2 fillS p
  Prog.lift (.store fillS (slot2 p) (toSub v) Finset.univ
    (View.stores_vmem h_S1x64x512 ((Memref.isWhole_whole _ : fillS.IsWhole).storeExact_slice rfl _ (packed2 p)) (fun _ => rfl)) (.inl rfl))
/-- Send a completed block to another plane. -/
def sendFill (s : Fin 6) (dst : Dev nD) : Act (F := F) PUnit :=
  Prog.lift (.enqueueDma (sq2 fillS (piece s)) (.remote (Dev.tc dst) (sq6 fillR s) (.dma (crossSem true false s))) (.dma (crossSem true true s))
    (((Memref.isWhole_whole _ : fillS.IsWhole).wordExact_slice rfl _ (words2 (piece s))).reshape _ _)
    (((Memref.isWhole_whole _ : fillR.IsWhole).wordExact_slice rfl _ (words6 s)).reshape _ _)
    ⟨⟨rfl, Or.inl rfl⟩, trivial⟩)
def waitFill (s : Fin 6) : Act (F := F) PUnit := do
  Prog.lift (.waitDma2 (crossSem true false s) (sq6 fillR s) (sq2 fillS (piece s))
    (((Memref.isWhole_whole _ : fillR.IsWhole).wordExact_slice rfl _ (words6 s)).reshape _ _)
    (((Memref.isWhole_whole _ : fillS.IsWhole).wordExact_slice rfl _ (words2 (piece s))).reshape _ _))
  Prog.lift (.waitDma2 (crossSem true true s) (sq2 fillS (piece s)) (sq6 fillR s)
    (((Memref.isWhole_whole _ : fillS.IsWhole).wordExact_slice rfl _ (words2 (piece s))).reshape _ _)
    (((Memref.isWhole_whole _ : fillR.IsWhole).wordExact_slice rfl _ (words6 s)).reshape _ _))
/-- Copy a block completed in another plane into the result. -/
def copyFill (s : Fin 6) (c : Dev nD) : Act (F := F) PUnit := do
  let w ← get6 fillR s
  let _ ← getSub (fillB c (dist s) (piece s))
  setSub (fillB c (dist s) (piece s)) (fillB_packed c (dist s) (piece s)) (ofSub w)

/-- The devices meet, and the operand is copied to the result. -/
def opening (c : Dev nD) : Act (F := F) PUnit := do
  semSignalWord (⟨k0_dev1 c, k0_dev1_lt c⟩ : Dev nD) barS 1#32
  semSignalWord (⟨k0_dev2 c, k0_dev2_lt c⟩ : Dev nD) barS 1#32
  semSignalWord (⟨k0_dev3 c, k0_dev3_lt c⟩ : Dev nD) barS 1#32
  semSignalWord (⟨k0_dev4 c, k0_dev4_lt c⟩ : Dev nD) barS 1#32
  semSignalWord (⟨k0_dev5 c, k0_dev5_lt c⟩ : Dev nD) barS 1#32
  semWaitWord barS 5#32
  let x ← Prog.lift (.load inM (Rect.unit (s := S1x2048x1024) ![0, 0, 0] S1x2048x1024.size inb_S1x2048x1024_S1x2048x1024_0_0_0).toLoadRect (View.loadsAt_vmem h_S1x2048x1024))
  let _ ← Prog.lift (.load outM (Rect.unit (s := S2048x1024) ![0, 0] S2048x1024.size inb_S2048x1024_S2048x1024_0_0).toLoadRect (View.loadsAt_vmem h_S2048x1024))
  Prog.lift (.store outM (Rect.unit (s := S2048x1024) ![0, 0] S2048x1024.size inb_S2048x1024_S2048x1024_0_0) (k0_pay3 x) Finset.univ
    (View.stores_vmem h_S2048x1024 ((Memref.isWhole_whole _ : outM.IsWhole).storeExact_slice rfl _ packedbf16_S2048x1024_S2048x1024_0_0) (fun _ => rfl)) (.inl rfl))

/-- The first ring phase. -/
def phaseSum (c : Dev nD) : Act (F := F) PUnit := do
  sumStep 0 ⟨k0_dev6 c, k0_dev6_lt c⟩ ⟨k0_dev7 c, k0_dev7_lt c⟩ c 0
  sumStep 1 ⟨k0_dev8 c, k0_dev8_lt c⟩ ⟨k0_dev9 c, k0_dev9_lt c⟩ c 1
  sumStep 2 ⟨k0_dev10 c, k0_dev10_lt c⟩ ⟨k0_dev11 c, k0_dev11_lt c⟩ c 2
  sumStep 3 ⟨k0_dev12 c, k0_dev12_lt c⟩ ⟨k0_dev13 c, k0_dev13_lt c⟩ c 3
  sumStep 0 ⟨k0_dev14 c, k0_dev14_lt c⟩ ⟨k0_dev15 c, k0_dev15_lt c⟩ c 4
  sumStep 1 ⟨k0_dev16 c, k0_dev16_lt c⟩ ⟨k0_dev17 c, k0_dev17_lt c⟩ c 5
  sumStep 2 ⟨k0_dev18 c, k0_dev18_lt c⟩ ⟨k0_dev19 c, k0_dev19_lt c⟩ c 6

/-- The exchange of shares between planes, -/
def phaseCross (c : Dev nD) : Act (F := F) PUnit := do
  sendSum 0 ⟨k0_dev20 c, k0_dev20_lt c⟩ c
  sendSum 1 ⟨k0_dev21 c, k0_dev21_lt c⟩ c
  sendSum 2 ⟨k0_dev22 c, k0_dev22_lt c⟩ c
  sendSum 3 ⟨k0_dev23 c, k0_dev23_lt c⟩ c
  sendSum 4 ⟨k0_dev24 c, k0_dev24_lt c⟩ c
  sendSum 5 ⟨k0_dev25 c, k0_dev25_lt c⟩ c
  waitSum 0
  waitSum 1
  waitSum 2
  waitSum 3
  waitSum 4
  waitSum 5
  addSums c

/-- the exchange of completed blocks, -/
def phaseFill (c : Dev nD) : Act (F := F) PUnit := do
  putFill 0 c
  putFill 1 c
  sendFill 0 ⟨k0_dev26 c, k0_dev26_lt c⟩
  sendFill 1 ⟨k0_dev27 c, k0_dev27_lt c⟩
  sendFill 2 ⟨k0_dev28 c, k0_dev28_lt c⟩
  sendFill 3 ⟨k0_dev29 c, k0_dev29_lt c⟩
  sendFill 4 ⟨k0_dev30 c, k0_dev30_lt c⟩
  sendFill 5 ⟨k0_dev31 c, k0_dev31_lt c⟩
  waitFill 0
  waitFill 1
  waitFill 2
  waitFill 3
  waitFill 4
  waitFill 5
  copyFill 0 c
  copyFill 1 c
  copyFill 2 c
  copyFill 3 c
  copyFill 4 c
  copyFill 5 c

/-- and the second ring phase. -/
def phasePass (c : Dev nD) : Act (F := F) PUnit := do
  passStep 3 ⟨k0_dev32 c, k0_dev32_lt c⟩ ⟨k0_dev33 c, k0_dev33_lt c⟩ c 0
  passStep 0 ⟨k0_dev34 c, k0_dev34_lt c⟩ ⟨k0_dev35 c, k0_dev35_lt c⟩ c 1
  passStep 1 ⟨k0_dev36 c, k0_dev36_lt c⟩ ⟨k0_dev37 c, k0_dev37_lt c⟩ c 2
  passStep 2 ⟨k0_dev38 c, k0_dev38_lt c⟩ ⟨k0_dev39 c, k0_dev39_lt c⟩ c 3
  passStep 3 ⟨k0_dev40 c, k0_dev40_lt c⟩ ⟨k0_dev41 c, k0_dev41_lt c⟩ c 4
  passStep 0 ⟨k0_dev42 c, k0_dev42_lt c⟩ ⟨k0_dev43 c, k0_dev43_lt c⟩ c 5
  passStep 1 ⟨k0_dev44 c, k0_dev44_lt c⟩ ⟨k0_dev45 c, k0_dev45_lt c⟩ c 6

/-- The whole body. -/
def steps : Act (F := F) PUnit := do
  let c ← Prog.lift .deviceId
  opening c
  phaseSum c
  phaseCross c
  phaseFill c
  phasePass c

end Cert.Reduce

end
-- ==== Proof.Mesh.lean ====
/-  The devices and their neighbours.

    The 32 devices lie in four planes of eight. The eight of a plane form a ring in the order
    0, 1, 2, 5, 6, 7, 4, 3; across the planes the devices of one place form a ring of four. -/
module

public import proofs.«01_k».proof.Proof.Steps

@[expose] public section

noncomputable section

namespace Cert.Reduce

open Cert.KernelIdeal Cert.KernelIdeal.Gen
open Idealize.ShloMosaic Idealize.SL.Sem

/-- The place to the right (`false`) or to the left (`true`) of a place in the ring of a plane. -/
def turn : Bool → Fin 8 → Fin 8
  | false => ![1, 2, 5, 0, 3, 6, 7, 4]
  | true => ![3, 0, 1, 4, 7, 2, 5, 6]

/-- The neighbour a device's copies of direction `d` go to. -/
def nb (d : Bool) (c : Dev nD) : Dev nD :=
  ⟨c.val / 8 * 8 + (turn d ⟨c.val % 8, Nat.mod_lt _ (by decide)⟩).val, by
    have := (turn d ⟨c.val % 8, Nat.mod_lt _ (by decide)⟩).isLt
    have h : c.val < 32 := c.isLt
    show _ < 32
    omega⟩

/-- The device of the same place `r + 1` planes on. -/
def plane (r : Fin 3) (c : Dev nD) : Dev nD := ⟨(c.val + 8 * (r.val + 1)) % 32, Nat.mod_lt _ (by decide)⟩

/-- The distance back: from `r + 1` planes on, the device is `rev r + 1` planes on. -/
def rev (r : Fin 3) : Fin 3 := ⟨2 - r.val, by omega⟩

theorem rev_rev (r : Fin 3) : rev (rev r) = r := by revert r; decide

theorem nb_nb (d : Bool) (c : Dev nD) : nb d (nb (!d) c) = c := by revert d c; decide +kernel
theorem nb_nb' (d : Bool) (c : Dev nD) : nb (!d) (nb d c) = c := by revert d c; decide +kernel
theorem plane_rev (r : Fin 3) (c : Dev nD) : plane r (plane (rev r) c) = c := by revert r c; decide +kernel
theorem rev_plane (r : Fin 3) (c : Dev nD) : plane (rev r) (plane r c) = c := by revert r c; decide +kernel

/-- The neighbours as permutations of the devices. -/
def ringEquiv (d : Bool) : Dev nD ≃ Dev nD := ⟨nb d, nb (!d), nb_nb' d, nb_nb d⟩
def planeEquiv (r : Fin 3) : Dev nD ≃ Dev nD := ⟨plane r, plane (rev r), rev_plane r, plane_rev r⟩

/-! ## The devices the body names -/

/-- A device named by its number. -/
theorem dev_eq {n : ℕ} {h : n < nD} {d : Dev nD} (e : n = d.val) : (⟨n, h⟩ : Dev nD) = d := Fin.ext e

/-- The devices the opening signals go to, -/
theorem open_devs (c : Dev nD) :
    k0_dev1 c = (nb true c).val ∧ k0_dev2 c = (nb false c).val
      ∧ k0_dev3 c = (plane 0 c).val ∧ k0_dev4 c = (plane 1 c).val ∧ k0_dev5 c = (plane 2 c).val := by
  revert c; decide +kernel
/-- the right and the left neighbours the first ring phase names, -/
theorem sum_devs (c : Dev nD) :
    (k0_dev6 c = (nb false c).val ∧ k0_dev8 c = (nb false c).val ∧ k0_dev10 c = (nb false c).val ∧ k0_dev12 c = (nb false c).val
      ∧ k0_dev14 c = (nb false c).val ∧ k0_dev16 c = (nb false c).val ∧ k0_dev18 c = (nb false c).val)
    ∧ (k0_dev7 c = (nb true c).val ∧ k0_dev9 c = (nb true c).val ∧ k0_dev11 c = (nb true c).val ∧ k0_dev13 c = (nb true c).val
      ∧ k0_dev15 c = (nb true c).val ∧ k0_dev17 c = (nb true c).val ∧ k0_dev19 c = (nb true c).val) := by
  revert c; decide +kernel
/-- those of the second ring phase, -/
theorem pass_devs (c : Dev nD) :
    (k0_dev32 c = (nb false c).val ∧ k0_dev34 c = (nb false c).val ∧ k0_dev36 c = (nb false c).val ∧ k0_dev38 c = (nb false c).val
      ∧ k0_dev40 c = (nb false c).val ∧ k0_dev42 c = (nb false c).val ∧ k0_dev44 c = (nb false c).val)
    ∧ (k0_dev33 c = (nb true c).val ∧ k0_dev35 c = (nb true c).val ∧ k0_dev37 c = (nb true c).val ∧ k0_dev39 c = (nb true c).val
      ∧ k0_dev41 c = (nb true c).val ∧ k0_dev43 c = (nb true c).val ∧ k0_dev45 c = (nb true c).val) := by
  revert c; decide +kernel
/-- and the devices of the other planes the exchanges name. -/
theorem cross_devs (c : Dev nD) :
    (k0_dev20 c = (plane 0 c).val ∧ k0_dev21 c = (plane 0 c).val ∧ k0_dev22 c = (plane 1 c).val ∧ k0_dev23 c = (plane 1 c).val
      ∧ k0_dev24 c = (plane 2 c).val ∧ k0_dev25 c = (plane 2 c).val)
    ∧ (k0_dev26 c = (plane 0 c).val ∧ k0_dev27 c = (plane 0 c).val ∧ k0_dev28 c = (plane 1 c).val ∧ k0_dev29 c = (plane 1 c).val
      ∧ k0_dev30 c = (plane 2 c).val ∧ k0_dev31 c = (plane 2 c).val) := by
  revert c; decide +kernel

end Cert.Reduce

end
-- ==== Proof.Contents.lean ====
/-  What the result buffer of every device holds at every step.

    All devices go through the same steps, and what a device takes in at a step is what its
    neighbour held at the beginning of that step. So the contents of all devices together go
    from step to step by plain functions. -/
module

public import proofs.«01_k».proof.Proof.Mesh

@[expose] public section

noncomputable section

namespace Cert.Reduce

open Cert.KernelIdeal Cert.KernelIdeal.Gen
open Idealize.ShloMosaic Idealize.SL.Sem
open Idealize.ShloMosaic.TcCoe

variable {F : FTy → Type} [FloatOps F]

/-- Contents of a device's result buffer. -/
abbrev OutC (F : FTy → Type) := (cc0_stg1_0 : Ref sig .tc).ty.Contents (Elt F)

/-- Read a block, and write one. -/
def rd (f : OutC F) (b : Blk) : Vec F S256x512 .bf16 := (outM.access b.rect).read (Elt F) f
def wr (f : OutC F) (b : Blk) (w : Vec F S256x512 .bf16) : OutC F := (outM.access b.rect).write (Elt F) f w Finset.univ
def rdS (f : OutC F) (b : Sub) : Vec F S64x512 .bf16 := (outM.access b.rect).read (Elt F) f
def wrS (f : OutC F) (b : Sub) (w : Vec F S64x512 .bf16) : OutC F := (outM.access b.rect).write (Elt F) f w Finset.univ

/-- The slot a ring step uses. -/
def slotOf (n : ℕ) : Fin 4 := Fin.ofNat 4 n

/-- The block a device sends at ring step `n`: steps 0 to 6 are those of the first ring phase, steps
    7 to 13 those of the second. -/
def ringB (c : Dev nD) (n : ℕ) (d : Bool) : Blk :=
  if n < 7 then sendB c (Fin.ofNat 7 n) d else passB c (Fin.ofNat 7 n) d

/-- One step of the first ring phase, given what comes in. -/
def sumNext (c : Dev nD) (k : Fin 7) (f : OutC F) (w : Bool → Vec F S1x256x512 .bf16) : OutC F :=
  let g := wr f (addB c k false) (plusSlot (rd f (addB c k false)) (w false))
  wr g (addB c k true) (plusSlot (rd g (addB c k true)) (w true))
/-- One step of the second. -/
def passNext (c : Dev nD) (k : Fin 7) (f : OutC F) (w : Bool → Vec F S1x256x512 .bf16) : OutC F :=
  wr (wr f (sendB c k false) (ofSlot (w false))) (sendB c k true) (ofSlot (w true))
/-- The first exchange between planes, -/
def crossNext (c : Dev nD) (f : OutC F) (a : Fin 6 → Vec F S1x64x512 .bf16) : OutC F :=
  let g := wrS f (ownB c 0) (plusSubs (rdS f (ownB c 0)) (a 0) (a 2) (a 4))
  wrS g (ownB c 1) (plusSubs (rdS g (ownB c 1)) (a 1) (a 3) (a 5))
/-- and the second: one slot, and all. -/
def fillOne (c : Dev nD) (a : Fin 6 → Vec F S1x64x512 .bf16) (s : Fin 6) (f : OutC F) : OutC F :=
  wrS f (fillB c (dist s) (piece s)) (ofSub (a s))
def fillNext (c : Dev nD) (f : OutC F) (a : Fin 6 → Vec F S1x64x512 .bf16) : OutC F :=
  fillOne c a 5 (fillOne c a 4 (fillOne c a 3 (fillOne c a 2 (fillOne c a 1 (fillOne c a 0 f)))))

variable (X : Dev nD → OutC F)

/-- The contents after `k` steps of the first ring phase, from the contents `X`. -/
def sumSt : ℕ → Dev nD → OutC F
  | 0, c => X c
  | k + 1, c => sumNext c (Fin.ofNat 7 k) (sumSt k c)
      fun d => toSlot (rd (sumSt k (nb (!d) c)) (sendB (nb (!d) c) (Fin.ofNat 7 k) d))
/-- What slot `s` of the first exchange carries away from device `c`. -/
def share (s : Fin 6) (c : Dev nD) : FVec F S1x64x512 .bf16 := toSub (rdS (sumSt X 7 c) (shareB c (dist s) (piece s)))
/-- The contents after the first exchange, -/
def crossed (c : Dev nD) : OutC F := crossNext c (sumSt X 7 c) fun s => share X s (plane (rev (dist s)) c)
/-- what the second exchange carries away, -/
def done (p : Fin 2) (c : Dev nD) : FVec F S1x64x512 .bf16 := toSub (rdS (crossed X c) (ownB c p))
/-- and the contents after it. -/
def filled (c : Dev nD) : OutC F := fillNext c (crossed X c) fun s => done X (piece s) (plane (rev (dist s)) c)
/-- The contents after `k` steps of the second ring phase. -/
def passSt : ℕ → Dev nD → OutC F
  | 0, c => filled X c
  | k + 1, c => passNext c (Fin.ofNat 7 k) (passSt k c)
      fun d => toSlot (rd (passSt k (nb (!d) c)) (passB (nb (!d) c) (Fin.ofNat 7 k) d))

/-- The contents at the beginning of ring step `n`, and what the device sends at it. -/
def st (n : ℕ) (c : Dev nD) : OutC F := if n < 7 then sumSt X n c else passSt X (n - 7) c
def sent (n : ℕ) (d : Bool) (c : Dev nD) : FVec F S1x256x512 .bf16 := toSlot (rd (st X n c) (ringB c n d))

end Cert.Reduce

end
-- ==== Proof.Cells.lean ====
/-  The semaphores of the kernel, what each of their rounds moves, and what it hands over.

    Every device has one semaphore to meet on, and for each slot of a copy one semaphore on the
    sending and one on the receiving side. A ring slot is used every fourth step, so its
    semaphores go through several rounds; the others are used once.

    A device may write into a neighbour's slot only when the neighbour no longer needs it. The
    right to do so travels with the copies themselves: the copy a device starts to one neighbour
    at a step hands over, besides the block, the slot in which the device will take that
    neighbour's block at the next step. The first slots are handed over when the devices meet. -/
module

public import proofs.«01_k».proof.Proof.Contents
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Reduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The semaphores -/

/-- The copies' semaphores of a device: a ring slot's, by direction and side (`true` the
    receiver's), and a slot's of the exchanges (`true` the second), by side. -/
inductive Own
  | ring (d rcv : Bool) (s : Fin 4)
  | cross (ph rcv : Bool) (s : Fin 6)
  deriving DecidableEq

/-- The two families side by side. -/
def ownEquiv : (Bool × Bool × Fin 4) ⊕ (Bool × Bool × Fin 6) ≃ Own where
  toFun
    | .inl (d, rcv, s) => .ring d rcv s
    | .inr (ph, rcv, s) => .cross ph rcv s
  invFun
    | .ring d rcv s => .inl (d, rcv, s)
    | .cross ph rcv s => .inr (ph, rcv, s)
  left_inv := by rintro (_ | _) <;> rfl
  right_inv := by rintro (_ | _) <;> rfl
instance : Fintype Own := .ofEquiv _ ownEquiv

/-- All of them: the one the devices meet on, and the copies'. -/
inductive Kd
  | bar
  | own (k : Own)
  deriving DecidableEq

def kdEquiv : Option Own ≃ Kd where
  toFun
    | none => .bar
    | some k => .own k
  invFun
    | .bar => none
    | .own k => some k
  left_inv := by rintro (_ | _) <;> rfl
  right_inv := by rintro (_ | _) <;> rfl
instance : Fintype Kd := .ofEquiv _ kdEquiv

abbrev Kd.ring (d rcv : Bool) (s : Fin 4) : Kd := .own (.ring d rcv s)
abbrev Kd.cross (ph rcv : Bool) (s : Fin 6) : Kd := .own (.cross ph rcv s)

/-- The semaphore of each, -/
def Own.sem : Own → DmaSem sig
  | .ring d rcv s => ringSem d rcv s
  | .cross ph rcv s => crossSem ph rcv s
def Kd.sem : Kd → SemLoc sig
  | .bar => .reg barS
  | .own k => .dma k.sem
/-- and back. -/
def kindOf (l : SemLoc sig) : Option Kd := (Finset.univ : Finset Kd).toList.find? fun k => k.sem = l

theorem own_sem_inj : Function.Injective Own.sem := by
  have h : ∀ a b : Own, a.sem = b.sem → a = b := by decide +kernel
  exact fun a b => h a b
theorem sem_inj : Function.Injective Kd.sem := by
  rintro (_ | a) (_ | b) h
  · rfl
  · cases h
  · cases h
  · rw [own_sem_inj (SemLoc.dma.inj h)]

theorem kindOf_sem (k : Kd) : kindOf k.sem = some k := by
  unfold kindOf
  cases h : List.find? (fun k' => decide (k'.sem = k.sem)) (Finset.univ : Finset Kd).toList with
  | none =>
    have := List.find?_eq_none.mp h k (Finset.mem_toList.mpr (Finset.mem_univ k))
    simp at this
  | some k' =>
    have e := List.find?_some h
    rw [sem_inj (of_decide_eq_true (p := k'.sem = k.sem) e)]

/-- A device's semaphore of a kind. -/
abbrev cell (c : Dev nD) (k : Kd) : GSem nD τ sig := ((c : Thread nD τ), k.sem)

theorem cell_inj {c c' : Dev nD} {k k' : Kd} (h : cell c k = cell c' k') : c = c' ∧ k = k' :=
  ⟨congrArg (fun g : GSem nD τ sig => g.1.1) h, sem_inj (congrArg Prod.snd h)⟩

/-! ## Amounts -/

/-- What a copy of a ring slot, and of a slot of an exchange, credits. -/
def N4 : ℕ := (sq4 (ringR false) 0).view.dmaCredit
def N6 : ℕ := (sq6 sumR 0).view.dmaCredit

theorem N4_pos : 0 < N4 := View.dmaCredit_pos _ (by decide)
theorem N6_pos : 0 < N6 := View.dmaCredit_pos _ (by decide)

theorem credit4R : ∀ d s, (sq4 (ringR d) s).view.dmaCredit = N4
  | false, _ => rfl
  | true, _ => rfl
theorem credit4S : ∀ d s, (sq4 (ringS d) s).view.dmaCredit = N4
  | false, _ => rfl
  | true, _ => rfl
theorem credit6 (s : Fin 6) : (sq6 sumS s).view.dmaCredit = N6 ∧ (sq6 sumR s).view.dmaCredit = N6 ∧ (sq6 fillR s).view.dmaCredit = N6 :=
  ⟨rfl, rfl, rfl⟩
theorem credit2 (s : Fin 2) : (sq2 fillS s).view.dmaCredit = N6 := rfl

/-! ## Assertions on buffers -/

abbrev UB : Type := URounds (GSem nD τ sig) (Fin 5)
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

/-- A slot of a ring buffer on device `c` holds `Y`. -/
def own4 (c : Dev nD) (m : Memref sig .tc .vmem S4x256x512 .bf16) (s : Fin 4) (Y : Vec F S1x256x512 .bf16) : sProp 𝕄 :=
  owns (c : Thread nD τ) (m.slice (slot4 s) (fun _ => rfl)) fullShare Y
def own6 (c : Dev nD) (m : Memref sig .tc .vmem S6x64x512 .bf16) (s : Fin 6) (Y : Vec F S1x64x512 .bf16) : sProp 𝕄 :=
  owns (c : Thread nD τ) (m.slice (slot6 s) (fun _ => rfl)) fullShare Y
def own2 (c : Dev nD) (s : Fin 2) (q : PosShare TreeShare) (Y : Vec F S1x64x512 .bf16) : sProp 𝕄 :=
  owns (c : Thread nD τ) (fillS.slice (slot2 s) (fun _ => rfl)) q Y
def any4 (c : Dev nD) (m : Memref sig .tc .vmem S4x256x512 .bf16) (s : Fin 4) : sProp 𝕄 := iprop(∃ Y, own4 c m s Y)
def any6 (c : Dev nD) (m : Memref sig .tc .vmem S6x64x512 .bf16) (s : Fin 6) : sProp 𝕄 := iprop(∃ Y, own6 c m s Y)

/-- The device's result buffer holds `f`. -/
def out (c : Dev nD) (f : OutC F) : sProp 𝕄 := (c : Thread nD τ).loc cc0_stg1_0 ↦{fullShare} f

/-- The share of a completed block that the copy to the planes at each distance leaves from. -/
def third : Fin 3 → PosShare TreeShare
  | 0 => (fullShare : PosShare TreeShare).left
  | 1 => (fullShare : PosShare TreeShare).right.left
  | 2 => (fullShare : PosShare TreeShare).right.right

/-- The slot device `c` takes its neighbour's block in at ring step `n`, ready to be written. -/
def hand (c : Dev nD) (d : Bool) (n : ℕ) : sProp 𝕄 :=
  iprop(any4 (F := F) c (ringR d) (slotOf n) ∗ reached ER (cell c (.ring d true (slotOf n))) (n / 4))
/-- The slots device `c` takes in what comes from `r + 1` planes back. -/
def slotAt (r : Fin 3) (p : Fin 2) : Fin 6 := ⟨2 * r.val + p.val, by omega⟩
def crossHand (c : Dev nD) (r : Fin 3) : sProp 𝕄 :=
  iprop(any6 (F := F) c sumR (slotAt r 0) ∗ any6 (F := F) c sumR (slotAt r 1) ∗ any6 (F := F) c fillR (slotAt r 0) ∗ any6 (F := F) c fillR (slotAt r 1))
/-- What a copy of ring step `n - 1` hands over besides its block: there is no step 14. -/
def gift (c : Dev nD) (d : Bool) (n : ℕ) : sProp 𝕄 := if n < 14 then hand (F := F) c d n else iprop(emp)

/-! ## The rounds -/

/-- The units of a semaphore's round by duty, -/
def dutiesK : Kd → ℕ → Finset (Fin 5)
  | .bar, r => if r = 0 then Finset.univ else ∅
  | .own (.ring _ _ s), r => if 4 * r + s.val < 14 then {0} else ∅
  | .own (.cross _ _ _), r => if r = 0 then {0} else ∅
/-- what each is worth, -/
def amountK : Kd → ℕ
  | .bar => 1
  | .own (.ring _ _ _) => N4
  | .own (.cross _ _ _) => N6

theorem amountK_pos (k : Kd) : 0 < amountK k := by
  rcases k with _ | (_ | _)
  · exact Nat.one_pos
  · exact N4_pos
  · exact N6_pos

variable (X : Dev nD → OutC F)

/-- and what it hands over on device `c`. -/
def payK (c : Dev nD) : Kd → ℕ → Fin 5 → sProp 𝕄
  | .bar, _, 0 => hand (nb false c) false 0
  | .bar, _, 1 => hand (nb true c) true 0
  | .bar, _, 2 => crossHand (plane 0 c) 0
  | .bar, _, 3 => crossHand (plane 1 c) 1
  | .bar, _, 4 => crossHand (plane 2 c) 2
  | .own (.ring d false s), _, _ => any4 c (ringS d) s
  | .own (.ring d true s), r, _ =>
      iprop(own4 c (ringR d) s (sent X (4 * r + s.val) d (nb (!d) c)) ∗ gift (nb (!d) c) (!d) (4 * r + s.val + 1))
  | .own (.cross false false s), _, _ => any6 c sumS s
  | .own (.cross false true s), _, _ => own6 c sumR s (share X s (plane (rev (dist s)) c))
  | .own (.cross true false s), _, _ => own2 c (piece s) (third (dist s)) (done X (piece s) c)
  | .own (.cross true true s), _, _ => own6 c fillR s (done X (piece s) (plane (rev (dist s)) c))

instance own4_storable (c : Dev nD) (m : Memref sig .tc .vmem S4x256x512 .bf16) (s Y) : BI.Storable (upEmb : UEmb _ 𝕄) (own4 (F := F) c m s Y) := by
  unfold own4; infer_instance
instance own6_storable (c : Dev nD) (m : Memref sig .tc .vmem S6x64x512 .bf16) (s Y) : BI.Storable (upEmb : UEmb _ 𝕄) (own6 (F := F) c m s Y) := by
  unfold own6; infer_instance
instance own2_storable (c : Dev nD) (s q Y) : BI.Storable (upEmb : UEmb _ 𝕄) (own2 (F := F) c s q Y) := by
  unfold own2; infer_instance
instance any4_storable (c : Dev nD) (m : Memref sig .tc .vmem S4x256x512 .bf16) (s) : BI.Storable (upEmb : UEmb _ 𝕄) (any4 (F := F) c m s) := by
  unfold any4; infer_instance
instance any6_storable (c : Dev nD) (m : Memref sig .tc .vmem S6x64x512 .bf16) (s) : BI.Storable (upEmb : UEmb _ 𝕄) (any6 (F := F) c m s) := by
  unfold any6; infer_instance
instance hand_storable (c : Dev nD) (d n) : BI.Storable (upEmb : UEmb _ 𝕄) (hand (F := F) c d n) := by
  unfold hand; infer_instance
instance crossHand_storable (c : Dev nD) (r) : BI.Storable (upEmb : UEmb _ 𝕄) (crossHand (F := F) c r) := by
  unfold crossHand; infer_instance
instance gift_storable (c : Dev nD) (d n) : BI.Storable (upEmb : UEmb _ 𝕄) (gift (F := F) c d n) := by
  unfold gift; split <;> infer_instance

instance payK_storable (c : Dev nD) (k : Kd) (r : ℕ) (i : Fin 5) : BI.Storable (upEmb : UEmb _ 𝕄) (payK X c k r i) := by
  rcases k with _ | (⟨d, _ | _, s⟩ | ⟨_ | _, _ | _, s⟩)
  · fin_cases i <;> (unfold payK; infer_instance)
  all_goals unfold payK; infer_instance

/-- All semaphores' rounds. -/
def Rd : Rounds.Schedule (GSem nD τ sig) (Fin 5) 𝕄 where
  duties g r := if g.1.2 = .tc then (kindOf g.2).elim ∅ fun k => dutiesK k r else ∅
  unitless _ := False
  amount g _ _ := (kindOf g.2).elim 1 amountK
  payload g r i := (kindOf g.2).elim iprop(emp) fun k => payK X g.1.1 k r i
  amount_pos g r i h := by
    cases kindOf g.2 with
    | none => exact Nat.one_pos
    | some k => exact amountK_pos k

instance Rd_payload_storable (g : GSem nD τ sig) (r : ℕ) (i : Fin 5) : BI.Storable (upEmb : UEmb _ 𝕄) ((Rd X).payload g r i) := by
  show BI.Storable upEmb ((kindOf g.2).elim iprop(emp) fun k => payK X g.1.1 k r i)
  cases kindOf g.2 with
  | none => show BI.Storable upEmb iprop(emp); infer_instance
  | some k => show BI.Storable upEmb (payK X g.1.1 k r i); infer_instance

theorem Rd_duties (c : Dev nD) (k : Kd) (r : ℕ) : (Rd X).duties (cell c k) r = dutiesK k r := by
  show (if (c : Thread nD τ).2 = .tc then (kindOf k.sem).elim ∅ fun k => dutiesK k r else ∅) = _
  rw [if_pos rfl, kindOf_sem]; rfl
theorem Rd_amount (c : Dev nD) (k : Kd) (r : ℕ) (i : Fin 5) : (Rd X).amount (cell c k) r i = amountK k := by
  show (kindOf k.sem).elim 1 amountK = _
  rw [kindOf_sem]; rfl
theorem Rd_payload (c : Dev nD) (k : Kd) (r : ℕ) (i : Fin 5) : (Rd X).payload (cell c k) r i = payK X c k r i := by
  show (kindOf k.sem).elim iprop(emp) (fun k' => payK X c k' r i) = _
  rw [kindOf_sem]; rfl

/-- A round of one duty expects that duty's amount, and hands over its payload. -/
theorem Rd_expect {c : Dev nD} {k : Kd} {r : ℕ} (h : dutiesK k r = {0}) : (Rd X).expect (cell c k) r = amountK k := by
  unfold Schedule.expect Schedule.amountOf
  rw [Rd_duties, h, Finset.sum_singleton, Rd_amount]
theorem Rd_rest {c : Dev nD} {k : Kd} {r : ℕ} (h : dutiesK k r = {0}) :
    bigSep ((Rd X).duties (cell c k) r \ ∅) (fun d => (Rd X).payload (cell c k) r d) = payK X c k r 0 := by
  rw [Finset.sdiff_empty, Rd_duties, h, bigSep_singleton, Rd_payload]

/-- The round of the semaphore the devices meet on. -/
theorem Rd_expect_bar (c : Dev nD) : (Rd X).expect (cell c .bar) 0 = 5 := by
  unfold Schedule.expect Schedule.amountOf
  rw [Rd_duties, Finset.sum_congr rfl fun i _ => Rd_amount X c .bar 0 i]
  rfl
theorem Rd_rest_bar (c : Dev nD) :
    bigSep ((Rd X).duties (cell c .bar) 0 \ ∅) (fun d => (Rd X).payload (cell c .bar) 0 d)
      = iprop(hand (nb false c) false 0 ∗ hand (nb true c) true 0 ∗ crossHand (plane 0 c) 0 ∗ crossHand (plane 1 c) 1 ∗ crossHand (plane 2 c) 2) := by
  rw [Finset.sdiff_empty, Rd_duties]
  show bigSep Finset.univ _ = _
  rw [bigSep_univ_eq_bigSepL [0, 1, 2, 3, 4] (by decide) (by decide)]
  simp only [bigSepL_cons_cons, bigSepL_singleton, Rd_payload]
  rfl

/-- After its last round a semaphore has no duties. -/
theorem Rd_later_bar (c : Dev nD) : ∀ r, 1 ≤ r → (Rd X).duties (cell c .bar) r = ∅ := fun r h => by
  rw [Rd_duties]; exact if_neg (by omega)
theorem Rd_later_ring (c : Dev nD) (d rcv : Bool) (s : Fin 4) (n : ℕ) (h : 14 ≤ n) (hs : slotOf n = s) :
    ∀ r, n / 4 ≤ r → (Rd X).duties (cell c (.ring d rcv s)) r = ∅ := fun r hr => by
  rw [Rd_duties]
  have e : n % 4 = s.val := by rw [← hs]; rfl
  exact if_neg (by omega)
theorem Rd_later_cross (c : Dev nD) (ph rcv : Bool) (s : Fin 6) : ∀ r, 1 ≤ r → (Rd X).duties (cell c (.cross ph rcv s)) r = ∅ := fun r h => by
  rw [Rd_duties]; exact if_neg (by omega)

theorem duties_ring (d rcv : Bool) (n : ℕ) (h : n < 14) : dutiesK (.ring d rcv (slotOf n)) (n / 4) = {0} := by
  refine if_pos ?_
  show 4 * (n / 4) + n % 4 < 14
  omega
theorem duties_cross (ph rcv : Bool) (s : Fin 6) : dutiesK (.cross ph rcv s) 0 = {0} := by
  unfold dutiesK; exact if_pos rfl

end Cert.Reduce

end
-- ==== Proof.Dues.lean ====
/-  What every device owes the others, in the order it pays, and in which order the devices wait.

    A device pays for one thing at a time: a signal to a device it meets, a copy to a neighbour, a
    copy to another plane. Each is due at a level, and a device waits only for what is due at a
    level below everything it still owes; so no two devices wait for each other. -/
module

public import proofs.«01_k».proof.Proof.Cells
public import Idealize.ShloMosaic.Lib.Pipeline.TalkSites

@[expose] public section

noncomputable section

namespace Cert.Reduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (tallyL tallyL_pos)

variable {F : FTy → Type} [FloatOps F]

local notation "𝕄" => MT nD τ sig ℕ (Elt F) ℕ UU ℕ

/-- A payment: a signal, by the duty it pays; a ring copy, by step and direction; a copy of an
    exchange, by slot. -/
inductive Ev
  | bar (i : Fin 5)
  | ring (n : ℕ) (d : Bool)
  | cross (ph : Bool) (s : Fin 6)
  deriving DecidableEq

/-- To whom, -/
def Ev.peer : Ev → Dev nD ≃ Dev nD
  | .bar 0 => ringEquiv true
  | .bar 1 => ringEquiv false
  | .bar 2 => planeEquiv 2
  | .bar 3 => planeEquiv 1
  | .bar 4 => planeEquiv 0
  | .ring _ d => ringEquiv d
  | .cross _ s => planeEquiv (dist s)
/-- on which of its semaphores, -/
def Ev.kd : Ev → Kd
  | .bar _ => .bar
  | .ring n d => .ring d true (slotOf n)
  | .cross ph s => .cross ph true s
/-- in which round, as which duty, -/
def Ev.round : Ev → ℕ
  | .bar _ => 0
  | .ring n _ => n / 4
  | .cross _ _ => 0
def Ev.duty : Ev → Fin 5
  | .bar i => i
  | .ring _ _ => 0
  | .cross _ _ => 0
/-- and at which level. -/
def ringIx (n : ℕ) : ℕ := if n < 7 then 2 + n else 4 + n
def Ev.ix : Ev → ℕ
  | .bar _ => 1
  | .ring n _ => ringIx n
  | .cross false _ => 9
  | .cross true _ => 10

/-- The payment as a tally. -/
def Ev.pay (c : Dev nD) (e : Ev) : TalkSites.Pay nD τ sig := (cell (e.peer c) e.kd, e.ix, amountK e.kd)

/-- The permits a payment uses: one to make it, and for a copy one to credit the sender. -/
structure Tok where
  peer : Dev nD ≃ Dev nD
  kd : Kd
  round : ℕ
  duty : Fin 5
def Ev.toks : Ev → List Tok
  | .bar i => [⟨Ev.peer (.bar i), .bar, 0, i⟩]
  | .ring n d => [⟨.refl _, .ring d false (slotOf n), n / 4, 0⟩, ⟨ringEquiv d, .ring d true (slotOf n), n / 4, 0⟩]
  | .cross ph s => [⟨.refl _, .cross ph false s, 0, 0⟩, ⟨planeEquiv (dist s), .cross ph true s, 0, 0⟩]

def tokAt (c : Dev nD) (t : Tok) : sProp 𝕄 := dutyTok ER (cell (t.peer c) t.kd) t.round t.duty

/-- What device `c` holds for a payment: its permits, and the credit for the one it receives. -/
def evRes (c : Dev nD) (e : Ev) : sProp 𝕄 :=
  iprop((bigSepL e.toks (tokAt (F := F) c)) ∗ cred (tallyAt (cell c e.kd) e.ix (amountK e.kd)))

/-! ## The order of the payments -/

def openEvs : List Ev := [.bar 0, .bar 1, .bar 4, .bar 3, .bar 2]
def crossEvs (ph : Bool) : List Ev := [.cross ph 0, .cross ph 1, .cross ph 2, .cross ph 3, .cross ph 4, .cross ph 5]
/-- The last `j` steps of the second ring phase, -/
def passEvs : ℕ → List Ev
  | 0 => []
  | j + 1 => .ring (13 - j) false :: .ring (13 - j) true :: passEvs j
/-- and the last `j` steps of the first with all that follows. -/
def sumEvs : ℕ → List Ev
  | 0 => crossEvs false ++ (crossEvs true ++ passEvs 7)
  | j + 1 => .ring (6 - j) false :: .ring (6 - j) true :: sumEvs j
def allEvs : List Ev := openEvs ++ sumEvs 7

/-- What device `c` owes for a list of payments, -/
def due (c : Dev nD) (l : List Ev) : CellTallies nD τ sig ℕ := tallyL (l.map (Ev.pay c))
/-- and that it owes that much, whatever it has waited for. -/
def owing (c : Dev nD) (l : List Ev) : sProp 𝕄 := iprop(∃ W, owes (c : Thread nD τ) (due c l) W)
def held (c : Dev nD) (l : List Ev) : sProp 𝕄 := bigSepL l (evRes (F := F) c)

theorem due_cons (c : Dev nD) (e : Ev) (l : List Ev) :
    due c (e :: l) = due c l + tallyAt (cell (e.peer c) e.kd) e.ix (amountK e.kd) := add_comm _ _

/-! ## Levels -/

abbrev L : GSem nD τ sig → Finset ℕ := SiteBlocks.L 18
abbrev lv : GSem nD τ sig → ℕ → ℕ := SiteBlocks.lv

theorem all_lt : ∀ e ∈ allEvs, e.ix < 18 := by decide

/-- A wait below all that is owed. -/
theorem mayWait (c : Dev nD) (sm : SemLoc sig) (i : ℕ) (l : List Ev) (hi : i < 18) (h : ∀ e ∈ l, i < e.ix ∧ e.ix < 18) :
    (levAts L lv : sProp 𝕄) ⊢ MayWait (c : Thread nD τ) sm i (due c l) :=
  SiteBlocks.mayWait_of hi c sm _ fun g k hg => by
    obtain ⟨x, hx, rfl, rfl⟩ := tallyL_pos hg
    obtain ⟨e, he, rfl⟩ := List.mem_map.mp hx
    exact ⟨SiteBlocks.mem_L _ _ (h e he).2, (h e he).1⟩

/-! ## What never changes -/

variable (X : Dev nD → OutC F)

/-- The rounds of all semaphores run, at the names `K`; all have begun; the levels are as fixed. -/
def world (K : Dev nD × Kd → ℕ) : sProp 𝕄 :=
  iprop((bigSep Finset.univ fun ck : Dev nD × Kd => cellInv ER (Rd X) (K ck) (cell ck.1 ck.2))
    ∗ (bigSep Finset.univ fun ck : Dev nD × Kd => reached ER (cell ck.1 ck.2) 0) ∗ (levAts L lv : sProp 𝕄))

instance world_persistent (K : Dev nD × Kd → ℕ) : BI.Persistent (world X K) := by unfold world; infer_instance

theorem inv_at (K : Dev nD × Kd → ℕ) (ck : Dev nD × Kd) :
    (bigSep Finset.univ fun ck : Dev nD × Kd => (cellInv ER (Rd X) (K ck) (cell ck.1 ck.2) : sProp 𝕄)) ⊢ cellInv ER (Rd X) (K ck) (cell ck.1 ck.2) :=
  bigSep_elim (Finset.mem_univ ck)
theorem reached_at (ck : Dev nD × Kd) :
    (bigSep Finset.univ fun ck : Dev nD × Kd => (reached ER (cell ck.1 ck.2) 0 : sProp 𝕄)) ⊢ reached ER (cell ck.1 ck.2) 0 :=
  bigSep_elim (Finset.mem_univ ck)
theorem world_inv (K : Dev nD × Kd → ℕ) (c : Dev nD) (k : Kd) : world X K ⊢ cellInv ER (Rd X) (K (c, k)) (cell c k) := by
  unfold world
  iintro ⟨H, -, -⟩
  iapply (inv_at X K (c, k)) $$ H
theorem world_reached (K : Dev nD × Kd → ℕ) (c : Dev nD) (k : Kd) : world X K ⊢ reached ER (cell c k) 0 := by
  unfold world
  iintro ⟨-, H, -⟩
  iapply (reached_at (F := F) (c, k)) $$ H
theorem world_mayWait (K : Dev nD × Kd → ℕ) (c : Dev nD) (sm : SemLoc sig) (i : ℕ) (l : List Ev) (hi : i < 18) (h : ∀ e ∈ l, i < e.ix ∧ e.ix < 18) :
    world X K ⊢ MayWait (c : Thread nD τ) sm i (due c l) := by
  unfold world
  iintro ⟨-, -, H⟩
  iapply (mayWait (F := F) c sm i l hi h) $$ H

end Cert.Reduce

end
-- ==== Proof.Ops.lean ====
/-  The single operations of the body as rules: a load or a store of a block of the result, a load
    or a store of a slot, a copy started, a wait. -/
module

public import proofs.«01_k».proof.Proof.Dues

@[expose] public section

noncomputable section

namespace Cert.Reduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

abbrev 𝒱₀ : Variants := Variants.none

/-- What a program run on device `c` needs for `Q` to hold at its end. -/
abbrev wpc {α : Type} (c : Dev nD) (p : Act (F := F) α) (Q : α → sProp 𝕄) : sProp 𝕄 :=
  wp frame (wpE (defs₀ (F := F)) 𝒱₀ (c : Thread nD τ) none) Set.univ p Q

theorem wpc_ret {α : Type} (c : Dev nD) (a : α) (Q : α → sProp 𝕄) : Q a ⊢ wpc (F := F) c (.ret a) Q := by
  unfold wpc; rw [wp_ret]; exact fupd_intro

/-! ## Slices -/

section Slice

variable {sp : Space} {s : Shape} {e : EltTy} (c : Dev nD)

/-- A load of a slice whose contents are owned returns them. -/
theorem wp_load_slice {cs : CoreSpace} (m : Memref sig .tc cs s e) (r : Rect s) (hr : ∀ a, r.stride a = 1) (hl : m.view.LoadsAt r.toLoadRect)
    (q : PosShare TreeShare) (Y : r.shape.Idx → Elt F e) (Q : (r.shape.Idx → Elt F e) → sProp 𝕄) :
    owns (c : Thread nD τ) (m.slice r hr) q Y
      ⊢ iprop((owns (c : Thread nD τ) (m.slice r hr) q Y -∗ Q Y) -∗ wpc c (Prog.lift (.load m r.toLoadRect hl)) Q) := by
  unfold owns
  iintro ⟨%f, %hf, H⟩ HQ
  simp only [Prog.lift]
  iapply (wp_load_rect (defs := defs₀ (F := F)) 𝒱₀ (c : Thread nD τ) none Set.univ (m := m) (r := r) (hl := hl) (f := f) (S := (m.access r).set) (Finset.Subset.refl _)) $$ H
  iintro H
  iapply (wpc_ret c)
  rw [show (m.access r).read (Elt F) f = Y from hf]
  iapply HQ
  iexists f
  isplitr; · ipureintro; exact hf
  iexact H

/-- A store to a slice that is owned. -/
theorem wp_store_slice {cs : CoreSpace} (m : Memref sig .tc cs s e) (r : Rect s) (hr : ∀ a, r.stride a = 1) (w : r.shape.Idx → Elt F e)
    (hx : (m.access r).Stores Finset.univ) (hm : (Finset.univ : Finset r.shape.Idx) = Finset.univ ∨ ∀ a, r.stride a = 1) (Y : r.shape.Idx → Elt F e) (Q : PUnit → sProp 𝕄) :
    owns (c : Thread nD τ) (m.slice r hr) fullShare Y
      ⊢ iprop((owns (c : Thread nD τ) (m.slice r hr) fullShare w -∗ Q ⟨⟩) -∗ wpc c (Prog.lift (.store m r w Finset.univ hx hm)) Q) := by
  unfold owns
  iintro ⟨%f, %hf, H⟩ HQ
  simp only [Prog.lift]
  iapply (wp_store (defs := defs₀ (F := F)) 𝒱₀ (c : Thread nD τ) none Set.univ (m := m) (r := r) (w := w) (Mk := Finset.univ) (hx := hx) (hm := hm) (f := f) (S := (m.access r).set)
    (by rw [View.setOn_univ])) $$ H
  iintro H
  iapply (wpc_ret c)
  iapply HQ
  iexists ((m.access r).write (Elt F) f w Finset.univ)
  isplitr
  · ipureintro; exact View.read_write_univ (v := m.access r) f w
  iexact H

/-- Splitting an owned view: contents read through it squeezed are its contents reshaped. -/
theorem read_written (u v : View sig .tc sp s e) (s' : Shape) (h : s'.numel = s.numel) (fs : u.ty.Contents (Elt F)) (fd : v.ty.Contents (Elt F)) :
    v.read (Elt F) ((v.reshape s' h).write (Elt F) fd ((u.reshape s' h).read (Elt F) fs) Finset.univ) = u.read (Elt F) fs := by
  have e := View.read_write_univ (v := v.reshape s' h) fd ((u.reshape s' h).read (Elt F) fs)
  funext i
  have ei := congrFun e ((Shape.reshapeEquiv h).symm i)
  have e1 : (v.reshape s' h).read (Elt F) ((v.reshape s' h).write (Elt F) fd ((u.reshape s' h).read (Elt F) fs) Finset.univ) ((Shape.reshapeEquiv h).symm i)
      = v.read (Elt F) ((v.reshape s' h).write (Elt F) fd ((u.reshape s' h).read (Elt F) fs) Finset.univ) (Shape.reshapeEquiv h ((Shape.reshapeEquiv h).symm i)) := rfl
  have e2 : (u.reshape s' h).read (Elt F) fs ((Shape.reshapeEquiv h).symm i) = u.read (Elt F) fs (Shape.reshapeEquiv h ((Shape.reshapeEquiv h).symm i)) := rfl
  rw [e1, e2, Equiv.apply_symm_apply] at ei
  exact ei

variable (X : Dev nD → OutC F) (K : Dev nD × Kd → ℕ)

/-- A copy of an owned slot into an owned slot of another device: it hands over both, and with the
    second whatever goes along. -/
theorem wp_copy (ms md : Memref sig .tc .vmem s .bf16) (s' : Shape) (hq : s.Squeezes s')
    (dst p : Dev nD) (hp : dst = p) (k₁ k₂ : Own) (r : ℕ) (ix : ℕ) (N : ℕ)
    (h₁ : dutiesK (.own k₁) r = {0}) (h₂ : dutiesK (.own k₂) r = {0}) (hN : (md.squeeze s' hq).view.dmaCredit = N)
    (hk₁ : amountK (.own k₁) = N) (hk₂ : amountK (.own k₂) = N)
    (q : PosShare TreeShare) (Y : s.Idx → Elt F .bf16) (G : sProp 𝕄)
    (hpay₁ : owns (c : Thread nD τ) ms q Y ⊢ payK X c (.own k₁) r 0)
    (hpay₂ : iprop(owns (p : Thread nD τ) md fullShare Y ∗ G) ⊢ payK X p (.own k₂) r 0)
    (O O₀ : CellTallies nD τ sig ℕ) (hO : O₀ = O + tallyAt (cell p (.own k₂)) ix N) (W : Waits sig ℕ)
    (hsc : (md.squeeze s' hq).view.ref.isScScratch = false)
    (hsrc : (ms.squeeze s' hq).view.WordExact) (hdst : (md.squeeze s' hq).view.WordExact)
    (hsem : DmaTarget.Typed .vmem (.dma k₂.sem) (.remote (Dev.tc dst : Thread nD τ) (md.squeeze s' hq) (.dma k₁.sem) hsc))
    (Q : PUnit → sProp 𝕄) :
    iprop(world X K ∗ owns (c : Thread nD τ) ms q Y ∗ (∃ Z, owns (p : Thread nD τ) md fullShare Z) ∗ G
        ∗ owes (c : Thread nD τ) O₀ W
        ∗ dutyTok ER (cell c (.own k₁)) r 0 ∗ reached ER (cell c (.own k₁)) r
        ∗ dutyTok ER (cell p (.own k₂)) r 0 ∗ reached ER (cell p (.own k₂)) r)
      ⊢ iprop(((cred (tallyAt (cell c (.own k₁)) ix N) ∗ owes (c : Thread nD τ) O W) -∗ Q ⟨⟩)
          -∗ wpc c (Prog.lift (.enqueueDma (ms.squeeze s' hq) (.remote (Dev.tc dst : Thread nD τ) (md.squeeze s' hq) (.dma k₁.sem) hsc) (.dma k₂.sem) hsrc hdst hsem)) Q) := by
  subst hp
  iintro ⟨#HW, Hs, ⟨%Z, Hd⟩, HG, HO, Ht₁, #Hr₁, Ht₂, #Hr₂⟩ HQ
  unfold owns
  icases Hs with ⟨%fs, %hfs, Hs⟩
  icases Hd with ⟨%fd, %hfd, Hd⟩
  simp only [Prog.lift]
  iapply (Rounds.wp_send_pointsTo_with (defs := defs₀ (F := F)) 𝒱₀ ER (Rd X) (c : Thread nD τ) none (c' := (dst : Thread nD τ))
      (src := ms.squeeze s' hq) (dst := md.squeeze s' hq) (sS := .dma k₁.sem) (sem := .dma k₂.sem) (F := G)
      (κ₁ := K (c, .own k₁)) (κ₂ := K (dst, .own k₂)) (r₁ := r) (r₂ := r) (d₁ := 0) (d₂ := 0) (fs := fs) (fd := fd) (q := q)
      (by rw [show ((c : Thread nD τ), SemLoc.dma k₁.sem) = cell c (.own k₁) from rfl, Rd_duties, h₁]; exact Finset.mem_singleton_self _)
      (by rw [show ((dst : Thread nD τ), SemLoc.dma k₂.sem) = cell dst (.own k₂) from rfl, Rd_duties, h₂]; exact Finset.mem_singleton_self _)
      ix ix N hN ((Rd_amount X c (.own k₁) r 0).trans hk₁) ((Rd_amount X dst (.own k₂) r 0).trans hk₂) O hO
      (by
        rw [show ((c : Thread nD τ), SemLoc.dma k₁.sem) = cell c (.own k₁) from rfl, Rd_payload]
        refine BIBase.Entails.trans ?_ hpay₁
        unfold owns
        iintro H
        iexists fs
        isplitr; · ipureintro; exact hfs
        rw [Memref.set_view_squeeze]
        iexact H)
      (by
        rw [show ((dst : Thread nD τ), SemLoc.dma k₂.sem) = cell dst (.own k₂) from rfl, Rd_payload]
        refine BIBase.Entails.trans (sep_mono_left ?_) hpay₂
        unfold owns
        iintro H
        iexists _
        isplitr
        · ipureintro; exact (read_written ms.view md.view s' hq.numel_eq fs fd).trans hfs
        rw [Memref.set_view_squeeze]
        iexact H)) $$ [Hs Hd HG HO Ht₁ Ht₂]
  · isplitr; · iapply (world_inv X K c (.own k₁)); iexact HW
    isplitr; · iapply (world_inv X K dst (.own k₂)); iexact HW
    isplitl [Hs]; · rw [Memref.set_view_squeeze]; iexact Hs
    isplitl [Hd HG]
    · isplitl [Hd]; · rw [Memref.set_view_squeeze]; iexact Hd
      iexact HG
    isplitl [HO]; · iexact HO
    isplitl [Ht₁]; · iexact Ht₁
    isplitr; · iexact Hr₁
    isplitl [Ht₂]; · iexact Ht₂
    iexact Hr₂
  iintro H
  iapply (wpc_ret c)
  iapply HQ
  iexact H

/-- A wait for the one duty of a copy's round. -/
theorem wp_arrive {sp sp' : Space} {sh sh' : Shape} {e e' : EltTy} (k : Own) (r ix : ℕ) (N : ℕ)
    (a : Memref sig .tc sp sh e) (b : Memref sig .tc sp' sh' e') (ha : a.view.WordExact) (hb : b.view.WordExact)
    (hd : dutiesK (.own k) r = {0}) (hN : b.view.dmaCredit = N) (hk : amountK (.own k) = N)
    (l : List Ev) (hi : ix < 18) (hl : ∀ e ∈ l, ix < e.ix ∧ e.ix < 18) (Q : PUnit → sProp 𝕄) :
    iprop(world X K ∗ cred (tallyAt (cell c (.own k)) ix N) ∗ owing c l ∗ atPos ER (cell c (.own k)) r ∅ 0)
      ⊢ iprop(((owing c l ∗ atPos ER (cell c (.own k)) (r + 1) ∅ 0 ∗ reached ER (cell c (.own k)) (r + 1) ∗ payK X c (.own k) r 0) -∗ Q ⟨⟩)
          -∗ wpc c (Prog.lift (.waitDma2 k.sem a b ha hb)) Q) := by
  unfold owing
  iintro ⟨#HW, Hc, ⟨%W, HO⟩, Hat⟩ HQ
  simp only [Prog.lift]
  iapply (Rounds.wp_wait_rest_token (defs := defs₀ (F := F)) 𝒱₀ ER (Rd X) (c : Thread nD τ) none (κ := K (c, .own k)) (sm := .dma k.sem)
      (wpE_waitDma2_eq 𝒱₀ (c : Thread nD τ) none Set.univ) (Set.mem_univ _) ix (O := due c l) (W := W) (R := r) (m := 0) (T := ∅)
      (by
        rw [show ((c : Thread nD τ), SemLoc.dma k.sem) = cell c (.own k) from rfl, Rd_expect X hd, hN, hk, Nat.zero_add])) $$ [Hc HO Hat]
  · isplitr; · iapply (world_inv X K c (.own k)); iexact HW
    isplitl [Hc]; · rw [hN]; iexact Hc
    isplitl [HO]; · iexact HO
    isplitr; · iapply (world_mayWait X K c (.dma k.sem) ix l hi hl); iexact HW
    iexact Hat
  iintro ⟨HO, Hat, Hr, Hp⟩
  iapply (wpc_ret c)
  iapply HQ
  rw [← Rd_rest X (c := c) hd]
  isplitl [HO]
  · iexists _; iexact HO
  isplitl [Hat]; · iexact Hat
  isplitl [Hr]; · iexact Hr
  iexact Hp

end Slice

/-! ## Blocks of the result -/

section Result

variable (c : Dev nD)

theorem wp_load_out (r : Rect S2048x1024) (hl : outM.view.LoadsAt r.toLoadRect) (f : OutC F) (Q : (r.shape.Idx → Elt F .bf16) → sProp 𝕄) :
    out c f ⊢ iprop((out c f -∗ Q ((outM.access r).read (Elt F) f)) -∗ wpc c (Prog.lift (.load outM r.toLoadRect hl)) Q) := by
  unfold out
  iintro H HQ
  simp only [Prog.lift]
  iapply (wp_load_rect (defs := defs₀ (F := F)) 𝒱₀ (c : Thread nD τ) none Set.univ (m := outM) (r := r) (hl := hl) (f := f) (S := Finset.univ) (Finset.subset_univ _)) $$ H
  iintro H
  iapply (wpc_ret c)
  iapply HQ
  iexact H

theorem wp_store_out (r : Rect S2048x1024) (w : r.shape.Idx → Elt F .bf16) (hx : (outM.access r).Stores Finset.univ)
    (hm : (Finset.univ : Finset r.shape.Idx) = Finset.univ ∨ ∀ a, r.stride a = 1) (f : OutC F) (Q : PUnit → sProp 𝕄) :
    out c f ⊢ iprop((out c ((outM.access r).write (Elt F) f w Finset.univ) -∗ Q ⟨⟩) -∗ wpc c (Prog.lift (.store outM r w Finset.univ hx hm)) Q) := by
  unfold out
  iintro H HQ
  simp only [Prog.lift]
  iapply (wp_store (defs := defs₀ (F := F)) 𝒱₀ (c : Thread nD τ) none Set.univ (m := outM) (r := r) (w := w) (Mk := Finset.univ) (hx := hx) (hm := hm) (f := f) (S := Finset.univ)
    (Finset.subset_univ _)) $$ H
  iintro H
  iapply (wpc_ret c)
  iapply HQ
  iexact H

theorem wp_getB (f : OutC F) (b : Blk) (Q : Vec F S256x512 .bf16 → sProp 𝕄) : out c f ⊢ iprop((out c f -∗ Q (rd f b)) -∗ wpc c (getB b) Q) :=
  wp_load_out c b.rect _ f Q
theorem wp_setB (f : OutC F) (b : Blk) (hb : b.Packed) (w : Vec F S256x512 .bf16) (Q : PUnit → sProp 𝕄) :
    out c f ⊢ iprop((out c (wr f b w) -∗ Q ⟨⟩) -∗ wpc c (setB b hb w) Q) :=
  wp_store_out c b.rect w _ _ f Q
theorem wp_getSub (f : OutC F) (b : Sub) (Q : Vec F S64x512 .bf16 → sProp 𝕄) : out c f ⊢ iprop((out c f -∗ Q (rdS f b)) -∗ wpc c (getSub b) Q) :=
  wp_load_out c b.rect _ f Q
theorem wp_setSub (f : OutC F) (b : Sub) (hb : b.Packed) (w : Vec F S64x512 .bf16) (Q : PUnit → sProp 𝕄) :
    out c f ⊢ iprop((out c (wrS f b w) -∗ Q ⟨⟩) -∗ wpc c (setSub b hb w) Q) :=
  wp_store_out c b.rect w _ _ f Q

/-! ## Slots -/

theorem wp_get4 (m : Memref sig .tc .vmem S4x256x512 .bf16) (s : Fin 4) (Y : Vec F S1x256x512 .bf16) (Q : Vec F S1x256x512 .bf16 → sProp 𝕄) :
    own4 c m s Y ⊢ iprop((own4 c m s Y -∗ Q Y) -∗ wpc c (get4 m s) Q) :=
  wp_load_slice c m (slot4 s) _ _ _ Y Q
theorem wp_get6 (m : Memref sig .tc .vmem S6x64x512 .bf16) (s : Fin 6) (Y : Vec F S1x64x512 .bf16) (Q : Vec F S1x64x512 .bf16 → sProp 𝕄) :
    own6 c m s Y ⊢ iprop((own6 c m s Y -∗ Q Y) -∗ wpc c (get6 m s) Q) :=
  wp_load_slice c m (slot6 s) _ _ _ Y Q
theorem wp_get2 (s : Fin 2) (q : PosShare TreeShare) (Y : Vec F S1x64x512 .bf16) (Q : Vec F S1x64x512 .bf16 → sProp 𝕄) :
    own2 c s q Y ⊢ iprop((own2 c s q Y -∗ Q Y) -∗ wpc c (get2 fillS s) Q) :=
  wp_load_slice c fillS (slot2 s) _ _ _ Y Q

end Result

end Cert.Reduce

end
-- ==== Proof.Ring.lean ====
/-  One step of a ring phase.

    At the beginning of step `n` a device holds, in each direction, the slots it sends from with
    their semaphores, three of the four slots it receives in, and the neighbour's slot its next
    copy goes to. The copies of the step give away the slot of the next step and bring back the
    neighbour's, so after the step the same holds for step `n + 1`. -/
module

public import proofs.«01_k».proof.Proof.Ops

@[expose] public section

noncomputable section

namespace Cert.Reduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## What a device holds between steps -/

/-- The slot a device sends from at step `n`, and the positions of the slot's semaphores. -/
def slotRes (c : Dev nD) (d : Bool) (n : ℕ) : sProp 𝕄 :=
  iprop(any4 (F := F) c (ringS d) (slotOf n) ∗ atPos ER (cell c (.ring d false (slotOf n))) (n / 4) ∅ 0
    ∗ reached ER (cell c (.ring d false (slotOf n))) (n / 4) ∗ atPos ER (cell c (.ring d true (slotOf n))) (n / 4) ∅ 0)

/-- Where the copy of step `n` goes: the neighbour's slot, while there is such a step. -/
def carry (c : Dev nD) (d : Bool) (n : ℕ) : sProp 𝕄 := if n < 14 then hand (F := F) (nb d c) d n else hand (F := F) c d n
/-- What a device keeps of a slot it would hand over for step `n`. -/
def keep (c : Dev nD) (d : Bool) (n : ℕ) : sProp 𝕄 := if n < 14 then iprop(emp) else hand (F := F) c d n

theorem gift_split (c : Dev nD) (d : Bool) (n : ℕ) : hand (F := F) c d n ⊢ iprop(gift c d n ∗ keep c d n) := by
  unfold gift keep
  split
  · iintro H
    isplitl [H]; · iexact H
    iempintro
  · iintro H
    isplitr; · iempintro
    iexact H
theorem gift_join (c : Dev nD) (d : Bool) (n : ℕ) : iprop(gift (F := F) (nb d c) d n ∗ keep c d n) ⊢ carry c d n := by
  unfold gift keep carry
  split
  · iintro ⟨H, -⟩
    iexact H
  · iintro ⟨-, H⟩
    iexact H

theorem carry_lt (c : Dev nD) (d : Bool) (n : ℕ) (hn : n < 14) : carry (F := F) c d n ⊢ hand (nb d c) d n := by
  unfold carry
  rw [if_pos hn]

/-- The two duties of a copy of a ring phase: its own send semaphore's, its neighbour's receive semaphore's. -/
theorem ring_toks (c : Dev nD) (n : ℕ) (d : Bool) :
    (bigSepL (Ev.ring n d).toks (tokAt (F := F) c) : sProp 𝕄)
      = iprop(dutyTok ER (cell c (.ring d false (slotOf n))) (n / 4) 0 ∗ dutyTok ER (cell (nb d c) (.ring d true (slotOf n))) (n / 4) 0) := by
  show bigSepL [_, _] _ = _
  rw [bigSepL_cons_cons, bigSepL_singleton]
  rfl

theorem pay_recv (X : Dev nD → OutC F) (c : Dev nD) (d : Bool) (n : ℕ) :
    payK X c (.ring d true (slotOf n)) (n / 4) 0 = iprop(own4 c (ringR d) (slotOf n) (sent X n d (nb (!d) c)) ∗ gift (nb (!d) c) (!d) (n + 1)) := by
  show iprop(own4 c (ringR d) (slotOf n) (sent X (4 * (n / 4) + n % 4) d (nb (!d) c)) ∗ gift (nb (!d) c) (!d) (4 * (n / 4) + n % 4 + 1)) = _
  rw [show 4 * (n / 4) + n % 4 = n by omega]

/-- One direction at the beginning of step `n`. -/
def dirInv (c : Dev nD) (d : Bool) (n : ℕ) : sProp 𝕄 :=
  iprop(slotRes (F := F) c d n ∗ slotRes (F := F) c d (n + 1) ∗ slotRes (F := F) c d (n + 2) ∗ slotRes (F := F) c d (n + 3)
    ∗ hand (F := F) c d (n + 1) ∗ hand (F := F) c d (n + 2) ∗ hand (F := F) c d (n + 3) ∗ carry (F := F) c d n)
/-- The same in the middle of the step, when the slot just received is in use. -/
def restInv (c : Dev nD) (d : Bool) (n : ℕ) : sProp 𝕄 :=
  iprop(slotRes (F := F) c d (n + 1) ∗ slotRes (F := F) c d (n + 2) ∗ slotRes (F := F) c d (n + 3) ∗ slotRes (F := F) c d (n + 4)
    ∗ hand (F := F) c d (n + 2) ∗ hand (F := F) c d (n + 3) ∗ reached ER (cell c (.ring d true (slotOf n))) (n / 4 + 1) ∗ carry (F := F) c d (n + 1))

theorem slotOf_add (n : ℕ) : slotOf (n + 4) = slotOf n := Fin.ext (Nat.add_mod_right n 4)
theorem round_add (n : ℕ) : (n + 4) / 4 = n / 4 + 1 := by omega

theorem dirInv_close (c : Dev nD) (d : Bool) (n : ℕ) (Y : Vec F S1x256x512 .bf16) :
    iprop(own4 c (ringR d) (slotOf n) Y ∗ restInv c d n) ⊢ dirInv c d (n + 1) := by
  unfold restInv dirInv
  iintro ⟨HY, H1, H2, H3, H4, G2, G3, Hr, Hc⟩
  isplitl [H1]; · iexact H1
  isplitl [H2]; · iexact H2
  isplitl [H3]; · iexact H3
  isplitl [H4]; · iexact H4
  isplitl [G2]; · iexact G2
  isplitl [G3]; · iexact G3
  isplitl [HY Hr]
  · rw [show n + 1 + 3 = n + 4 from rfl]
    unfold hand any4
    rw [slotOf_add, round_add]
    isplitl [HY]
    · iexists Y; iexact HY
    iexact Hr
  iexact Hc

/-! ## The parts of a step -/

section Parts

variable (c : Dev nD)

theorem wp_putRing (d : Bool) (s : Fin 4) (b : Blk) (f : OutC F) (Q : PUnit → sProp 𝕄) :
    iprop(out c f ∗ any4 c (ringS d) s)
      ⊢ iprop(((out c f ∗ own4 c (ringS d) s (toSlot (rd f b))) -∗ Q ⟨⟩) -∗ wpc c (putRing d s b) Q) := by
  unfold putRing any4
  simp only [wp_bind]
  iintro ⟨Ho, ⟨%Y, Hs⟩⟩ HQ
  iapply (wp_getB c f b) $$ Ho; iintro Ho
  iapply (wp_get4 c (ringS d) s Y) $$ Hs; iintro Hs
  unfold own4
  iapply (wp_store_slice c (ringS d) (slot4 s) (fun _ => rfl) (toSlot (rd f b))) $$ Hs; iintro Hs
  iapply HQ
  isplitl [Ho]; · iexact Ho
  iexact Hs

theorem wp_addRing (d : Bool) (s : Fin 4) (b : Blk) (hb : b.Packed) (f : OutC F) (Y : Vec F S1x256x512 .bf16) (Q : PUnit → sProp 𝕄) :
    iprop(out c f ∗ own4 c (ringR d) s Y)
      ⊢ iprop(((out c (wr f b (plusSlot (rd f b) Y)) ∗ own4 c (ringR d) s Y) -∗ Q ⟨⟩) -∗ wpc c (addRing d s b hb) Q) := by
  unfold addRing
  simp only [wp_bind]
  iintro ⟨Ho, Hs⟩ HQ
  iapply (wp_getB c f b) $$ Ho; iintro Ho
  iapply (wp_get4 c (ringR d) s Y) $$ Hs; iintro Hs
  iapply (wp_getB c f b) $$ Ho; iintro Ho
  iapply (wp_setB c f b hb) $$ Ho; iintro Ho
  iapply HQ
  isplitl [Ho]; · iexact Ho
  iexact Hs

theorem wp_copyRing (d : Bool) (s : Fin 4) (b : Blk) (hb : b.Packed) (f : OutC F) (Y : Vec F S1x256x512 .bf16) (Q : PUnit → sProp 𝕄) :
    iprop(out c f ∗ own4 c (ringR d) s Y)
      ⊢ iprop(((out c (wr f b (ofSlot Y)) ∗ own4 c (ringR d) s Y) -∗ Q ⟨⟩) -∗ wpc c (copyRing d s b hb) Q) := by
  unfold copyRing
  simp only [wp_bind]
  iintro ⟨Ho, Hs⟩ HQ
  iapply (wp_get4 c (ringR d) s Y) $$ Hs; iintro Hs
  iapply (wp_getB c f b) $$ Ho; iintro Ho
  iapply (wp_setB c f b hb) $$ Ho; iintro Ho
  iapply HQ
  isplitl [Ho]; · iexact Ho
  iexact Hs

variable (X : Dev nD → OutC F) (K : Dev nD × Kd → ℕ)

theorem ringIx_lt (n : ℕ) (hn : n < 14) : ringIx n < 18 := by unfold ringIx; split <;> omega

theorem wp_sendRing (d : Bool) (n : ℕ) (hn : n < 14) (dst : Dev nD) (hdst : dst = nb d c) (l : List Ev) (Q : PUnit → sProp 𝕄) :
    iprop(world X K ∗ own4 c (ringS d) (slotOf n) (sent X n d c) ∗ hand (nb d c) d n ∗ gift c (!d) (n + 1) ∗ owing c (.ring n d :: l)
        ∗ (bigSepL (Ev.ring n d).toks (tokAt (F := F) c)) ∗ reached ER (cell c (.ring d false (slotOf n))) (n / 4))
      ⊢ iprop(((cred (tallyAt (cell c (.ring d false (slotOf n))) (ringIx n) N4) ∗ owing c l) -∗ Q ⟨⟩)
          -∗ wpc c (sendRing d (slotOf n) dst) Q) := by
  unfold owing own4 hand any4 own4 sendRing
  rw [ring_toks]
  iintro ⟨#HW, Hs, ⟨Hd, Hr⟩, HG, ⟨%W, HO⟩, ⟨Ht1, Ht2⟩, Hrs⟩ HQ
  iapply (wp_copy c X K ((ringS d).slice (slot4 (slotOf n)) (fun _ => rfl)) ((ringR d).slice (slot4 (slotOf n)) (fun _ => rfl)) S256x512 squeezes_S1x256x512_S256x512
      dst (nb d c) hdst (.ring d false (slotOf n)) (.ring d true (slotOf n)) (n / 4) (ringIx n) N4
      (duties_ring d false n hn) (duties_ring d true n hn) (credit4R d _) rfl rfl fullShare (sent X n d c) (gift c (!d) (n + 1))
      (by
        unfold payK any4 own4
        iintro H
        iexists _; iexact H)
      (by
        rw [pay_recv, nb_nb']
        unfold own4
        exact .rfl)
      (due c l) (due c (.ring n d :: l)) (due_cons c _ l) W) $$ [Hs Hd HG HO Ht1 Ht2 Hr Hrs]
  · isplitr; · iexact HW
    isplitl [Hs]; · iexact Hs
    isplitl [Hd]; · iexact Hd
    isplitl [HG]; · iexact HG
    isplitl [HO]; · iexact HO
    isplitl [Ht1]; · iexact Ht1
    isplitl [Hrs]; · iexact Hrs
    isplitl [Ht2]; · iexact Ht2
    iexact Hr
  iintro ⟨Hc, HO⟩
  iapply HQ
  isplitl [Hc]; · iexact Hc
  iexists W; iexact HO

theorem wp_waitRing (d : Bool) (n : ℕ) (hn : n < 14) (l : List Ev) (hl : ∀ e ∈ l, ringIx n < e.ix ∧ e.ix < 18) (Q : PUnit → sProp 𝕄) :
    iprop(world X K ∗ cred (tallyAt (cell c (.ring d false (slotOf n))) (ringIx n) N4) ∗ cred (tallyAt (cell c (.ring d true (slotOf n))) (ringIx n) N4)
        ∗ owing c l ∗ atPos ER (cell c (.ring d false (slotOf n))) (n / 4) ∅ 0 ∗ atPos ER (cell c (.ring d true (slotOf n))) (n / 4) ∅ 0)
      ⊢ iprop(((owing c l ∗ slotRes c d (n + 4) ∗ reached ER (cell c (.ring d true (slotOf n))) (n / 4 + 1)
            ∗ own4 c (ringR d) (slotOf n) (sent X n d (nb (!d) c)) ∗ gift (nb (!d) c) (!d) (n + 1)) -∗ Q ⟨⟩)
          -∗ wpc c (waitRing d (slotOf n)) Q) := by
  unfold waitRing
  simp only [wp_bind]
  iintro ⟨#HW, Hc1, Hc2, HO, Ha1, Ha2⟩ HQ
  iapply (wp_arrive c X K (.ring d false (slotOf n)) (n / 4) (ringIx n) N4 _ _ _ _ (duties_ring d false n hn) (credit4S d _) rfl l (ringIx_lt n hn) hl) $$ [Hc1 HO Ha1]
  · isplitr; · iexact HW
    isplitl [Hc1]; · iexact Hc1
    isplitl [HO]; · iexact HO
    iexact Ha1
  iintro ⟨HO, Ha1, Hr1, Hp1⟩
  iapply (wp_arrive c X K (.ring d true (slotOf n)) (n / 4) (ringIx n) N4 _ _ _ _ (duties_ring d true n hn) (credit4R d _) rfl l (ringIx_lt n hn) hl) $$ [Hc2 HO Ha2]
  · isplitr; · iexact HW
    isplitl [Hc2]; · iexact Hc2
    isplitl [HO]; · iexact HO
    iexact Ha2
  iintro ⟨HO, Ha2, Hr2, Hp2⟩
  iapply HQ
  isplitl [HO]; · iexact HO
  isplitl [Hp1 Ha1 Hr1 Ha2]
  · unfold slotRes payK
    rw [slotOf_add, round_add]
    isplitl [Hp1]; · iexact Hp1
    isplitl [Ha1]; · iexact Ha1
    isplitl [Hr1]; · iexact Hr1
    iexact Ha2
  isplitl [Hr2]; · iexact Hr2
  rw [← pay_recv]
  iexact Hp2

/-- Both blocks out, both blocks in. -/
theorem wp_swapRing (n : ℕ) (hn : n < 14) (s : Fin 4) (hs : s = slotOf n) (r l : Dev nD) (hr : r = nb false c) (hl : l = nb true c)
    (b : Bool → Blk) (f : OutC F) (hb : ∀ d, toSlot (rd f (b d)) = sent X n d c)
    (es : List Ev) (he : ∀ e ∈ es, ringIx n < e.ix ∧ e.ix < 18) (Q : PUnit → sProp 𝕄) :
    iprop(world X K ∗ dirInv c false n ∗ dirInv c true n ∗ out c f ∗ evRes (F := F) c (.ring n false) ∗ evRes (F := F) c (.ring n true)
        ∗ owing c (.ring n false :: .ring n true :: es))
      ⊢ iprop(((own4 c (ringR false) (slotOf n) (sent X n false (nb true c)) ∗ own4 c (ringR true) (slotOf n) (sent X n true (nb false c))
            ∗ restInv c false n ∗ restInv c true n ∗ out c f ∗ owing c es) -∗ Q ⟨⟩)
          -∗ wpc c (swapRing s r l b) Q) := by
  subst hs
  unfold swapRing dirInv evRes slotRes
  simp only [wp_bind]
  iintro ⟨#HW, ⟨⟨Hs0, Ha0, Hr0, Hb0⟩, S01, S02, S03, G01, G02, G03, C0⟩, ⟨⟨Hs1, Ha1, Hr1, Hb1⟩, S11, S12, S13, G11, G12, G13, C1⟩, Ho, ⟨T0, K0⟩, ⟨T1, K1⟩, HO⟩ HQ
  iapply (wp_putRing c false (slotOf n) (b false) f) $$ [Ho Hs0]
  · isplitl [Ho]; · iexact Ho
    iexact Hs0
  iintro ⟨Ho, Hs0⟩
  iapply (wp_putRing c true (slotOf n) (b true) f) $$ [Ho Hs1]
  · isplitl [Ho]; · iexact Ho
    iexact Hs1
  iintro ⟨Ho, Hs1⟩
  rw [hb false, hb true]
  ihave G0 := (gift_split (F := F) c true (n + 1)) $$ G11
  icases G0 with ⟨G0, P1⟩
  ihave G1 := (gift_split (F := F) c false (n + 1)) $$ G01
  icases G1 with ⟨G1, P0⟩
  ihave C0 := (carry_lt (F := F) c false n hn) $$ C0
  ihave C1 := (carry_lt (F := F) c true n hn) $$ C1
  iapply (wp_sendRing c X K false n hn r hr (Ev.ring n true :: es) _) $$ [Hs0 C0 G0 HO T0 Hr0]
  · isplitr; · iexact HW
    isplitl [Hs0]; · iexact Hs0
    isplitl [C0]; · iexact C0
    isplitl [G0]; · iexact G0
    isplitl [HO]; · iexact HO
    isplitl [T0]; · iexact T0
    iexact Hr0
  iintro ⟨Hc0, HO⟩
  iapply (wp_sendRing c X K true n hn l hl es _) $$ [Hs1 C1 G1 HO T1 Hr1]
  · isplitr; · iexact HW
    isplitl [Hs1]; · iexact Hs1
    isplitl [C1]; · iexact C1
    isplitl [G1]; · iexact G1
    isplitl [HO]; · iexact HO
    isplitl [T1]; · iexact T1
    iexact Hr1
  iintro ⟨Hc1, HO⟩
  iapply (wp_waitRing c X K false n hn es he) $$ [Hc0 K0 HO Ha0 Hb0]
  · isplitr; · iexact HW
    isplitl [Hc0]; · iexact Hc0
    isplitl [K0]; · iexact K0
    isplitl [HO]; · iexact HO
    isplitl [Ha0]; · iexact Ha0
    iexact Hb0
  iintro ⟨HO, S04, R0, L0, D1⟩
  iapply (wp_waitRing c X K true n hn es he) $$ [Hc1 K1 HO Ha1 Hb1]
  · isplitr; · iexact HW
    isplitl [Hc1]; · iexact Hc1
    isplitl [K1]; · iexact K1
    isplitl [HO]; · iexact HO
    isplitl [Ha1]; · iexact Ha1
    iexact Hb1
  iintro ⟨HO, S14, R1, L1, D0⟩
  ihave C0 := (gift_join (F := F) c false (n + 1)) $$ [D0 P0]
  · isplitl [D0]; · iexact D0
    iexact P0
  ihave C1 := (gift_join (F := F) c true (n + 1)) $$ [D1 P1]
  · isplitl [D1]; · iexact D1
    iexact P1
  iapply HQ
  isplitl [L0]; · iexact L0
  isplitl [L1]; · iexact L1
  unfold restInv slotRes
  isplitl [S01 S02 S03 S04 G02 G03 R0 C0]
  · isplitl [S01]; · iexact S01
    isplitl [S02]; · iexact S02
    isplitl [S03]; · iexact S03
    isplitl [S04]; · iexact S04
    isplitl [G02]; · iexact G02
    isplitl [G03]; · iexact G03
    isplitl [R0]; · iexact R0
    iexact C0
  isplitl [S11 S12 S13 S14 G12 G13 R1 C1]
  · isplitl [S11]; · iexact S11
    isplitl [S12]; · iexact S12
    isplitl [S13]; · iexact S13
    isplitl [S14]; · iexact S14
    isplitl [G12]; · iexact G12
    isplitl [G13]; · iexact G13
    isplitl [R1]; · iexact R1
    iexact C1
  isplitl [Ho]; · iexact Ho
  iexact HO

end Parts

end Cert.Reduce

end
-- ==== Proof.Phases.lean ====
/-  The two ring phases: seven steps each. -/
module

public import proofs.«01_k».proof.Proof.Ring

@[expose] public section

noncomputable section

namespace Cert.Reduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

section Phase

variable (X : Dev nD → OutC F) (K : Dev nD × Kd → ℕ) (c : Dev nD)

/-- The contents after `n` steps of a ring phase, the first or the second. -/
def phSt (ph : Bool) (n : ℕ) : OutC F := match ph with
  | false => sumSt X n c
  | true => passSt X n c
/-- The ring step that is step `n` of the phase, -/
def phN : Bool → ℕ → ℕ
  | false, n => n
  | true, n => n + 7
/-- and the payments left when `j` of its steps are. -/
def phEvs : Bool → ℕ → List Ev
  | false, j => sumEvs j
  | true, j => passEvs j

/-- A device after `n` steps of a ring phase, when `j` are left. -/
def phInv (ph : Bool) (n j : ℕ) : sProp 𝕄 :=
  iprop(dirInv (F := F) c false (phN ph n) ∗ dirInv (F := F) c true (phN ph n) ∗ out c (phSt X c ph n)
    ∗ held (F := F) c (phEvs ph j) ∗ owing (F := F) c (phEvs ph j))

theorem phEvs_succ (ph : Bool) (n j : ℕ) (h : n + j = 6) :
    phEvs ph (j + 1) = .ring (phN ph n) false :: .ring (phN ph n) true :: phEvs ph j := by
  cases ph
  · show (.ring (6 - j) false :: .ring (6 - j) true :: sumEvs j : List Ev) = .ring n false :: .ring n true :: sumEvs j
    rw [show 6 - j = n by omega]
  · show (.ring (13 - j) false :: .ring (13 - j) true :: passEvs j : List Ev) = .ring (n + 7) false :: .ring (n + 7) true :: passEvs j
    rw [show 13 - j = n + 7 by omega]

theorem phN_lt (ph : Bool) (n j : ℕ) (h : n + j = 6) : phN ph n < 14 := by
  cases ph
  · show n < 14; omega
  · show n + 7 < 14; omega

theorem phEvs_later (ph : Bool) (n j : ℕ) (h : n + j = 6) : ∀ e ∈ phEvs ph j, ringIx (phN ph n) < e.ix ∧ e.ix < 18 := by
  have key : ∀ ph : Bool, ∀ j : Fin 7, ∀ e ∈ phEvs ph j.val, ringIx (phN ph (6 - j.val)) < e.ix ∧ e.ix < 18 := by decide +kernel
  have := key ph ⟨j, by omega⟩
  rwa [show 6 - (⟨j, by omega⟩ : Fin 7).val = n by show 6 - j = n; omega] at this

/-- What a step of a phase sends are the blocks its program names. -/
theorem sent_sum (k : Fin 7) (n : ℕ) (hk : k.val = n) (d : Bool) : toSlot (rd (sumSt X n c) (sendB c k d)) = sent X n d c := by
  subst hk
  unfold sent st ringB
  rw [if_pos k.isLt, if_pos k.isLt, show Fin.ofNat 7 k.val = k from Fin.ext (Nat.mod_eq_of_lt k.isLt)]
theorem sent_pass (k : Fin 7) (n : ℕ) (hk : k.val = n) (d : Bool) : toSlot (rd (passSt X n c) (passB c k d)) = sent X (n + 7) d c := by
  subst hk
  unfold sent st ringB
  rw [if_neg (by omega), if_neg (by omega), show Fin.ofNat 7 (k.val + 7) = k from Fin.ext (by show (k.val + 7) % 7 = k.val; omega)]
  rfl

theorem ofNat_val (k : Fin 7) : Fin.ofNat 7 k.val = k := Fin.ext (Nat.mod_eq_of_lt k.isLt)

/-- The contents after a step, from what comes in. -/
theorem sum_next (k : Fin 7) (n : ℕ) (hk : k.val = n) :
    sumSt X (n + 1) c = sumNext c k (sumSt X n c) fun d => sent X n d (nb (!d) c) := by
  subst hk
  rw [sumSt, ofNat_val]
  exact congrArg (sumNext c k (sumSt X k.val c)) (funext fun d => sent_sum X (nb (!d) c) k k.val rfl d)
theorem pass_next (k : Fin 7) (n : ℕ) (hk : k.val = n) :
    passSt X (n + 1) c = passNext c k (passSt X n c) fun d => sent X (n + 7) d (nb (!d) c) := by
  subst hk
  rw [passSt, ofNat_val]
  exact congrArg (passNext c k (passSt X k.val c)) (funext fun d => sent_pass X (nb (!d) c) k k.val rfl d)

theorem held_cons (e : Ev) (l : List Ev) : held (F := F) c (e :: l) = iprop(evRes c e ∗ held c l) := bigSepL_cons e l _

/-- A step of the first phase, -/
theorem wp_sumStep (k : Fin 7) (n j : ℕ) (hk : k.val = n) (h : n + j = 6) (s : Fin 4) (hs : s = slotOf n) (r l : Dev nD)
    (hr : r = nb false c) (hl : l = nb true c) (Q : PUnit → sProp 𝕄) :
    iprop(world X K ∗ phInv X c false n (j + 1)) ⊢ iprop((phInv X c false (n + 1) j -∗ Q ⟨⟩) -∗ wpc c (sumStep s r l c k) Q) := by
  unfold phInv
  rw [phEvs_succ false n j h]
  rw [held_cons, held_cons]
  unfold sumStep
  simp only [wp_bind]
  iintro ⟨#HW, D0, D1, Ho, ⟨E0, E1, HE⟩, HO⟩ HQ
  iapply (wp_swapRing c X K n (phN_lt false n j h) s hs r l hr hl (sendB c k) (sumSt X n c) (sent_sum X c k n hk) (phEvs false j) (phEvs_later false n j h)) $$ [D0 D1 Ho E0 E1 HO]
  · isplitr; · iexact HW
    isplitl [D0]; · iexact D0
    isplitl [D1]; · iexact D1
    isplitl [Ho]; · iexact Ho
    isplitl [E0]; · iexact E0
    isplitl [E1]; · iexact E1
    iexact HO
  iintro ⟨R0, R1, D0, D1, Ho, HO⟩
  subst hs
  iapply (wp_addRing c false (slotOf n) (addB c k false) (addB_packed c k false) (sumSt X n c) (sent X n false (nb true c))) $$ [Ho R0]
  · isplitl [Ho]; · iexact Ho
    iexact R0
  iintro ⟨Ho, R0⟩
  iapply (wp_addRing c true (slotOf n) (addB c k true) (addB_packed c k true) _ (sent X n true (nb false c))) $$ [Ho R1]
  · isplitl [Ho]; · iexact Ho
    iexact R1
  iintro ⟨Ho, R1⟩
  iapply HQ
  isplitl [R0 D0]
  · iapply (dirInv_close c false n (sent X n false (nb true c)))
    isplitl [R0]; · iexact R0
    iexact D0
  isplitl [R1 D1]
  · iapply (dirInv_close c true n (sent X n true (nb false c)))
    isplitl [R1]; · iexact R1
    iexact D1
  isplitl [Ho]
  · unfold phSt
    rw [sum_next X c k n hk]
    iexact Ho
  isplitl [HE]; · iexact HE
  iexact HO

/-- and of the second. -/
theorem wp_passStep (k : Fin 7) (n j : ℕ) (hk : k.val = n) (h : n + j = 6) (s : Fin 4) (hs : s = slotOf (n + 7)) (r l : Dev nD)
    (hr : r = nb false c) (hl : l = nb true c) (Q : PUnit → sProp 𝕄) :
    iprop(world X K ∗ phInv X c true n (j + 1)) ⊢ iprop((phInv X c true (n + 1) j -∗ Q ⟨⟩) -∗ wpc c (passStep s r l c k) Q) := by
  unfold phInv
  rw [phEvs_succ true n j h]
  rw [held_cons, held_cons]
  unfold passStep
  simp only [wp_bind]
  iintro ⟨#HW, D0, D1, Ho, ⟨E0, E1, HE⟩, HO⟩ HQ
  iapply (wp_swapRing c X K (n + 7) (phN_lt true n j h) s hs r l hr hl (passB c k) (passSt X n c) (sent_pass X c k n hk) (phEvs true j) (phEvs_later true n j h)) $$ [D0 D1 Ho E0 E1 HO]
  · isplitr; · iexact HW
    isplitl [D0]; · iexact D0
    isplitl [D1]; · iexact D1
    isplitl [Ho]; · iexact Ho
    isplitl [E0]; · iexact E0
    isplitl [E1]; · iexact E1
    iexact HO
  iintro ⟨R0, R1, D0, D1, Ho, HO⟩
  subst hs
  iapply (wp_copyRing c false (slotOf (n + 7)) (sendB c k false) (sendB_packed c k false) (passSt X n c) (sent X (n + 7) false (nb true c))) $$ [Ho R0]
  · isplitl [Ho]; · iexact Ho
    iexact R0
  iintro ⟨Ho, R0⟩
  iapply (wp_copyRing c true (slotOf (n + 7)) (sendB c k true) (sendB_packed c k true) _ (sent X (n + 7) true (nb false c))) $$ [Ho R1]
  · isplitl [Ho]; · iexact Ho
    iexact R1
  iintro ⟨Ho, R1⟩
  iapply HQ
  isplitl [R0 D0]
  · iapply (dirInv_close c false (n + 7) (sent X (n + 7) false (nb true c)))
    isplitl [R0]; · iexact R0
    iexact D0
  isplitl [R1 D1]
  · iapply (dirInv_close c true (n + 7) (sent X (n + 7) true (nb false c)))
    isplitl [R1]; · iexact R1
    iexact D1
  isplitl [Ho]
  · unfold phSt
    rw [pass_next X c k n hk]
    iexact Ho
  isplitl [HE]; · iexact HE
  iexact HO

end Phase

end Cert.Reduce

end
-- ==== Proof.Rings.lean ====
/-  The two ring phases, whole. -/
module

public import proofs.«01_k».proof.Proof.Phases

@[expose] public section

noncomputable section

namespace Cert.Reduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

section Whole

variable (X : Dev nD → OutC F) (K : Dev nD × Kd → ℕ) (c : Dev nD)

theorem wp_phaseSum (Q : PUnit → sProp 𝕄) :
    iprop(world X K ∗ phInv X c false 0 7) ⊢ iprop((phInv X c false 7 0 -∗ Q ⟨⟩) -∗ wpc c (phaseSum c) Q) := by
  obtain ⟨⟨r0, r1, r2, r3, r4, r5, r6⟩, l0, l1, l2, l3, l4, l5, l6⟩ := sum_devs c
  unfold phaseSum
  simp only [wp_bind]
  iintro ⟨#HW, H⟩ HQ
  iapply (wp_sumStep X K c 0 0 6 rfl rfl 0 rfl _ _ (dev_eq r0) (dev_eq l0)) $$ [H]
  · isplitr; · iexact HW
    iexact H
  iintro H
  iapply (wp_sumStep X K c 1 1 5 rfl rfl 1 rfl _ _ (dev_eq r1) (dev_eq l1)) $$ [H]
  · isplitr; · iexact HW
    iexact H
  iintro H
  iapply (wp_sumStep X K c 2 2 4 rfl rfl 2 rfl _ _ (dev_eq r2) (dev_eq l2)) $$ [H]
  · isplitr; · iexact HW
    iexact H
  iintro H
  iapply (wp_sumStep X K c 3 3 3 rfl rfl 3 rfl _ _ (dev_eq r3) (dev_eq l3)) $$ [H]
  · isplitr; · iexact HW
    iexact H
  iintro H
  iapply (wp_sumStep X K c 4 4 2 rfl rfl 0 rfl _ _ (dev_eq r4) (dev_eq l4)) $$ [H]
  · isplitr; · iexact HW
    iexact H
  iintro H
  iapply (wp_sumStep X K c 5 5 1 rfl rfl 1 rfl _ _ (dev_eq r5) (dev_eq l5)) $$ [H]
  · isplitr; · iexact HW
    iexact H
  iintro H
  iapply (wp_sumStep X K c 6 6 0 rfl rfl 2 rfl _ _ (dev_eq r6) (dev_eq l6)) $$ [H]
  · isplitr; · iexact HW
    iexact H
  iintro H
  iapply HQ; iexact H

theorem wp_phasePass (Q : PUnit → sProp 𝕄) :
    iprop(world X K ∗ phInv X c true 0 7) ⊢ iprop((phInv X c true 7 0 -∗ Q ⟨⟩) -∗ wpc c (phasePass c) Q) := by
  obtain ⟨⟨r0, r1, r2, r3, r4, r5, r6⟩, l0, l1, l2, l3, l4, l5, l6⟩ := pass_devs c
  unfold phasePass
  simp only [wp_bind]
  iintro ⟨#HW, H⟩ HQ
  iapply (wp_passStep X K c 0 0 6 rfl rfl 3 rfl _ _ (dev_eq r0) (dev_eq l0)) $$ [H]
  · isplitr; · iexact HW
    iexact H
  iintro H
  iapply (wp_passStep X K c 1 1 5 rfl rfl 0 rfl _ _ (dev_eq r1) (dev_eq l1)) $$ [H]
  · isplitr; · iexact HW
    iexact H
  iintro H
  iapply (wp_passStep X K c 2 2 4 rfl rfl 1 rfl _ _ (dev_eq r2) (dev_eq l2)) $$ [H]
  · isplitr; · iexact HW
    iexact H
  iintro H
  iapply (wp_passStep X K c 3 3 3 rfl rfl 2 rfl _ _ (dev_eq r3) (dev_eq l3)) $$ [H]
  · isplitr; · iexact HW
    iexact H
  iintro H
  iapply (wp_passStep X K c 4 4 2 rfl rfl 3 rfl _ _ (dev_eq r4) (dev_eq l4)) $$ [H]
  · isplitr; · iexact HW
    iexact H
  iintro H
  iapply (wp_passStep X K c 5 5 1 rfl rfl 0 rfl _ _ (dev_eq r5) (dev_eq l5)) $$ [H]
  · isplitr; · iexact HW
    iexact H
  iintro H
  iapply (wp_passStep X K c 6 6 0 rfl rfl 1 rfl _ _ (dev_eq r6) (dev_eq l6)) $$ [H]
  · isplitr; · iexact HW
    iexact H
  iintro H
  iapply HQ; iexact H

end Whole

end Cert.Reduce

end
-- ==== Proof.Cross.lean ====
/-  The two exchanges between planes.

    Each slot is used once. The slots of the first exchange are sent whole; each of the two slots of
    the second leaves to three planes, a third of its ownership with each copy. -/
module

public import proofs.«01_k».proof.Proof.Ops

@[expose] public section

noncomputable section

namespace Cert.Reduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-- The two duties of a copy between planes. -/
theorem cross_toks (c : Dev nD) (ph : Bool) (s : Fin 6) :
    (bigSepL (Ev.cross ph s).toks (tokAt (F := F) c) : sProp 𝕄)
      = iprop(dutyTok ER (cell c (.cross ph false s)) 0 0 ∗ dutyTok ER (cell (plane (dist s) c) (.cross ph true s)) 0 0) := by
  show bigSepL [_, _] _ = _
  rw [bigSepL_cons_cons, bigSepL_singleton]
  rfl

/-- The level of an exchange. -/
def crossIx : Bool → ℕ
  | false => 9
  | true => 10
theorem crossIx_lt (ph : Bool) : crossIx ph < 18 := by cases ph <;> decide

/-- What a share's copy hands over, and a completed block's. -/
theorem pay_share (X : Dev nD → OutC F) (c : Dev nD) (s : Fin 6) :
    payK X (plane (dist s) c) (.cross false true s) 0 0 = own6 (plane (dist s) c) sumR s (share X s c) := by
  show own6 (plane (dist s) c) sumR s (share X s (plane (rev (dist s)) (plane (dist s) c))) = _
  rw [rev_plane]
theorem pay_done (X : Dev nD → OutC F) (c : Dev nD) (s : Fin 6) :
    payK X (plane (dist s) c) (.cross true true s) 0 0 = own6 (plane (dist s) c) fillR s (done X (piece s) c) := by
  show own6 (plane (dist s) c) fillR s (done X (piece s) (plane (rev (dist s)) (plane (dist s) c))) = _
  rw [rev_plane]

section Slots

variable (X : Dev nD → OutC F) (K : Dev nD × Kd → ℕ) (c : Dev nD)

/-- The credits a copy's slot is waited for with, -/
def creds2 (ph : Bool) (s : Fin 6) : sProp 𝕄 :=
  iprop(cred (tallyAt (cell c (.cross ph false s)) (crossIx ph) N6) ∗ cred (tallyAt (cell c (.cross ph true s)) (crossIx ph) N6))
/-- and the positions of its two semaphores. -/
def ats2 (ph : Bool) (s : Fin 6) (r : ℕ) : sProp 𝕄 :=
  iprop(atPos ER (cell c (.cross ph false s)) r ∅ 0 ∗ atPos ER (cell c (.cross ph true s)) r ∅ 0)

/-- A wait for the copy out of a slot and for the one that comes into it. -/
theorem wp_wait2 (ph : Bool) (s : Fin 6) {sp sp' : Space} {sh sh' : Shape} {e e' : EltTy} (a : Memref sig .tc sp sh e) (b : Memref sig .tc sp' sh' e')
    (ha : a.view.WordExact) (hb : b.view.WordExact) (hNa : a.view.dmaCredit = N6) (hNb : b.view.dmaCredit = N6)
    (l : List Ev) (hl : ∀ e ∈ l, crossIx ph < e.ix ∧ e.ix < 18) (Q : PUnit → sProp 𝕄) :
    iprop(world X K ∗ creds2 c ph s ∗ owing c l ∗ ats2 c ph s 0)
      ⊢ iprop(((owing c l ∗ ats2 c ph s 1 ∗ payK X c (.cross ph false s) 0 0 ∗ payK X c (.cross ph true s) 0 0) -∗ Q ⟨⟩)
          -∗ wpc c (Prog.lift (.waitDma2 (Own.sem (.cross ph false s)) a b ha hb) >>= fun _ => Prog.lift (.waitDma2 (Own.sem (.cross ph true s)) b a hb ha)) Q) := by
  unfold creds2 ats2
  simp only [wp_bind]
  iintro ⟨#HW, ⟨Hc1, Hc2⟩, HO, ⟨Ha1, Ha2⟩⟩ HQ
  iapply (wp_arrive c X K (.cross ph false s) 0 (crossIx ph) N6 _ _ _ _ (duties_cross ph false s) hNb rfl l (crossIx_lt ph) hl) $$ [Hc1 HO Ha1]
  · isplitr; · iexact HW
    isplitl [Hc1]; · iexact Hc1
    isplitl [HO]; · iexact HO
    iexact Ha1
  iintro ⟨HO, Ha1, -, Hp1⟩
  iapply (wp_arrive c X K (.cross ph true s) 0 (crossIx ph) N6 _ _ _ _ (duties_cross ph true s) hNa rfl l (crossIx_lt ph) hl) $$ [Hc2 HO Ha2]
  · isplitr; · iexact HW
    isplitl [Hc2]; · iexact Hc2
    isplitl [HO]; · iexact HO
    iexact Ha2
  iintro ⟨HO, Ha2, -, Hp2⟩
  iapply HQ
  isplitl [HO]; · iexact HO
  isplitl [Ha1 Ha2]
  · isplitl [Ha1]; · iexact Ha1
    iexact Ha2
  isplitl [Hp1]; · iexact Hp1
  iexact Hp2

/-- A share goes out. -/
theorem wp_sendSum (s : Fin 6) (dst : Dev nD) (hdst : dst = plane (dist s) c) (l : List Ev) (Q : PUnit → sProp 𝕄) :
    iprop(world X K ∗ out c (sumSt X 7 c) ∗ any6 c sumS s ∗ any6 (plane (dist s) c) sumR s ∗ evRes (F := F) c (.cross false s) ∗ owing c (.cross false s :: l))
      ⊢ iprop(((out c (sumSt X 7 c) ∗ creds2 c false s ∗ owing c l) -∗ Q ⟨⟩) -∗ wpc c (sendSum s dst c) Q) := by
  unfold any6 evRes owing sendSum creds2
  rw [cross_toks]
  simp only [wp_bind]
  iintro ⟨#HW, Ho, ⟨%Y, Hs⟩, Hd, ⟨⟨Ht1, Ht2⟩, Hc2⟩, ⟨%W, HO⟩⟩ HQ
  iapply (wp_getSub c (sumSt X 7 c) (shareB c (dist s) (piece s))) $$ Ho; iintro Ho
  iapply (wp_get6 c sumS s Y) $$ Hs; iintro Hs
  unfold own6
  iapply (wp_store_slice c sumS (slot6 s) (fun _ => rfl) (share X s c)) $$ Hs; iintro Hs
  iapply (wp_copy c X K (sumS.slice (slot6 s) (fun _ => rfl)) (sumR.slice (slot6 s) (fun _ => rfl)) S64x512 squeezes_S1x64x512_S64x512
      dst (plane (dist s) c) hdst (.cross false false s) (.cross false true s) 0 9 N6
      (duties_cross false false s) (duties_cross false true s) (credit6 s).2.1 rfl rfl fullShare (share X s c) iprop(emp)
      (by
        unfold payK any6 own6
        iintro H
        iexists _; iexact H)
      (by
        rw [pay_share]
        unfold own6
        iintro ⟨H, -⟩
        iexact H)
      (due c l) (due c (.cross false s :: l)) (due_cons c _ l) W) $$ [Hs Hd HO Ht1 Ht2]
  · isplitr; · iexact HW
    isplitl [Hs]; · iexact Hs
    isplitl [Hd]; · iexact Hd
    isplitr; · iempintro
    isplitl [HO]; · iexact HO
    isplitl [Ht1]; · iexact Ht1
    isplitr; · iapply (world_reached X K c (.cross false false s)); iexact HW
    isplitl [Ht2]; · iexact Ht2
    iapply (world_reached X K (plane (dist s) c) (.cross false true s)); iexact HW
  iintro ⟨Hc1, HO⟩
  iapply HQ
  isplitl [Ho]; · iexact Ho
  isplitl [Hc1 Hc2]
  · isplitl [Hc1]; · iexact Hc1
    iexact Hc2
  iexists W; iexact HO

theorem wp_waitSum (s : Fin 6) (l : List Ev) (hl : ∀ e ∈ l, crossIx false < e.ix ∧ e.ix < 18) (Q : PUnit → sProp 𝕄) :
    iprop(world X K ∗ creds2 c false s ∗ owing c l ∗ ats2 c false s 0)
      ⊢ iprop(((owing c l ∗ ats2 c false s 1 ∗ any6 c sumS s ∗ own6 c sumR s (share X s (plane (rev (dist s)) c))) -∗ Q ⟨⟩) -∗ wpc c (waitSum s) Q) :=
  wp_wait2 X K c false s _ _ _ _ (credit6 s).2.1 (credit6 s).1 l hl Q

/-- The device's two blocks are completed from the six shares. -/
theorem wp_addSums (f : OutC F) (a : Fin 6 → Vec F S1x64x512 .bf16) (Q : PUnit → sProp 𝕄) :
    iprop(out c f ∗ own6 c sumR 0 (a 0) ∗ own6 c sumR 1 (a 1) ∗ own6 c sumR 2 (a 2) ∗ own6 c sumR 3 (a 3) ∗ own6 c sumR 4 (a 4) ∗ own6 c sumR 5 (a 5))
      ⊢ iprop(((out c (crossNext c f a) ∗ own6 c sumR 0 (a 0) ∗ own6 c sumR 1 (a 1) ∗ own6 c sumR 2 (a 2) ∗ own6 c sumR 3 (a 3) ∗ own6 c sumR 4 (a 4) ∗ own6 c sumR 5 (a 5)) -∗ Q ⟨⟩)
          -∗ wpc c (addSums c) Q) := by
  unfold addSums
  simp only [wp_bind]
  iintro ⟨Ho, H0, H1, H2, H3, H4, H5⟩ HQ
  iapply (wp_get6 c sumR 0 (a 0)) $$ H0; iintro H0
  iapply (wp_get6 c sumR 2 (a 2)) $$ H2; iintro H2
  iapply (wp_get6 c sumR 4 (a 4)) $$ H4; iintro H4
  iapply (wp_get6 c sumR 1 (a 1)) $$ H1; iintro H1
  iapply (wp_get6 c sumR 3 (a 3)) $$ H3; iintro H3
  iapply (wp_get6 c sumR 5 (a 5)) $$ H5; iintro H5
  iapply (wp_getSub c f (ownB c 0)) $$ Ho; iintro Ho
  iapply (wp_getSub c f (ownB c 0)) $$ Ho; iintro Ho
  iapply (wp_setSub c f (ownB c 0) (ownB_packed c 0)) $$ Ho; iintro Ho
  iapply (wp_getSub c _ (ownB c 1)) $$ Ho; iintro Ho
  iapply (wp_getSub c _ (ownB c 1)) $$ Ho; iintro Ho
  iapply (wp_setSub c _ (ownB c 1) (ownB_packed c 1)) $$ Ho; iintro Ho
  iapply HQ
  isplitl [Ho]; · iexact Ho
  isplitl [H0]; · iexact H0
  isplitl [H1]; · iexact H1
  isplitl [H2]; · iexact H2
  isplitl [H3]; · iexact H3
  isplitl [H4]; · iexact H4
  iexact H5

/-- A completed block goes into its slot. -/
theorem wp_putFill (p : Fin 2) (Q : PUnit → sProp 𝕄) :
    iprop(out c (crossed X c) ∗ ∃ Y, own2 c p fullShare Y)
      ⊢ iprop(((out c (crossed X c) ∗ own2 c p fullShare (done X p c)) -∗ Q ⟨⟩) -∗ wpc c (putFill p c) Q) := by
  unfold putFill
  simp only [wp_bind]
  iintro ⟨Ho, ⟨%Y, Hs⟩⟩ HQ
  iapply (wp_getSub c (crossed X c) (ownB c p)) $$ Ho; iintro Ho
  iapply (wp_get2 c p fullShare Y) $$ Hs; iintro Hs
  unfold own2
  iapply (wp_store_slice c fillS (slot2 p) (fun _ => rfl) (done X p c)) $$ Hs; iintro Hs
  iapply HQ
  isplitl [Ho]; · iexact Ho
  iexact Hs

/-- A slot in three. -/
theorem thirds (p : Fin 2) (Y : Vec F S1x64x512 .bf16) :
    own2 c p fullShare Y ⊣⊢ iprop(own2 c p (third 0) Y ∗ own2 c p (third 1) Y ∗ own2 c p (third 2) Y) := by
  have h (q : PosShare TreeShare) : own2 (F := F) c p q Y ⊣⊢ iprop(own2 c p q.left Y ∗ own2 c p q.right Y) := owns_halves _ _ q Y
  constructor
  · iintro H
    ihave H := (h fullShare).1 $$ H
    icases H with ⟨H0, H⟩
    ihave H := (h (fullShare : PosShare TreeShare).right).1 $$ H
    icases H with ⟨H1, H2⟩
    isplitl [H0]; · iexact H0
    isplitl [H1]; · iexact H1
    iexact H2
  · iintro ⟨H0, H1, H2⟩
    iapply (h fullShare).2
    isplitl [H0]; · iexact H0
    iapply (h (fullShare : PosShare TreeShare).right).2
    isplitl [H1]; · iexact H1
    iexact H2

/-- A completed block goes out. -/
theorem wp_sendFill (s : Fin 6) (dst : Dev nD) (hdst : dst = plane (dist s) c) (l : List Ev) (Q : PUnit → sProp 𝕄) :
    iprop(world X K ∗ own2 c (piece s) (third (dist s)) (done X (piece s) c) ∗ any6 (plane (dist s) c) fillR s ∗ evRes (F := F) c (.cross true s) ∗ owing c (.cross true s :: l))
      ⊢ iprop(((creds2 c true s ∗ owing c l) -∗ Q ⟨⟩) -∗ wpc c (sendFill s dst) Q) := by
  unfold any6 evRes owing sendFill creds2 own2 own6
  rw [cross_toks]
  iintro ⟨#HW, Hs, Hd, ⟨⟨Ht1, Ht2⟩, Hc2⟩, ⟨%W, HO⟩⟩ HQ
  iapply (wp_copy c X K (fillS.slice (slot2 (piece s)) (fun _ => rfl)) (fillR.slice (slot6 s) (fun _ => rfl)) S64x512 squeezes_S1x64x512_S64x512
      dst (plane (dist s) c) hdst (.cross true false s) (.cross true true s) 0 10 N6
      (duties_cross true false s) (duties_cross true true s) (credit6 s).2.2 rfl rfl (third (dist s)) (done X (piece s) c) iprop(emp)
      (by
        unfold payK own2
        exact .rfl)
      (by
        rw [pay_done]
        unfold own6
        iintro ⟨H, -⟩
        iexact H)
      (due c l) (due c (.cross true s :: l)) (due_cons c _ l) W) $$ [Hs Hd HO Ht1 Ht2]
  · isplitr; · iexact HW
    isplitl [Hs]; · iexact Hs
    isplitl [Hd]; · iexact Hd
    isplitr; · iempintro
    isplitl [HO]; · iexact HO
    isplitl [Ht1]; · iexact Ht1
    isplitr; · iapply (world_reached X K c (.cross true false s)); iexact HW
    isplitl [Ht2]; · iexact Ht2
    iapply (world_reached X K (plane (dist s) c) (.cross true true s)); iexact HW
  iintro ⟨Hc1, HO⟩
  iapply HQ
  isplitl [Hc1 Hc2]
  · isplitl [Hc1]; · iexact Hc1
    iexact Hc2
  iexists W; iexact HO

theorem wp_waitFill (s : Fin 6) (l : List Ev) (hl : ∀ e ∈ l, crossIx true < e.ix ∧ e.ix < 18) (Q : PUnit → sProp 𝕄) :
    iprop(world X K ∗ creds2 c true s ∗ owing c l ∗ ats2 c true s 0)
      ⊢ iprop(((owing c l ∗ ats2 c true s 1 ∗ own2 c (piece s) (third (dist s)) (done X (piece s) c)
            ∗ own6 c fillR s (done X (piece s) (plane (rev (dist s)) c))) -∗ Q ⟨⟩) -∗ wpc c (waitFill s) Q) :=
  wp_wait2 X K c true s _ _ _ _ (credit6 s).2.2 (credit2 (piece s)) l hl Q

theorem wp_copyFill (a : Fin 6 → Vec F S1x64x512 .bf16) (s : Fin 6) (f : OutC F) (Q : PUnit → sProp 𝕄) :
    iprop(out c f ∗ own6 c fillR s (a s)) ⊢ iprop(((out c (fillOne c a s f) ∗ own6 c fillR s (a s)) -∗ Q ⟨⟩) -∗ wpc c (copyFill s c) Q) := by
  unfold copyFill
  simp only [wp_bind]
  iintro ⟨Ho, Hs⟩ HQ
  iapply (wp_get6 c fillR s (a s)) $$ Hs; iintro Hs
  iapply (wp_getSub c f (fillB c (dist s) (piece s))) $$ Ho; iintro Ho
  iapply (wp_setSub c f (fillB c (dist s) (piece s)) (fillB_packed c (dist s) (piece s))) $$ Ho; iintro Ho
  iapply HQ
  isplitl [Ho]; · iexact Ho
  iexact Hs

end Slots

end Cert.Reduce

end
-- ==== Proof.Slots.lean ====
/-  A buffer of several slots, taken apart into its slots and put together again.

    What the slots hold may be anything: of a buffer held with some contents each slot is held
    with some contents, and back. -/
module

public import proofs.«01_k».proof.Proof.Ops

@[expose] public section

noncomputable section

namespace Cert.Reduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-- Contents chosen rectangle by rectangle are those of one whole. -/
theorem glue {T : Type} {sh : Shape} {α : Type*} [Nonempty α] (r : T → Rect sh)
    (hd : ∀ t t', t ≠ t' → Disjoint (r t).set (r t').set) (Y : ∀ t, (r t).shape.Idx → α) :
    ∃ Z : sh.Idx → α, ∀ t j, Z ((r t).emb j) = Y t j := by
  classical
  refine ⟨fun i => if h : ∃ p : Σ t, (r t).shape.Idx, (r p.1).emb p.2 = i then Y _ h.choose.2 else Classical.arbitrary α, fun t j => ?_⟩
  have h : ∃ p : Σ t, (r t).shape.Idx, (r p.1).emb p.2 = (r t).emb j := ⟨⟨t, j⟩, rfl⟩
  show (if h : ∃ p : Σ t, (r t).shape.Idx, (r p.1).emb p.2 = (r t).emb j then Y _ h.choose.2 else Classical.arbitrary α) = Y t j
  rw [dif_pos h]
  have e := h.choose_spec
  generalize h.choose = p at e
  obtain ⟨t', j'⟩ := p
  by_cases ht : t' = t
  · subst ht
    rw [(r t').emb.injective e]
  · have hm := (r t').idx_mem j'
    rw [show (r t').idx j' = (r t).idx j from e] at hm
    exact absurd hm (Finset.disjoint_left.mp (hd t t' (Ne.symm ht)) ((r t).idx_mem j))

section Whole

variable {n : ℕ} {sh : Shape} (c : Dev nD) (m : Memref sig .tc .vmem sh .bf16) (size : Fin sh.rank → ℕ)
  (off : Fin n → Fin sh.rank → ℕ) (inb : ∀ t a, off t a + size a ≤ sh.size a)
  (hd : ∀ t t', t ≠ t' → Disjoint (Rect.unit (off t) size (inb t)).set (Rect.unit (off t') size (inb t')).set)
  (hcov : Finset.univ.biUnion (fun t => (Rect.unit (off t) size (inb t)).set) = Finset.univ)

include hd hcov

theorem slots_split :
    (iprop(∃ Z : sh.Idx → Elt F .bf16, owns (c : Thread nD τ) m fullShare Z) : sProp 𝕄)
      ⊢ bigSep Finset.univ fun t => iprop(∃ Y : (⟨sh.rank, size⟩ : Shape).Idx → Elt F .bf16,
          owns (c : Thread nD τ) (m.slice (Rect.unit (off t) size (inb t)) (fun _ => rfl)) fullShare Y) := by
  iintro ⟨%Z, H⟩
  have h := (owns_rects (Val := Elt F) (c : Thread nD τ) m fullShare (fun t => Rect.unit (off t) size (inb t)) (fun _ _ => rfl) hd hcov Z :
    (_ : sProp 𝕄) ⊢ _)
  iapply (h.trans (bigSep_mono fun t _ => exists_intro (Φ := fun Y : (⟨sh.rank, size⟩ : Shape).Idx → Elt F .bf16 =>
          owns (c : Thread nD τ) (m.slice (Rect.unit (off t) size (inb t)) (fun _ => rfl)) fullShare Y) _)) $$ H

theorem slots_join :
    (bigSep Finset.univ fun t => iprop(∃ Y : (⟨sh.rank, size⟩ : Shape).Idx → Elt F .bf16,
          owns (c : Thread nD τ) (m.slice (Rect.unit (off t) size (inb t)) (fun _ => rfl)) fullShare Y) : sProp 𝕄)
      ⊢ iprop(∃ Z : sh.Idx → Elt F .bf16, owns (c : Thread nD τ) m fullShare Z) := by
  haveI : Nonempty ((⟨sh.rank, size⟩ : Shape).Idx → Elt F .bf16) := ⟨fun _ => Classical.choice (Elt.nonempty F .bf16)⟩
  refine (BI.bigSep_exists_pi (Y := fun _ : Fin n => (⟨sh.rank, size⟩ : Shape).Idx → Elt F .bf16) Finset.univ _).trans ?_
  iintro ⟨%Y, H⟩
  haveI : Nonempty (Elt F .bf16) := Elt.nonempty F .bf16
  obtain ⟨Z, hZ⟩ := glue (fun t => Rect.unit (off t) size (inb t)) hd Y
  have h := (owns_of_rects (Val := Elt F) (c : Thread nD τ) m fullShare (fun t => Rect.unit (off t) size (inb t)) (fun _ _ => rfl) hd hcov Z :
    _ ⊢ (_ : sProp 𝕄))
  iexists Z
  iapply h
  rw [show (fun t => owns (c : Thread nD τ) (m.slice (Rect.unit (off t) size (inb t)) (fun _ => rfl)) fullShare (fun j => Z ((Rect.unit (off t) size (inb t)).emb j)))
    = fun t => (owns (c : Thread nD τ) (m.slice (Rect.unit (off t) size (inb t)) (fun _ => rfl)) fullShare (Y t) : sProp 𝕄) from
    funext fun t => congrArg _ (funext fun j => hZ t j)]
  iexact H

end Whole

/-! ## The kernel's buffers -/

theorem sep4 (t t' : Fin 4) (h : t ≠ t') : Disjoint (slot4 t).set (slot4 t').set := by
  have := Fin.val_ne_of_ne h
  exact Rect.disjoint_of_separated _ _ 0 (by
    rcases Nat.lt_or_gt_of_ne this with g | g
    · exact .inl (.inr (by show t.val + 1 * (1 - 1) < t'.val; omega))
    · exact .inr (.inr (by show t'.val + 1 * (1 - 1) < t.val; omega)))
theorem sep6 (t t' : Fin 6) (h : t ≠ t') : Disjoint (slot6 t).set (slot6 t').set := by
  have := Fin.val_ne_of_ne h
  exact Rect.disjoint_of_separated _ _ 0 (by
    rcases Nat.lt_or_gt_of_ne this with g | g
    · exact .inl (.inr (by show t.val + 1 * (1 - 1) < t'.val; omega))
    · exact .inr (.inr (by show t'.val + 1 * (1 - 1) < t.val; omega)))
theorem sep2 (t t' : Fin 2) (h : t ≠ t') : Disjoint (slot2 t).set (slot2 t').set := by
  have := Fin.val_ne_of_ne h
  exact Rect.disjoint_of_separated _ _ 0 (by
    rcases Nat.lt_or_gt_of_ne this with g | g
    · exact .inl (.inr (by show t.val + 1 * (1 - 1) < t'.val; omega))
    · exact .inr (.inr (by show t'.val + 1 * (1 - 1) < t.val; omega)))

theorem cov4 : Finset.univ.biUnion (fun t => (slot4 t).set) = Finset.univ :=
  Finset.eq_univ_iff_forall.mpr fun i => Finset.mem_biUnion.mpr ⟨i 0, Finset.mem_univ _, Rect.mem_set_unit.mpr fun a => by
    have := (i a).isLt
    fin_cases a
    · exact ⟨Nat.le_refl _, Nat.lt_succ_self _⟩
    · exact ⟨Nat.zero_le _, by show _ < 0 + 256; exact lt_of_lt_of_eq this (Nat.zero_add _).symm⟩
    · exact ⟨Nat.zero_le _, by show _ < 0 + 512; exact lt_of_lt_of_eq this (Nat.zero_add _).symm⟩⟩
theorem cov6 : Finset.univ.biUnion (fun t => (slot6 t).set) = Finset.univ :=
  Finset.eq_univ_iff_forall.mpr fun i => Finset.mem_biUnion.mpr ⟨i 0, Finset.mem_univ _, Rect.mem_set_unit.mpr fun a => by
    have := (i a).isLt
    fin_cases a
    · exact ⟨Nat.le_refl _, Nat.lt_succ_self _⟩
    · exact ⟨Nat.zero_le _, by show _ < 0 + 64; exact lt_of_lt_of_eq this (Nat.zero_add _).symm⟩
    · exact ⟨Nat.zero_le _, by show _ < 0 + 512; exact lt_of_lt_of_eq this (Nat.zero_add _).symm⟩⟩
theorem cov2 : Finset.univ.biUnion (fun t => (slot2 t).set) = Finset.univ :=
  Finset.eq_univ_iff_forall.mpr fun i => Finset.mem_biUnion.mpr ⟨i 0, Finset.mem_univ _, Rect.mem_set_unit.mpr fun a => by
    have := (i a).isLt
    fin_cases a
    · exact ⟨Nat.le_refl _, Nat.lt_succ_self _⟩
    · exact ⟨Nat.zero_le _, by show _ < 0 + 64; exact lt_of_lt_of_eq this (Nat.zero_add _).symm⟩
    · exact ⟨Nat.zero_le _, by show _ < 0 + 512; exact lt_of_lt_of_eq this (Nat.zero_add _).symm⟩⟩

/-- Four slots, six slots and two slots side by side. -/
def all4 (Φ : Fin 4 → sProp 𝕄) : sProp 𝕄 := iprop(Φ 0 ∗ Φ 1 ∗ Φ 2 ∗ Φ 3)
def all6 (Φ : Fin 6 → sProp 𝕄) : sProp 𝕄 := iprop(Φ 0 ∗ Φ 1 ∗ Φ 2 ∗ Φ 3 ∗ Φ 4 ∗ Φ 5)
def all2 (Φ : Fin 2 → sProp 𝕄) : sProp 𝕄 := iprop(Φ 0 ∗ Φ 1)

theorem bigSep_all4 (Φ : Fin 4 → sProp 𝕄) : bigSep Finset.univ Φ = all4 Φ := by
  rw [bigSep_univ_eq_bigSepL [0, 1, 2, 3] (by decide) (by decide)]
  simp only [bigSepL_cons_cons, bigSepL_singleton]
  rfl
theorem bigSep_all6 (Φ : Fin 6 → sProp 𝕄) : bigSep Finset.univ Φ = all6 Φ := by
  rw [bigSep_univ_eq_bigSepL [0, 1, 2, 3, 4, 5] (by decide) (by decide)]
  simp only [bigSepL_cons_cons, bigSepL_singleton]
  rfl
theorem bigSep_all2 (Φ : Fin 2 → sProp 𝕄) : bigSep Finset.univ Φ = all2 Φ := by
  rw [bigSep_univ_eq_bigSepL [0, 1] (by decide) (by decide)]
  simp only [bigSepL_cons_cons, bigSepL_singleton]
  rfl

def any2 (c : Dev nD) (s : Fin 2) : sProp 𝕄 := iprop(∃ Y, own2 (F := F) c s fullShare Y)

theorem open4 (c : Dev nD) (m : Memref sig .tc .vmem S4x256x512 .bf16) :
    (iprop(∃ Z, owns (c : Thread nD τ) m fullShare Z) : sProp 𝕄) ⊢ all4 (any4 (F := F) c m) := by
  rw [← bigSep_all4]
  exact slots_split c m S1x256x512.size (fun t => ![t.val, 0, 0]) inb4 sep4 cov4
theorem close4 (c : Dev nD) (m : Memref sig .tc .vmem S4x256x512 .bf16) :
    all4 (any4 (F := F) c m) ⊢ (iprop(∃ Z, owns (c : Thread nD τ) m fullShare Z) : sProp 𝕄) := by
  rw [← bigSep_all4]
  exact slots_join c m S1x256x512.size (fun t => ![t.val, 0, 0]) inb4 sep4 cov4
theorem open6 (c : Dev nD) (m : Memref sig .tc .vmem S6x64x512 .bf16) :
    (iprop(∃ Z, owns (c : Thread nD τ) m fullShare Z) : sProp 𝕄) ⊢ all6 (any6 (F := F) c m) := by
  rw [← bigSep_all6]
  exact slots_split c m S1x64x512.size (fun t => ![t.val, 0, 0]) inb6 sep6 cov6
theorem close6 (c : Dev nD) (m : Memref sig .tc .vmem S6x64x512 .bf16) :
    all6 (any6 (F := F) c m) ⊢ (iprop(∃ Z, owns (c : Thread nD τ) m fullShare Z) : sProp 𝕄) := by
  rw [← bigSep_all6]
  exact slots_join c m S1x64x512.size (fun t => ![t.val, 0, 0]) inb6 sep6 cov6
theorem open2 (c : Dev nD) :
    (iprop(∃ Z, owns (c : Thread nD τ) fillS fullShare Z) : sProp 𝕄) ⊢ all2 (any2 (F := F) c) := by
  rw [← bigSep_all2]
  exact slots_split c fillS S1x64x512.size (fun t => ![t.val, 0, 0]) inb2 sep2 cov2
theorem close2 (c : Dev nD) :
    all2 (any2 (F := F) c) ⊢ (iprop(∃ Z, owns (c : Thread nD τ) fillS fullShare Z) : sProp 𝕄) := by
  rw [← bigSep_all2]
  exact slots_join c fillS S1x64x512.size (fun t => ![t.val, 0, 0]) inb2 sep2 cov2

end Cert.Reduce

end
-- ==== Proof.Exchange.lean ====
/-  The two exchanges between planes, whole. -/
module

public import proofs.«01_k».proof.Proof.Cross
public import proofs.«01_k».proof.Proof.Slots

@[expose] public section

noncomputable section

namespace Cert.Reduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-- The payments of an exchange from slot `s` on. -/
def crossRest (ph : Bool) (s : ℕ) : List Ev := (crossEvs ph).drop s

theorem later_sum : ∀ e ∈ crossEvs true ++ passEvs 7, crossIx false < e.ix ∧ e.ix < 18 := by decide +kernel
theorem later_fill : ∀ e ∈ passEvs 7, crossIx true < e.ix ∧ e.ix < 18 := by decide +kernel

section Whole

variable (X : Dev nD → OutC F) (K : Dev nD × Kd → ℕ) (c : Dev nD)

/-- A slot of the first exchange before its copy, while it is out, and after. -/
def sumPre (s : Fin 6) : sProp 𝕄 :=
  iprop(any6 (F := F) c sumS s ∗ any6 (F := F) (plane (dist s) c) sumR s ∗ evRes (F := F) c (.cross false s) ∗ ats2 (F := F) c false s 0)
def sumMid (s : Fin 6) : sProp 𝕄 := iprop(creds2 (F := F) c false s ∗ ats2 (F := F) c false s 0)
def sumPost (s : Fin 6) : sProp 𝕄 :=
  iprop(ats2 (F := F) c false s 1 ∗ any6 (F := F) c sumS s ∗ any6 (F := F) c sumR s)
/-- The same of the second. -/
def fillPre (s : Fin 6) : sProp 𝕄 :=
  iprop(any6 (F := F) (plane (dist s) c) fillR s ∗ evRes (F := F) c (.cross true s) ∗ ats2 (F := F) c true s 0)
def fillMid (s : Fin 6) : sProp 𝕄 := iprop(creds2 (F := F) c true s ∗ ats2 (F := F) c true s 0)
def fillPost (s : Fin 6) : sProp 𝕄 := iprop(ats2 (F := F) c true s 1 ∗ any6 (F := F) c fillR s)

/-- What comes in: shares, and completed blocks. -/
def gotShare (s : Fin 6) : Vec F S1x64x512 .bf16 := share X s (plane (rev (dist s)) c)
def got (s : Fin 6) : Vec F S1x64x512 .bf16 := done X (piece s) (plane (rev (dist s)) c)

theorem wp_sendSum' (s : Fin 6) (dst : Dev nD) (hdst : dst = plane (dist s) c) (l : List Ev) (Q : PUnit → sProp 𝕄) :
    iprop(world X K ∗ out c (sumSt X 7 c) ∗ sumPre c s ∗ owing c (.cross false s :: l))
      ⊢ iprop(((out c (sumSt X 7 c) ∗ sumMid c s ∗ owing c l) -∗ Q ⟨⟩) -∗ wpc c (sendSum s dst c) Q) := by
  unfold sumPre sumMid
  iintro ⟨#HW, Ho, ⟨Hs, Hd, He, Ha⟩, HO⟩ HQ
  iapply (wp_sendSum X K c s dst hdst l) $$ [Ho Hs Hd He HO]
  · isplitr; · iexact HW
    isplitl [Ho]; · iexact Ho
    isplitl [Hs]; · iexact Hs
    isplitl [Hd]; · iexact Hd
    isplitl [He]; · iexact He
    iexact HO
  iintro ⟨Ho, Hc, HO⟩
  iapply HQ
  isplitl [Ho]; · iexact Ho
  isplitl [Hc Ha]
  · isplitl [Hc]; · iexact Hc
    iexact Ha
  iexact HO

theorem wp_waitSum' (s : Fin 6) (l : List Ev) (hl : ∀ e ∈ l, crossIx false < e.ix ∧ e.ix < 18) (Q : PUnit → sProp 𝕄) :
    iprop(world X K ∗ sumMid c s ∗ owing c l)
      ⊢ iprop((((ats2 c false s 1 ∗ any6 c sumS s ∗ own6 c sumR s (gotShare X c s)) ∗ owing c l) -∗ Q ⟨⟩) -∗ wpc c (waitSum s) Q) := by
  unfold sumMid
  iintro ⟨#HW, ⟨Hc, Ha⟩, HO⟩ HQ
  iapply (wp_waitSum X K c s l hl) $$ [Hc HO Ha]
  · isplitr; · iexact HW
    isplitl [Hc]; · iexact Hc
    isplitl [HO]; · iexact HO
    iexact Ha
  iintro ⟨HO, H⟩
  iapply HQ
  isplitl [H]; · iexact H
  iexact HO

theorem wp_sendFill' (s : Fin 6) (dst : Dev nD) (hdst : dst = plane (dist s) c) (l : List Ev) (Q : PUnit → sProp 𝕄) :
    iprop(world X K ∗ own2 c (piece s) (third (dist s)) (done X (piece s) c) ∗ fillPre c s ∗ owing c (.cross true s :: l))
      ⊢ iprop(((fillMid c s ∗ owing c l) -∗ Q ⟨⟩) -∗ wpc c (sendFill s dst) Q) := by
  unfold fillPre fillMid
  iintro ⟨#HW, Hs, ⟨Hd, He, Ha⟩, HO⟩ HQ
  iapply (wp_sendFill X K c s dst hdst l) $$ [Hs Hd He HO]
  · isplitr; · iexact HW
    isplitl [Hs]; · iexact Hs
    isplitl [Hd]; · iexact Hd
    isplitl [He]; · iexact He
    iexact HO
  iintro ⟨Hc, HO⟩
  iapply HQ
  isplitl [Hc Ha]
  · isplitl [Hc]; · iexact Hc
    iexact Ha
  iexact HO

theorem wp_waitFill' (s : Fin 6) (l : List Ev) (hl : ∀ e ∈ l, crossIx true < e.ix ∧ e.ix < 18) (Q : PUnit → sProp 𝕄) :
    iprop(world X K ∗ fillMid c s ∗ owing c l)
      ⊢ iprop(((ats2 c true s 1 ∗ own2 c (piece s) (third (dist s)) (done X (piece s) c) ∗ own6 c fillR s (got X c s) ∗ owing c l) -∗ Q ⟨⟩) -∗ wpc c (waitFill s) Q) := by
  unfold fillMid
  iintro ⟨#HW, ⟨Hc, Ha⟩, HO⟩ HQ
  iapply (wp_waitFill X K c s l hl) $$ [Hc HO Ha]
  · isplitr; · iexact HW
    isplitl [Hc]; · iexact Hc
    isplitl [HO]; · iexact HO
    iexact Ha
  iintro ⟨HO, Ha, Ht, H⟩
  iapply HQ
  isplitl [Ha]; · iexact Ha
  isplitl [Ht]; · iexact Ht
  isplitl [H]; · iexact H
  iexact HO

theorem sumPost_intro (s : Fin 6) (Y : Vec F S1x64x512 .bf16) : iprop((ats2 c false s 1 ∗ any6 c sumS s) ∗ own6 c sumR s Y) ⊢ sumPost c s := by
  unfold sumPost
  iintro ⟨⟨H1, H2⟩, H3⟩
  isplitl [H1]; · iexact H1
  isplitl [H2]; · iexact H2
  unfold any6
  iexists Y; iexact H3
theorem fillPost_intro (s : Fin 6) (Y : Vec F S1x64x512 .bf16) : iprop(ats2 c true s 1 ∗ own6 c fillR s Y) ⊢ fillPost c s := by
  unfold fillPost
  iintro ⟨H1, H3⟩
  isplitl [H1]; · iexact H1
  unfold any6
  iexists Y; iexact H3

theorem wp_phaseCross (Q : PUnit → sProp 𝕄) :
    iprop(world X K ∗ out c (sumSt X 7 c) ∗ all6 (sumPre (F := F) c) ∗ owing c (sumEvs 0))
      ⊢ iprop(((out c (crossed X c) ∗ all6 (sumPost (F := F) c) ∗ owing c (crossEvs true ++ passEvs 7)) -∗ Q ⟨⟩) -∗ wpc c (phaseCross c) Q) := by
  obtain ⟨⟨r0, r1, r2, r3, r4, r5⟩, -⟩ := cross_devs c
  unfold phaseCross all6
  simp only [wp_bind]
  iintro ⟨#HW, Ho, ⟨H0, H1, H2, H3, H4, H5⟩, HO⟩ HQ
  iapply (wp_sendSum' X K c 0 _ (dev_eq r0) (crossRest false 1 ++ (crossEvs true ++ passEvs 7))) $$ [Ho H0 HO]
  · isplitr; · iexact HW
    isplitl [Ho]; · iexact Ho
    isplitl [H0]; · iexact H0
    iexact HO
  iintro ⟨Ho, H0, HO⟩
  iapply (wp_sendSum' X K c 1 _ (dev_eq r1) (crossRest false 2 ++ (crossEvs true ++ passEvs 7))) $$ [Ho H1 HO]
  · isplitr; · iexact HW
    isplitl [Ho]; · iexact Ho
    isplitl [H1]; · iexact H1
    iexact HO
  iintro ⟨Ho, H1, HO⟩
  iapply (wp_sendSum' X K c 2 _ (dev_eq r2) (crossRest false 3 ++ (crossEvs true ++ passEvs 7))) $$ [Ho H2 HO]
  · isplitr; · iexact HW
    isplitl [Ho]; · iexact Ho
    isplitl [H2]; · iexact H2
    iexact HO
  iintro ⟨Ho, H2, HO⟩
  iapply (wp_sendSum' X K c 3 _ (dev_eq r3) (crossRest false 4 ++ (crossEvs true ++ passEvs 7))) $$ [Ho H3 HO]
  · isplitr; · iexact HW
    isplitl [Ho]; · iexact Ho
    isplitl [H3]; · iexact H3
    iexact HO
  iintro ⟨Ho, H3, HO⟩
  iapply (wp_sendSum' X K c 4 _ (dev_eq r4) (crossRest false 5 ++ (crossEvs true ++ passEvs 7))) $$ [Ho H4 HO]
  · isplitr; · iexact HW
    isplitl [Ho]; · iexact Ho
    isplitl [H4]; · iexact H4
    iexact HO
  iintro ⟨Ho, H4, HO⟩
  iapply (wp_sendSum' X K c 5 _ (dev_eq r5) (crossRest false 6 ++ (crossEvs true ++ passEvs 7))) $$ [Ho H5 HO]
  · isplitr; · iexact HW
    isplitl [Ho]; · iexact Ho
    isplitl [H5]; · iexact H5
    iexact HO
  iintro ⟨Ho, H5, HO⟩
  iapply (wp_waitSum' X K c 0 (crossEvs true ++ passEvs 7) later_sum) $$ [H0 HO]
  · isplitr; · iexact HW
    isplitl [H0]; · iexact H0
    iexact HO
  iintro ⟨H0, HO⟩
  iapply (wp_waitSum' X K c 1 (crossEvs true ++ passEvs 7) later_sum) $$ [H1 HO]
  · isplitr; · iexact HW
    isplitl [H1]; · iexact H1
    iexact HO
  iintro ⟨H1, HO⟩
  iapply (wp_waitSum' X K c 2 (crossEvs true ++ passEvs 7) later_sum) $$ [H2 HO]
  · isplitr; · iexact HW
    isplitl [H2]; · iexact H2
    iexact HO
  iintro ⟨H2, HO⟩
  iapply (wp_waitSum' X K c 3 (crossEvs true ++ passEvs 7) later_sum) $$ [H3 HO]
  · isplitr; · iexact HW
    isplitl [H3]; · iexact H3
    iexact HO
  iintro ⟨H3, HO⟩
  iapply (wp_waitSum' X K c 4 (crossEvs true ++ passEvs 7) later_sum) $$ [H4 HO]
  · isplitr; · iexact HW
    isplitl [H4]; · iexact H4
    iexact HO
  iintro ⟨H4, HO⟩
  iapply (wp_waitSum' X K c 5 (crossEvs true ++ passEvs 7) later_sum) $$ [H5 HO]
  · isplitr; · iexact HW
    isplitl [H5]; · iexact H5
    iexact HO
  iintro ⟨H5, HO⟩
  icases H0 with ⟨A0, B0, H0⟩
  icases H1 with ⟨A1, B1, H1⟩
  icases H2 with ⟨A2, B2, H2⟩
  icases H3 with ⟨A3, B3, H3⟩
  icases H4 with ⟨A4, B4, H4⟩
  icases H5 with ⟨A5, B5, H5⟩
  iapply (wp_addSums c (sumSt X 7 c) (gotShare X c)) $$ [Ho H0 H1 H2 H3 H4 H5]
  · isplitl [Ho]; · iexact Ho
    isplitl [H0]; · iexact H0
    isplitl [H1]; · iexact H1
    isplitl [H2]; · iexact H2
    isplitl [H3]; · iexact H3
    isplitl [H4]; · iexact H4
    iexact H5
  iintro ⟨Ho, H0, H1, H2, H3, H4, H5⟩
  iapply HQ
  isplitl [Ho]; · iexact Ho
  isplitr [HO]
  · isplitl [A0 B0 H0]
    · iapply (sumPost_intro c 0 (gotShare X c 0)) $$ [A0 B0 H0]
      isplitl [A0 B0]
      · isplitl [A0]; · iexact A0
        iexact B0
      iexact H0
    isplitl [A1 B1 H1]
    · iapply (sumPost_intro c 1 (gotShare X c 1)) $$ [A1 B1 H1]
      isplitl [A1 B1]
      · isplitl [A1]; · iexact A1
        iexact B1
      iexact H1
    isplitl [A2 B2 H2]
    · iapply (sumPost_intro c 2 (gotShare X c 2)) $$ [A2 B2 H2]
      isplitl [A2 B2]
      · isplitl [A2]; · iexact A2
        iexact B2
      iexact H2
    isplitl [A3 B3 H3]
    · iapply (sumPost_intro c 3 (gotShare X c 3)) $$ [A3 B3 H3]
      isplitl [A3 B3]
      · isplitl [A3]; · iexact A3
        iexact B3
      iexact H3
    isplitl [A4 B4 H4]
    · iapply (sumPost_intro c 4 (gotShare X c 4)) $$ [A4 B4 H4]
      isplitl [A4 B4]
      · isplitl [A4]; · iexact A4
        iexact B4
      iexact H4
    iapply (sumPost_intro c 5 (gotShare X c 5)) $$ [A5 B5 H5]
    isplitl [A5 B5]
    · isplitl [A5]; · iexact A5
      iexact B5
    iexact H5
  iexact HO

theorem wp_phaseFill (Q : PUnit → sProp 𝕄) :
    iprop(world X K ∗ out c (crossed X c) ∗ (∃ Y, own2 c 0 fullShare Y) ∗ (∃ Y, own2 c 1 fullShare Y) ∗ all6 (fillPre (F := F) c) ∗ owing c (crossEvs true ++ passEvs 7))
      ⊢ iprop(((out c (filled X c) ∗ (∃ Y, own2 c 0 fullShare Y) ∗ (∃ Y, own2 c 1 fullShare Y) ∗ all6 (fillPost (F := F) c) ∗ owing c (passEvs 7)) -∗ Q ⟨⟩)
          -∗ wpc c (phaseFill c) Q) := by
  obtain ⟨-, r0, r1, r2, r3, r4, r5⟩ := cross_devs c
  unfold phaseFill all6
  simp only [wp_bind]
  iintro ⟨#HW, Ho, HA, HB, ⟨H0, H1, H2, H3, H4, H5⟩, HO⟩ HQ
  iapply (wp_putFill X c 0) $$ [Ho HA]
  · isplitl [Ho]; · iexact Ho
    iexact HA
  iintro ⟨Ho, HA⟩
  iapply (wp_putFill X c 1) $$ [Ho HB]
  · isplitl [Ho]; · iexact Ho
    iexact HB
  iintro ⟨Ho, HB⟩
  ihave HA := (thirds c 0 (done X 0 c)).1 $$ HA
  icases HA with ⟨T0, T2, T4⟩
  ihave HB := (thirds c 1 (done X 1 c)).1 $$ HB
  icases HB with ⟨T1, T3, T5⟩
  iapply (wp_sendFill' X K c 0 _ (dev_eq r0) (crossRest true 1 ++ passEvs 7)) $$ [T0 H0 HO]
  · isplitr; · iexact HW
    isplitl [T0]; · iexact T0
    isplitl [H0]; · iexact H0
    iexact HO
  iintro ⟨H0, HO⟩
  iapply (wp_sendFill' X K c 1 _ (dev_eq r1) (crossRest true 2 ++ passEvs 7)) $$ [T1 H1 HO]
  · isplitr; · iexact HW
    isplitl [T1]; · iexact T1
    isplitl [H1]; · iexact H1
    iexact HO
  iintro ⟨H1, HO⟩
  iapply (wp_sendFill' X K c 2 _ (dev_eq r2) (crossRest true 3 ++ passEvs 7)) $$ [T2 H2 HO]
  · isplitr; · iexact HW
    isplitl [T2]; · iexact T2
    isplitl [H2]; · iexact H2
    iexact HO
  iintro ⟨H2, HO⟩
  iapply (wp_sendFill' X K c 3 _ (dev_eq r3) (crossRest true 4 ++ passEvs 7)) $$ [T3 H3 HO]
  · isplitr; · iexact HW
    isplitl [T3]; · iexact T3
    isplitl [H3]; · iexact H3
    iexact HO
  iintro ⟨H3, HO⟩
  iapply (wp_sendFill' X K c 4 _ (dev_eq r4) (crossRest true 5 ++ passEvs 7)) $$ [T4 H4 HO]
  · isplitr; · iexact HW
    isplitl [T4]; · iexact T4
    isplitl [H4]; · iexact H4
    iexact HO
  iintro ⟨H4, HO⟩
  iapply (wp_sendFill' X K c 5 _ (dev_eq r5) (crossRest true 6 ++ passEvs 7)) $$ [T5 H5 HO]
  · isplitr; · iexact HW
    isplitl [T5]; · iexact T5
    isplitl [H5]; · iexact H5
    iexact HO
  iintro ⟨H5, HO⟩
  iapply (wp_waitFill' X K c 0 (passEvs 7) later_fill) $$ [H0 HO]
  · isplitr; · iexact HW
    isplitl [H0]; · iexact H0
    iexact HO
  iintro ⟨A0, T0, H0, HO⟩
  iapply (wp_waitFill' X K c 1 (passEvs 7) later_fill) $$ [H1 HO]
  · isplitr; · iexact HW
    isplitl [H1]; · iexact H1
    iexact HO
  iintro ⟨A1, T1, H1, HO⟩
  iapply (wp_waitFill' X K c 2 (passEvs 7) later_fill) $$ [H2 HO]
  · isplitr; · iexact HW
    isplitl [H2]; · iexact H2
    iexact HO
  iintro ⟨A2, T2, H2, HO⟩
  iapply (wp_waitFill' X K c 3 (passEvs 7) later_fill) $$ [H3 HO]
  · isplitr; · iexact HW
    isplitl [H3]; · iexact H3
    iexact HO
  iintro ⟨A3, T3, H3, HO⟩
  iapply (wp_waitFill' X K c 4 (passEvs 7) later_fill) $$ [H4 HO]
  · isplitr; · iexact HW
    isplitl [H4]; · iexact H4
    iexact HO
  iintro ⟨A4, T4, H4, HO⟩
  iapply (wp_waitFill' X K c 5 (passEvs 7) later_fill) $$ [H5 HO]
  · isplitr; · iexact HW
    isplitl [H5]; · iexact H5
    iexact HO
  iintro ⟨A5, T5, H5, HO⟩
  iapply (wp_copyFill c (got X c) 0 _) $$ [Ho H0]
  · isplitl [Ho]; · iexact Ho
    iexact H0
  iintro ⟨Ho, H0⟩
  iapply (wp_copyFill c (got X c) 1 _) $$ [Ho H1]
  · isplitl [Ho]; · iexact Ho
    iexact H1
  iintro ⟨Ho, H1⟩
  iapply (wp_copyFill c (got X c) 2 _) $$ [Ho H2]
  · isplitl [Ho]; · iexact Ho
    iexact H2
  iintro ⟨Ho, H2⟩
  iapply (wp_copyFill c (got X c) 3 _) $$ [Ho H3]
  · isplitl [Ho]; · iexact Ho
    iexact H3
  iintro ⟨Ho, H3⟩
  iapply (wp_copyFill c (got X c) 4 _) $$ [Ho H4]
  · isplitl [Ho]; · iexact Ho
    iexact H4
  iintro ⟨Ho, H4⟩
  iapply (wp_copyFill c (got X c) 5 _) $$ [Ho H5]
  · isplitl [Ho]; · iexact Ho
    iexact H5
  iintro ⟨Ho, H5⟩
  iapply HQ
  isplitl [Ho]; · iexact Ho
  isplitl [T0 T2 T4]
  · iexists (done X 0 c)
    iapply (thirds c 0 (done X 0 c)).2
    isplitl [T0]; · iexact T0
    isplitl [T2]; · iexact T2
    iexact T4
  isplitl [T1 T3 T5]
  · iexists (done X 1 c)
    iapply (thirds c 1 (done X 1 c)).2
    isplitl [T1]; · iexact T1
    isplitl [T3]; · iexact T3
    iexact T5
  isplitr [HO]
  · isplitl [A0 H0]
    · iapply (fillPost_intro c 0 (got X c 0)) $$ [A0 H0]
      isplitl [A0]; · iexact A0
      iexact H0
    isplitl [A1 H1]
    · iapply (fillPost_intro c 1 (got X c 1)) $$ [A1 H1]
      isplitl [A1]; · iexact A1
      iexact H1
    isplitl [A2 H2]
    · iapply (fillPost_intro c 2 (got X c 2)) $$ [A2 H2]
      isplitl [A2]; · iexact A2
      iexact H2
    isplitl [A3 H3]
    · iapply (fillPost_intro c 3 (got X c 3)) $$ [A3 H3]
      isplitl [A3]; · iexact A3
      iexact H3
    isplitl [A4 H4]
    · iapply (fillPost_intro c 4 (got X c 4)) $$ [A4 H4]
      isplitl [A4]; · iexact A4
      iexact H4
    iapply (fillPost_intro c 5 (got X c 5)) $$ [A5 H5]
    isplitl [A5]; · iexact A5
    iexact H5
  iexact HO

end Whole

end Cert.Reduce

end
-- ==== Proof.Groups.lean ====
/-  What a device begins with and what it ends with, put in the order the phases use it in. -/
module

public import proofs.«01_k».proof.Proof.Rings
public import proofs.«01_k».proof.Proof.Exchange
public import Idealize.ShloMosaic.Lib.Pipeline.BigSepL

@[expose] public section

noncomputable section

namespace Cert.Reduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

theorem two_eq {I : Type} (i j : I) (l : List I) (Φ : I → sProp 𝕄) : bigSepL (i :: j :: l) Φ = iprop(Φ i ∗ bigSepL (j :: l) Φ) := bigSepL_cons_cons i j l Φ
theorem sep_assoc₃ (P Q R : sProp 𝕄) : iprop((P ∗ Q) ∗ R) = iprop(P ∗ Q ∗ R) := equiv_iff.mp ⟨BI.sep_assoc, BI.sep_assoc'⟩

theorem all4_sep (Φ Ψ : Fin 4 → sProp 𝕄) : all4 (fun s => iprop(Φ s ∗ Ψ s)) = iprop(all4 Φ ∗ all4 Ψ) := by
  rw [← bigSep_all4, ← bigSep_all4, ← bigSep_all4]; exact bigSep_sep' _ _ _
theorem all6_sep (Φ Ψ : Fin 6 → sProp 𝕄) : all6 (fun s => iprop(Φ s ∗ Ψ s)) = iprop(all6 Φ ∗ all6 Ψ) := by
  rw [← bigSep_all6, ← bigSep_all6, ← bigSep_all6]; exact bigSep_sep' _ _ _
theorem all6_mono {Φ Ψ : Fin 6 → sProp 𝕄} (h : ∀ s, Φ s ⊢ Ψ s) : all6 Φ ⊢ all6 Ψ := by
  rw [← bigSep_all6, ← bigSep_all6]; exact bigSep_mono fun s _ => h s
theorem all2_own (c : Dev nD) : all2 (any2 (F := F) c) = iprop((∃ Y, own2 (F := F) c 0 fullShare Y) ∗ (∃ Y, own2 (F := F) c 1 fullShare Y)) := rfl

/-! ## A device's semaphores -/

def ringKds (d : Bool) : List Kd :=
  [.ring d false 0, .ring d true 0, .ring d false 1, .ring d true 1, .ring d false 2, .ring d true 2, .ring d false 3, .ring d true 3]
def crossKds (ph : Bool) : List Kd :=
  [.cross ph false 0, .cross ph true 0, .cross ph false 1, .cross ph true 1, .cross ph false 2, .cross ph true 2,
    .cross ph false 3, .cross ph true 3, .cross ph false 4, .cross ph true 4, .cross ph false 5, .cross ph true 5]

/-- A fact of both semaphores of every slot of a ring direction, and of an exchange. -/
def ringBoth (Φ : Kd → sProp 𝕄) (d : Bool) : sProp 𝕄 := all4 fun s => iprop(Φ (.ring d false s) ∗ Φ (.ring d true s))
def crossBoth (Φ : Kd → sProp 𝕄) (ph : Bool) : sProp 𝕄 := all6 fun s => iprop(Φ (.cross ph false s) ∗ Φ (.cross ph true s))

theorem ringKds_sep (Φ : Kd → sProp 𝕄) (d : Bool) : bigSepL (ringKds d) Φ = ringBoth Φ d := by
  unfold ringKds ringBoth all4
  simp only [two_eq, bigSepL_singleton, sep_assoc₃]
theorem crossKds_sep (Φ : Kd → sProp 𝕄) (ph : Bool) : bigSepL (crossKds ph) Φ = crossBoth Φ ph := by
  unfold crossKds crossBoth all6
  simp only [two_eq, bigSepL_singleton, sep_assoc₃]

def ownKds : List Kd := ringKds false ++ (ringKds true ++ (crossKds false ++ crossKds true))

theorem ownKds_sep (Φ : Kd → sProp 𝕄) :
    bigSepL ownKds Φ = iprop(ringBoth Φ false ∗ ringBoth Φ true ∗ crossBoth Φ false ∗ crossBoth Φ true) := by
  unfold ownKds
  rw [BI.bigSepL_append, BI.bigSepL_append, BI.bigSepL_append, ringKds_sep, ringKds_sep, crossKds_sep, crossKds_sep]
theorem kd_sep (Φ : Kd → sProp 𝕄) :
    bigSep Finset.univ Φ = iprop(Φ .bar ∗ ringBoth Φ false ∗ ringBoth Φ true ∗ crossBoth Φ false ∗ crossBoth Φ true) := by
  rw [bigSep_univ_eq_bigSepL (.bar :: ownKds) (by decide) (by decide), ← ownKds_sep]
  rfl

/-! ## The buffers -/

/-- A scratch buffer holds something. -/
def buf (c : Dev nD) (b : Ref sig .tc) : sProp 𝕄 := iprop(∃ f, (c : Thread nD τ).loc b ↦{fullShare} f)

def bufs (c : Dev nD) : sProp 𝕄 :=
  iprop(buf (F := F) c cc0_scratch0 ∗ buf (F := F) c cc0_scratch1 ∗ buf (F := F) c cc0_scratch2 ∗ buf (F := F) c cc0_scratch3
    ∗ buf (F := F) c cc0_scratch4 ∗ buf (F := F) c cc0_scratch5 ∗ buf (F := F) c cc0_scratch6 ∗ buf (F := F) c cc0_scratch7)
def slots (c : Dev nD) : sProp 𝕄 :=
  iprop(all4 (any4 (F := F) c (ringS false)) ∗ all4 (any4 (F := F) c (ringR false)) ∗ all4 (any4 (F := F) c (ringS true)) ∗ all4 (any4 (F := F) c (ringR true))
    ∗ all6 (any6 (F := F) c sumS) ∗ all6 (any6 (F := F) c sumR) ∗ all2 (any2 (F := F) c) ∗ all6 (any6 (F := F) c fillR))

theorem buf_eq (c : Dev nD) (b : Ref sig .tc) :
    buf (F := F) c b = iprop(∃ Z : b.ty.Contents (Elt F), owns (c : Thread nD τ) (Memref.whole b) fullShare Z) := by
  unfold buf
  simp only [owns_whole]

theorem slots_of_bufs (c : Dev nD) : bufs (F := F) c ⊢ slots c := by
  unfold bufs slots
  simp only [buf_eq]
  exact BIClass.sep_mono (open4 c (ringS false)) <| BIClass.sep_mono (open4 c (ringR false)) <| BIClass.sep_mono (open4 c (ringS true)) <| BIClass.sep_mono (open4 c (ringR true)) <|
    BIClass.sep_mono (open6 c sumS) <| BIClass.sep_mono (open6 c sumR) <| BIClass.sep_mono (open2 c) (open6 c fillR)
theorem bufs_of_slots (c : Dev nD) : slots (F := F) c ⊢ bufs c := by
  unfold bufs slots
  simp only [buf_eq]
  exact BIClass.sep_mono (close4 c (ringS false)) <| BIClass.sep_mono (close4 c (ringR false)) <| BIClass.sep_mono (close4 c (ringS true)) <| BIClass.sep_mono (close4 c (ringR true)) <|
    BIClass.sep_mono (close6 c sumS) <| BIClass.sep_mono (close6 c sumR) <| BIClass.sep_mono (close2 c) (close6 c fillR)

/-! ## The beginning -/

/-- A position at the first round of a semaphore. -/
abbrev first (c : Dev nD) (k : Kd) : sProp 𝕄 := atPos ER (cell c k) 0 ∅ 0

variable (X : Dev nD → OutC F) (K : Dev nD × Kd → ℕ)

/-- A ring direction before the first step, without the neighbour's slot. -/
def dirPre (c : Dev nD) (d : Bool) : sProp 𝕄 :=
  iprop(slotRes (F := F) c d 0 ∗ slotRes (F := F) c d 1 ∗ slotRes (F := F) c d 2 ∗ slotRes (F := F) c d 3
    ∗ hand (F := F) c d 1 ∗ hand (F := F) c d 2 ∗ hand (F := F) c d 3)

theorem slotRes_first (c : Dev nD) (d : Bool) (n : ℕ) (h : n < 4) :
    iprop(world X K ∗ any4 c (ringS d) (slotOf n) ∗ first c (.ring d false (slotOf n)) ∗ first c (.ring d true (slotOf n))) ⊢ slotRes c d n := by
  unfold slotRes
  rw [show n / 4 = 0 by omega]
  iintro ⟨#HW, Hs, Ha, Hb⟩
  isplitl [Hs]; · iexact Hs
  isplitl [Ha]; · iexact Ha
  isplitr; · iapply (world_reached X K c (.ring d false (slotOf n))); iexact HW
  iexact Hb
theorem hand_first (c : Dev nD) (d : Bool) (n : ℕ) (h : n < 4) : iprop(world X K ∗ any4 c (ringR d) (slotOf n)) ⊢ hand c d n := by
  unfold hand
  rw [show n / 4 = 0 by omega]
  iintro ⟨#HW, Hs⟩
  isplitl [Hs]; · iexact Hs
  iapply (world_reached X K c (.ring d true (slotOf n))); iexact HW

theorem dir_start (c : Dev nD) (d : Bool) :
    iprop(world X K ∗ all4 (any4 c (ringS d)) ∗ all4 (any4 c (ringR d)) ∗ ringBoth (first c) d) ⊢ iprop(hand c d 0 ∗ dirPre c d) := by
  unfold all4 ringBoth all4 dirPre
  iintro ⟨#HW, ⟨S0, S1, S2, S3⟩, ⟨R0, R1, R2, R3⟩, ⟨A0, B0⟩, ⟨A1, B1⟩, ⟨A2, B2⟩, ⟨A3, B3⟩⟩
  isplitl [R0]; · iapply (hand_first X K c d 0 (by omega)) $$ [R0]; isplitr; · iexact HW
                  iexact R0
  isplitl [S0 A0 B0]
  · iapply (slotRes_first X K c d 0 (by omega)); isplitr; · iexact HW
    isplitl [S0]; · iexact S0
    isplitl [A0]; · iexact A0
    iexact B0
  isplitl [S1 A1 B1]
  · iapply (slotRes_first X K c d 1 (by omega)); isplitr; · iexact HW
    isplitl [S1]; · iexact S1
    isplitl [A1]; · iexact A1
    iexact B1
  isplitl [S2 A2 B2]
  · iapply (slotRes_first X K c d 2 (by omega)); isplitr; · iexact HW
    isplitl [S2]; · iexact S2
    isplitl [A2]; · iexact A2
    iexact B2
  isplitl [S3 A3 B3]
  · iapply (slotRes_first X K c d 3 (by omega)); isplitr; · iexact HW
    isplitl [S3]; · iexact S3
    isplitl [A3]; · iexact A3
    iexact B3
  isplitl [R1]; · iapply (hand_first X K c d 1 (by omega)); isplitr; · iexact HW
                  iexact R1
  isplitl [R2]; · iapply (hand_first X K c d 2 (by omega)); isplitr; · iexact HW
                  iexact R2
  iapply (hand_first X K c d 3 (by omega)); isplitr; · iexact HW
  iexact R3

theorem dir_meet (c : Dev nD) (d : Bool) : iprop(dirPre (F := F) c d ∗ hand (nb d c) d 0) ⊢ dirInv c d 0 := by
  unfold dirPre dirInv carry
  rw [if_pos (by omega)]
  iintro ⟨⟨H0, H1, H2, H3, G1, G2, G3⟩, H⟩
  isplitl [H0]; · iexact H0
  isplitl [H1]; · iexact H1
  isplitl [H2]; · iexact H2
  isplitl [H3]; · iexact H3
  isplitl [G1]; · iexact G1
  isplitl [G2]; · iexact G2
  isplitl [G3]; · iexact G3
  iexact H

/-- The slots a device gives the planes it meets, -/
theorem hands_give (c : Dev nD) :
    iprop(all6 (any6 (F := F) c sumR) ∗ all6 (any6 (F := F) c fillR)) ⊢ iprop(crossHand c 0 ∗ crossHand c 1 ∗ crossHand c 2) := by
  unfold all6 crossHand
  iintro ⟨⟨A0, A1, A2, A3, A4, A5⟩, B0, B1, B2, B3, B4, B5⟩
  isplitl [A0 A1 B0 B1]
  · isplitl [A0]; · iexact A0
    isplitl [A1]; · iexact A1
    isplitl [B0]; · iexact B0
    iexact B1
  isplitl [A2 A3 B2 B3]
  · isplitl [A2]; · iexact A2
    isplitl [A3]; · iexact A3
    isplitl [B2]; · iexact B2
    iexact B3
  isplitl [A4]; · iexact A4
  isplitl [A5]; · iexact A5
  isplitl [B4]; · iexact B4
  iexact B5
/-- and those it is given. -/
theorem hands_take (c : Dev nD) :
    iprop(crossHand (F := F) (plane 0 c) 0 ∗ crossHand (F := F) (plane 1 c) 1 ∗ crossHand (F := F) (plane 2 c) 2)
      ⊢ iprop((all6 fun s => any6 (F := F) (plane (dist s) c) sumR s) ∗ all6 fun s => any6 (F := F) (plane (dist s) c) fillR s) := by
  unfold all6 crossHand
  iintro ⟨⟨A0, A1, B0, B1⟩, ⟨A2, A3, B2, B3⟩, A4, A5, B4, B5⟩
  isplitl [A0 A1 A2 A3 A4 A5]
  · isplitl [A0]; · iexact A0
    isplitl [A1]; · iexact A1
    isplitl [A2]; · iexact A2
    isplitl [A3]; · iexact A3
    isplitl [A4]; · iexact A4
    iexact A5
  isplitl [B0]; · iexact B0
  isplitl [B1]; · iexact B1
  isplitl [B2]; · iexact B2
  isplitl [B3]; · iexact B3
  isplitl [B4]; · iexact B4
  iexact B5

theorem held_cross (c : Dev nD) (ph : Bool) : held (F := F) c (crossEvs ph) = all6 fun s => evRes c (.cross ph s) := by
  unfold held crossEvs all6
  simp only [bigSepL_cons_cons, bigSepL_singleton]
  rfl

theorem sum_start (c : Dev nD) :
    iprop(all6 (any6 (F := F) c sumS) ∗ (all6 fun s => any6 (F := F) (plane (dist s) c) sumR s) ∗ held c (crossEvs false) ∗ crossBoth (first c) false)
      ⊢ all6 (sumPre c) := by
  rw [held_cross, crossBoth, ← all6_sep, ← all6_sep, ← all6_sep]
  exact all6_mono fun s => BIBase.Entails.refl
theorem fill_start (c : Dev nD) :
    iprop((all6 fun s => any6 (F := F) (plane (dist s) c) fillR s) ∗ held c (crossEvs true) ∗ crossBoth (first c) true) ⊢ all6 (fillPre c) := by
  rw [held_cross, crossBoth, ← all6_sep, ← all6_sep]
  exact all6_mono fun s => BIBase.Entails.refl

/-! ## The end -/

/-- A semaphore past its last round. -/
def parked (c : Dev nD) (k : Kd) : sProp 𝕄 :=
  iprop(∃ R, ⌜∀ r, R ≤ r → (Rd X).duties (cell c k) r = ∅⌝ ∗ atPos ER (cell c k) R ∅ 0)

theorem parked_ring (c : Dev nD) (d rcv : Bool) (n : ℕ) (s : Fin 4) (h : 14 ≤ n) (hs : slotOf n = s) :
    atPos ER (cell c (.ring d rcv s)) (n / 4) ∅ 0 ⊢ parked X c (.ring d rcv s) := by
  unfold parked
  iintro H
  iexists n / 4
  isplitr; · ipureintro; exact Rd_later_ring X c d rcv s n h hs
  iexact H
theorem parked_cross (c : Dev nD) (ph rcv : Bool) (s : Fin 6) : atPos ER (cell c (.cross ph rcv s)) 1 ∅ 0 ⊢ parked X c (.cross ph rcv s) := by
  unfold parked
  iintro H
  iexists 1
  isplitr; · ipureintro; exact Rd_later_cross X c ph rcv s
  iexact H
theorem parked_bar (c : Dev nD) : atPos ER (cell c .bar) 1 ∅ 0 ⊢ parked X c .bar := by
  unfold parked
  iintro H
  iexists 1
  isplitr; · ipureintro; exact Rd_later_bar X c
  iexact H

theorem close_one (c : Dev nD) (k : Kd) : iprop(world X K ∗ parked X c k) ⊢ |={Set.univ}=> semVal (cell c k) 0 := by
  unfold parked
  iintro ⟨HW, ⟨%R, %hR, H⟩⟩
  iapply (Rounds.cell_close ER (Rd X) (Set.mem_univ (K (c, k))) (fun h => h) (R := R) hR) $$ [HW H]
  isplitl [HW]; · iapply (world_inv X K c k) $$ HW
  iexact H
theorem close_all (c : Dev nD) :
    iprop(world X K ∗ bigSep Finset.univ (parked X c)) ⊢ |={Set.univ}=> (bigSep Finset.univ fun k => semVal (cell c k) 0) :=
  (bigSep_with_persistent fun k _ => close_one X K c k).trans (bigSep_fupd _ _)

theorem slotRes_end (c : Dev nD) (d : Bool) (n : ℕ) (h : 14 ≤ n) :
    slotRes (F := F) c d n ⊢ iprop(any4 c (ringS d) (slotOf n) ∗ (parked X c (.ring d false (slotOf n)) ∗ parked X c (.ring d true (slotOf n)))) := by
  unfold slotRes
  iintro ⟨Hs, Ha, -, Hb⟩
  isplitl [Hs]; · iexact Hs
  isplitl [Ha]; · iapply (parked_ring X c d false n _ h rfl) $$ Ha
  iapply (parked_ring X c d true n _ h rfl) $$ Hb
theorem hand_end (c : Dev nD) (d : Bool) (n : ℕ) : hand (F := F) c d n ⊢ any4 c (ringR d) (slotOf n) := by
  unfold hand
  iintro ⟨H, -⟩
  iexact H
theorem dir_end (c : Dev nD) (d : Bool) :
    dirInv (F := F) c d 14 ⊢ iprop(all4 (any4 c (ringS d)) ∗ all4 (any4 c (ringR d)) ∗ ringBoth (parked X c) d) := by
  rw [ringBoth, ← all4_sep, ← all4_sep]
  unfold dirInv all4 carry
  rw [if_neg (by omega)]
  iintro ⟨S2, S3, S0, S1, H3, H0, H1, H2⟩
  ihave S0 := (slotRes_end X c d 16 (by omega)) $$ S0
  icases S0 with ⟨S0, P0⟩
  ihave S1 := (slotRes_end X c d 17 (by omega)) $$ S1
  icases S1 with ⟨S1, P1⟩
  ihave S2 := (slotRes_end X c d 14 (by omega)) $$ S2
  icases S2 with ⟨S2, P2⟩
  ihave S3 := (slotRes_end X c d 15 (by omega)) $$ S3
  icases S3 with ⟨S3, P3⟩
  isplitl [S0 P0 H0]
  · isplitl [S0]; · iexact S0
    isplitl [H0]; · iapply (hand_end c d 16) $$ H0
    iexact P0
  isplitl [S1 P1 H1]
  · isplitl [S1]; · iexact S1
    isplitl [H1]; · iapply (hand_end c d 17) $$ H1
    iexact P1
  isplitl [S2 P2 H2]
  · isplitl [S2]; · iexact S2
    isplitl [H2]; · iapply (hand_end c d 14) $$ H2
    iexact P2
  isplitl [S3]; · iexact S3
  isplitl [H3]; · iapply (hand_end c d 15) $$ H3
  iexact P3

theorem sum_end (c : Dev nD) :
    all6 (sumPost (F := F) c) ⊢ iprop(all6 (any6 c sumS) ∗ all6 (any6 c sumR) ∗ crossBoth (parked X c) false) := by
  rw [crossBoth, ← all6_sep, ← all6_sep]
  refine all6_mono fun s => ?_
  unfold sumPost ats2
  iintro ⟨⟨Ha, Hb⟩, Hs, Hr⟩
  isplitl [Hs]; · iexact Hs
  isplitl [Hr]; · iexact Hr
  isplitl [Ha]; · iapply (parked_cross X c false false s) $$ Ha
  iapply (parked_cross X c false true s) $$ Hb
theorem fill_end (c : Dev nD) :
    all6 (fillPost (F := F) c) ⊢ iprop(all6 (any6 c fillR) ∗ crossBoth (parked X c) true) := by
  rw [crossBoth, ← all6_sep]
  refine all6_mono fun s => ?_
  unfold fillPost ats2
  iintro ⟨⟨Ha, Hb⟩, Hr⟩
  isplitl [Hr]; · iexact Hr
  isplitl [Ha]; · iapply (parked_cross X c true false s) $$ Ha
  iapply (parked_cross X c true true s) $$ Hb

end Cert.Reduce

end
-- ==== Proof.Opening.lean ====
/-  The devices meet, and each copies its operand into its result buffer.

    A device signals the five devices it will write to or be written by, and with each signal it
    gives away the first slots that device needs of it. -/
module

public import proofs.«01_k».proof.Proof.Groups

@[expose] public section

noncomputable section

namespace Cert.Reduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

section Opening

variable (X : Dev nD → OutC F) (K : Dev nD × Kd → ℕ) (c : Dev nD)

/-- A signal's permit and the credit for the one it is answered by. -/
theorem bar_res (i : Fin 5) :
    evRes (F := F) c (.bar i) = iprop(dutyTok ER (cell ((Ev.bar i).peer c) .bar) 0 i ∗ cred (tallyAt (cell c .bar) 1 1)) := by
  unfold evRes
  show iprop((bigSepL [_] _) ∗ _) = _
  rw [bigSepL_singleton]
  rfl

theorem wp_meet (i : Fin 5) (dst : Dev nD) (hp : dst = (Ev.bar i).peer c) (l : List Ev) (Q : PUnit → sProp 𝕄) :
    iprop(world X K ∗ dutyTok ER (cell ((Ev.bar i).peer c) .bar) 0 i ∗ payK X ((Ev.bar i).peer c) .bar 0 i ∗ owing c (.bar i :: l))
      ⊢ iprop((owing c l -∗ Q ⟨⟩) -∗ wpc c (semSignalWord dst barS 1#32) Q) := by
  subst hp
  unfold owing
  iintro ⟨#HW, Ht, Hp, ⟨%W, HO⟩⟩ HQ
  unfold semSignalWord
  iapply (Rounds.wp_signal (defs := defs₀ (F := F)) 𝒱₀ ER (Rd X) (c : Thread nD τ) none (dst := ((Ev.bar i).peer c : Thread nD τ)) (sem := barS) (κ := K ((Ev.bar i).peer c, .bar))
      (r := 0) (d := i) (by
        rw [show ((((Ev.bar i).peer c : Dev nD) : Thread nD τ), SemLoc.reg barS) = cell ((Ev.bar i).peer c) .bar from rfl, Rd_duties]; exact Finset.mem_univ _)
      (k' := 1) (Rd_amount X ((Ev.bar i).peer c) .bar 0 i) 1 (due c l) (due_cons c (.bar i) l)) $$ [HO Ht Hp]
  · isplitr; · iapply (world_inv X K ((Ev.bar i).peer c) .bar); iexact HW
    isplitl [HO]; · iexact HO
    isplitl [Ht]; · iexact Ht
    isplitl [Hp]
    · rw [show ((((Ev.bar i).peer c : Dev nD) : Thread nD τ), SemLoc.reg barS) = cell ((Ev.bar i).peer c) .bar from rfl, Rd_payload]
      iexact Hp
    iapply (world_reached X K ((Ev.bar i).peer c) .bar); iexact HW
  iintro HO
  iapply (wpc_ret c)
  iapply HQ
  iexists W; iexact HO

/-- What each signal hands over. -/
theorem give_ring0 : hand (F := F) c false 0 ⊢ payK X ((Ev.bar 0).peer c) .bar 0 0 := by
  show _ ⊢ hand (nb false (nb true c)) false 0
  rw [show nb false (nb true c) = c from nb_nb' true c]
theorem give_ring1 : hand (F := F) c true 0 ⊢ payK X ((Ev.bar 1).peer c) .bar 0 1 := by
  show _ ⊢ hand (nb true (nb false c)) true 0
  rw [show nb true (nb false c) = c from nb_nb' false c]
theorem give_cross0 : crossHand (F := F) c 0 ⊢ payK X ((Ev.bar 2).peer c) .bar 0 2 := by
  show _ ⊢ crossHand (plane 0 (plane 2 c)) 0
  rw [show plane 0 (plane 2 c) = c from plane_rev 0 c]
theorem give_cross1 : crossHand (F := F) c 1 ⊢ payK X ((Ev.bar 3).peer c) .bar 0 3 := by
  show _ ⊢ crossHand (plane 1 (plane 1 c)) 1
  rw [show plane 1 (plane 1 c) = c from plane_rev 1 c]
theorem give_cross2 : crossHand (F := F) c 2 ⊢ payK X ((Ev.bar 4).peer c) .bar 0 4 := by
  show _ ⊢ crossHand (plane 2 (plane 0 c)) 2
  rw [show plane 2 (plane 0 c) = c from plane_rev 2 c]

/-- Credits of single units add up. -/
theorem cred_join (a b : ℕ) : iprop(cred (tallyAt (cell c .bar) 1 a) ∗ cred (tallyAt (cell c .bar) 1 b)) ⊢ (cred (tallyAt (cell c .bar) 1 (a + b)) : sProp 𝕄) := by
  rw [← tallyAt_add]
  exact (cred_add _ _).2

theorem wp_gather (l : List Ev) (hl : ∀ e ∈ l, 1 < e.ix ∧ e.ix < 18) (Q : PUnit → sProp 𝕄) :
    iprop(world X K ∗ cred (tallyAt (cell c .bar) 1 5) ∗ owing c l ∗ first c .bar)
      ⊢ iprop(((owing c l ∗ atPos ER (cell c .bar) 1 ∅ 0 ∗ hand (nb false c) false 0 ∗ hand (nb true c) true 0
            ∗ crossHand (plane 0 c) 0 ∗ crossHand (plane 1 c) 1 ∗ crossHand (plane 2 c) 2) -∗ Q ⟨⟩)
          -∗ wpc c (semWaitWord barS 5#32) Q) := by
  unfold owing
  iintro ⟨#HW, Hc, ⟨%W, HO⟩, Hat⟩ HQ
  unfold semWaitWord
  iapply (Rounds.wp_wait_rest_token (defs := defs₀ (F := F)) 𝒱₀ ER (Rd X) (c : Thread nD τ) none (κ := K (c, .bar)) (sm := .reg barS)
      (wpE_semWait_eq 𝒱₀ (c : Thread nD τ) none Set.univ) (Set.mem_univ _) 1 (O := due c l) (W := W) (R := 0) (m := 0) (T := ∅)
      (by rw [show ((c : Thread nD τ), SemLoc.reg barS) = cell c .bar from rfl, Rd_expect_bar]; rfl)) $$ [Hc HO Hat]
  · isplitr; · iapply (world_inv X K c .bar); iexact HW
    isplitl [Hc]; · iexact Hc
    isplitl [HO]; · iexact HO
    isplitr; · iapply (world_mayWait X K c (.reg barS) 1 l (by decide) hl); iexact HW
    iexact Hat
  iintro ⟨HO, Hat, -, Hp⟩
  iapply (wpc_ret c)
  iapply HQ
  rw [← Rd_rest_bar X c]
  isplitl [HO]
  · iexists _; iexact HO
  isplitl [Hat]; · iexact Hat
  iexact Hp

/-- The operand's buffer. -/
def inp (x : (cc0_stg0_0 : Ref sig .tc).ty.Contents (Elt F)) : sProp 𝕄 := (c : Thread nD τ).loc cc0_stg0_0 ↦{fullShare} x

theorem zero3 : (![0, 0, 0] : Fin 3 → Nat) = fun _ => 0 := funext fun a => by fin_cases a <;> rfl
theorem zero2 : (![0, 0] : Fin 2 → Nat) = fun _ => 0 := funext fun a => by fin_cases a <;> rfl

theorem wp_take (x : (cc0_stg0_0 : Ref sig .tc).ty.Contents (Elt F)) (hl) (Q : Vec F S1x2048x1024 .bf16 → sProp 𝕄) :
    inp c x ⊢ iprop((inp c x -∗ Q x)
      -∗ wpc c (Prog.lift (.load inM (Rect.unit (s := S1x2048x1024) ![0, 0, 0] S1x2048x1024.size inb_S1x2048x1024_S1x2048x1024_0_0_0).toLoadRect hl)) Q) := by
  unfold inp
  iintro H HQ
  simp only [Prog.lift]
  iapply (wp_load (defs := defs₀ (F := F)) 𝒱₀ (c : Thread nD τ) none Set.univ (m := inM) (Finset.subset_univ _)) $$ H
  iintro H
  rw [show (inM : Memref sig .tc .vmem S1x2048x1024 .bf16).view.readAt (Elt F)
    (Rect.unit (s := S1x2048x1024) ![0, 0, 0] S1x2048x1024.size inb_S1x2048x1024_S1x2048x1024_0_0_0).toLoadRect x = x from
    Memref.readAt_unit_zero (Elt F) cc0_stg0_0 zero3 _ x]
  iapply (wpc_ret c)
  iapply HQ
  iexact H

theorem later_events : ∀ e ∈ sumEvs 7, 1 < e.ix ∧ e.ix < 18 := by decide

theorem wp_opening (f : OutC F) (x : (cc0_stg0_0 : Ref sig .tc).ty.Contents (Elt F)) (Q : PUnit → sProp 𝕄) :
    iprop(world X K ∗ out c f ∗ inp c x ∗ hand c false 0 ∗ hand c true 0 ∗ (crossHand c 0 ∗ crossHand c 1 ∗ crossHand c 2)
        ∗ held c openEvs ∗ first c .bar ∗ owing c allEvs)
      ⊢ iprop(((out c (k0_pay3 x) ∗ inp c x ∗ hand (nb false c) false 0 ∗ hand (nb true c) true 0
            ∗ (crossHand (plane 0 c) 0 ∗ crossHand (plane 1 c) 1 ∗ crossHand (plane 2 c) 2) ∗ atPos ER (cell c .bar) 1 ∅ 0 ∗ owing c (sumEvs 7)) -∗ Q ⟨⟩)
          -∗ wpc c (opening c) Q) := by
  obtain ⟨r1, r2, r3, r4, r5⟩ := open_devs c
  rw [show held (F := F) c openEvs = iprop(evRes c (.bar 0) ∗ evRes c (.bar 1) ∗ evRes c (.bar 4) ∗ evRes c (.bar 3) ∗ evRes c (.bar 2)) by
    unfold held openEvs
    simp only [two_eq, bigSepL_singleton]]
  simp only [bar_res]
  unfold opening
  simp only [wp_bind]
  iintro ⟨#HW, Ho, Hx, G0, G1, ⟨C0, C1, C2⟩, ⟨⟨T0, D0⟩, ⟨T1, D1⟩, ⟨T4, D4⟩, ⟨T3, D3⟩, ⟨T2, D2⟩⟩, Hat, HO⟩ HQ
  iapply (wp_meet X K c 0 _ (dev_eq r1) (.bar 1 :: .bar 4 :: .bar 3 :: .bar 2 :: sumEvs 7)) $$ [T0 G0 HO]
  · isplitr; · iexact HW
    isplitl [T0]; · iexact T0
    isplitl [G0]; · iapply (give_ring0 X c) $$ G0
    iexact HO
  iintro HO
  iapply (wp_meet X K c 1 _ (dev_eq r2) (.bar 4 :: .bar 3 :: .bar 2 :: sumEvs 7)) $$ [T1 G1 HO]
  · isplitr; · iexact HW
    isplitl [T1]; · iexact T1
    isplitl [G1]; · iapply (give_ring1 X c) $$ G1
    iexact HO
  iintro HO
  iapply (wp_meet X K c 4 _ (dev_eq r3) (.bar 3 :: .bar 2 :: sumEvs 7)) $$ [T4 C2 HO]
  · isplitr; · iexact HW
    isplitl [T4]; · iexact T4
    isplitl [C2]; · iapply (give_cross2 X c) $$ C2
    iexact HO
  iintro HO
  iapply (wp_meet X K c 3 _ (dev_eq r4) (.bar 2 :: sumEvs 7)) $$ [T3 C1 HO]
  · isplitr; · iexact HW
    isplitl [T3]; · iexact T3
    isplitl [C1]; · iapply (give_cross1 X c) $$ C1
    iexact HO
  iintro HO
  iapply (wp_meet X K c 2 _ (dev_eq r5) (sumEvs 7)) $$ [T2 C0 HO]
  · isplitr; · iexact HW
    isplitl [T2]; · iexact T2
    isplitl [C0]; · iapply (give_cross0 X c) $$ C0
    iexact HO
  iintro HO
  ihave D := (cred_join (F := F) c 1 1) $$ [D0 D1]
  · isplitl [D0]; · iexact D0
    iexact D1
  ihave D := (cred_join (F := F) c 2 1) $$ [D D2]
  · isplitl [D]; · iexact D
    iexact D2
  ihave D := (cred_join (F := F) c 3 1) $$ [D D3]
  · isplitl [D]; · iexact D
    iexact D3
  ihave D := (cred_join (F := F) c 4 1) $$ [D D4]
  · isplitl [D]; · iexact D
    iexact D4
  iapply (wp_gather X K c (sumEvs 7) later_events) $$ [D HO Hat]
  · isplitr; · iexact HW
    isplitl [D]; · iexact D
    isplitl [HO]; · iexact HO
    iexact Hat
  iintro ⟨HO, Hat, G0, G1, C⟩
  iapply (wp_take c x) $$ Hx; iintro Hx
  iapply (wp_load_out c) $$ Ho; iintro Ho
  iapply (wp_store_out c) $$ Ho; iintro Ho
  rw [show (outM.access (Rect.unit (s := S2048x1024) ![0, 0] S2048x1024.size inb_S2048x1024_S2048x1024_0_0)).write (Elt F) f (k0_pay3 x) Finset.univ = k0_pay3 x from
    Memref.write_access_unit_zero_univ (Elt F) cc0_stg1_0 zero2 _ f (k0_pay3 x)]
  iapply HQ
  isplitl [Ho]; · iexact Ho
  isplitl [Hx]; · iexact Hx
  isplitl [G0]; · iexact G0
  isplitl [G1]; · iexact G1
  isplitl [C]; · iexact C
  isplitl [Hat]; · iexact Hat
  iexact HO

end Opening

end Cert.Reduce

end
-- ==== Proof.Body.lean ====
/-  The whole body, from what a device begins with to what it ends with. -/
module

public import proofs.«01_k».proof.Proof.Opening

@[expose] public section

noncomputable section

namespace Cert.Reduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

section Body

variable (X : Dev nD → OutC F) (K : Dev nD × Kd → ℕ) (c : Dev nD)

theorem held_append (l l' : List Ev) : held (F := F) c (l ++ l') = iprop(held c l ∗ held c l') := BI.bigSepL_append l l' _

/-- What a device has after the devices met: all that the phases use. -/
def ready : sProp 𝕄 :=
  iprop(dirInv (F := F) c false 0 ∗ dirInv (F := F) c true 0 ∗ all6 (any6 (F := F) c sumS)
    ∗ (all6 fun s => any6 (F := F) (plane (dist s) c) sumR s) ∗ (all6 fun s => any6 (F := F) (plane (dist s) c) fillR s)
    ∗ crossBoth (first c) false ∗ crossBoth (first c) true ∗ all2 (any2 (F := F) c)
    ∗ held (F := F) c (sumEvs 7) ∗ owing (F := F) c (sumEvs 7) ∗ atPos ER (cell c .bar) 1 ∅ 0)

theorem wp_begin (f : OutC F) (x : (cc0_stg0_0 : Ref sig .tc).ty.Contents (Elt F)) (Q : PUnit → sProp 𝕄) :
    iprop(world X K ∗ bufs c ∗ held c allEvs ∗ bigSep Finset.univ (first c) ∗ out c f ∗ inp c x ∗ owing c allEvs)
      ⊢ iprop(((out c (k0_pay3 x) ∗ inp c x ∗ ready c) -∗ Q ⟨⟩) -∗ wpc c (opening c) Q) := by
  rw [kd_sep, allEvs, held_append]
  iintro ⟨#HW, Hb, ⟨Ho5, Hh⟩, ⟨Abar, AF, AT, CF, CT⟩, Ho, Hx, HO⟩ HQ
  ihave Hs := (slots_of_bufs c) $$ Hb
  unfold slots
  icases Hs with ⟨SF, RF, ST, RT, SS, SR, FS, FR⟩
  ihave DF := (dir_start X K c false) $$ [SF RF AF]
  · isplitr; · iexact HW
    isplitl [SF]; · iexact SF
    isplitl [RF]; · iexact RF
    iexact AF
  icases DF with ⟨GF, DF⟩
  ihave DT := (dir_start X K c true) $$ [ST RT AT]
  · isplitr; · iexact HW
    isplitl [ST]; · iexact ST
    isplitl [RT]; · iexact RT
    iexact AT
  icases DT with ⟨GT, DT⟩
  ihave C := (hands_give c) $$ [SR FR]
  · isplitl [SR]; · iexact SR
    iexact FR
  iapply (wp_opening X K c f x) $$ [GF GT C Ho5 Abar Ho Hx HO]
  · isplitr; · iexact HW
    isplitl [Ho]; · iexact Ho
    isplitl [Hx]; · iexact Hx
    isplitl [GF]; · iexact GF
    isplitl [GT]; · iexact GT
    isplitl [C]; · iexact C
    isplitl [Ho5]; · iexact Ho5
    isplitl [Abar]; · iexact Abar
    iexact HO
  iintro ⟨Ho, Hx, GF, GT, C, Abar, HO⟩
  ihave C := (hands_take c) $$ C
  icases C with ⟨SR, FR⟩
  iapply HQ
  isplitl [Ho]; · iexact Ho
  isplitl [Hx]; · iexact Hx
  unfold ready
  isplitl [DF GF]
  · iapply (dir_meet c false); isplitl [DF]; · iexact DF
    iexact GF
  isplitl [DT GT]
  · iapply (dir_meet c true); isplitl [DT]; · iexact DT
    iexact GT
  isplitl [SS]; · iexact SS
  isplitl [SR]; · iexact SR
  isplitl [FR]; · iexact FR
  isplitl [CF]; · iexact CF
  isplitl [CT]; · iexact CT
  isplitl [FS]; · iexact FS
  isplitl [Hh]; · iexact Hh
  isplitl [HO]; · iexact HO
  iexact Abar

/-- What a device has when all phases are over. -/
def spent : sProp 𝕄 :=
  iprop(dirInv (F := F) c false 14 ∗ dirInv (F := F) c true 14 ∗ all6 (sumPost (F := F) c) ∗ all6 (fillPost (F := F) c) ∗ all2 (any2 (F := F) c)
    ∗ atPos ER (cell c .bar) 1 ∅ 0)

theorem spent_end : spent (F := F) c ⊢ iprop(bufs c ∗ bigSep Finset.univ (parked X c)) := by
  rw [kd_sep]
  unfold spent
  iintro ⟨DF, DT, CS, CF, FS, Hb⟩
  ihave DF := (dir_end X c false) $$ DF
  icases DF with ⟨SF, RF, PF⟩
  ihave DT := (dir_end X c true) $$ DT
  icases DT with ⟨ST, RT, PT⟩
  ihave CS := (sum_end X c) $$ CS
  icases CS with ⟨SS, SR, PS⟩
  ihave CF := (fill_end X c) $$ CF
  icases CF with ⟨FR, PC⟩
  isplitl [SF RF ST RT SS SR FS FR]
  · iapply (bufs_of_slots c)
    unfold slots
    isplitl [SF]; · iexact SF
    isplitl [RF]; · iexact RF
    isplitl [ST]; · iexact ST
    isplitl [RT]; · iexact RT
    isplitl [SS]; · iexact SS
    isplitl [SR]; · iexact SR
    isplitl [FS]; · iexact FS
    iexact FR
  isplitl [Hb]; · iapply (parked_bar X c) $$ Hb
  isplitl [PF]; · iexact PF
  isplitl [PT]; · iexact PT
  isplitl [PS]; · iexact PS
  iexact PC

/-- The phases after the meeting. -/
theorem wp_rest (Q : PUnit → sProp 𝕄) :
    iprop(world X K ∗ ready c ∗ out c (X c))
      ⊢ iprop(((out c (passSt X 7 c) ∗ spent c ∗ owing c []) -∗ Q ⟨⟩)
          -∗ wpc c (do phaseSum c; phaseCross c; phaseFill c; phasePass c) Q) := by
  simp only [wp_bind]
  unfold ready
  iintro ⟨#HW, ⟨DF, DT, SS, SR, FR, CF, CT, FS, Hh, HO, Hb⟩, Ho⟩ HQ
  iapply (wp_phaseSum X K c) $$ [DF DT Ho Hh HO]
  · isplitr; · iexact HW
    unfold phInv
    isplitl [DF]; · iexact DF
    isplitl [DT]; · iexact DT
    isplitl [Ho]; · iexact Ho
    isplitl [Hh]; · iexact Hh
    iexact HO
  rw [show phInv X c false 7 0 = iprop(dirInv (F := F) c false 7 ∗ dirInv (F := F) c true 7 ∗ out c (sumSt X 7 c)
    ∗ held (F := F) c (crossEvs false ++ (crossEvs true ++ passEvs 7)) ∗ owing (F := F) c (sumEvs 0)) from rfl, held_append, held_append]
  iintro ⟨DF, DT, Ho, ⟨H1, H2, H3⟩, HO⟩
  iapply (wp_phaseCross X K c) $$ [SS SR CF H1 Ho HO]
  · isplitr; · iexact HW
    isplitl [Ho]; · iexact Ho
    isplitl [SS SR CF H1]
    · iapply (sum_start c)
      isplitl [SS]; · iexact SS
      isplitl [SR]; · iexact SR
      isplitl [H1]; · iexact H1
      iexact CF
    iexact HO
  iintro ⟨Ho, PS, HO⟩
  ihave FS := (BIBase.Entails.of_eq (all2_own c)) $$ FS
  icases FS with ⟨F0, F1⟩
  iapply (wp_phaseFill X K c) $$ [FR CT H2 F0 F1 Ho HO]
  · isplitr; · iexact HW
    isplitl [Ho]; · iexact Ho
    isplitl [F0]; · iexact F0
    isplitl [F1]; · iexact F1
    isplitl [FR CT H2]
    · iapply (fill_start c)
      isplitl [FR]; · iexact FR
      isplitl [H2]; · iexact H2
      iexact CT
    iexact HO
  iintro ⟨Ho, F0, F1, PF, HO⟩
  iapply (wp_phasePass X K c) $$ [DF DT Ho H3 HO]
  · isplitr; · iexact HW
    unfold phInv
    isplitl [DF]; · iexact DF
    isplitl [DT]; · iexact DT
    isplitl [Ho]; · iexact Ho
    isplitl [H3]; · iexact H3
    iexact HO
  unfold phInv
  iintro ⟨DF, DT, Ho, -, HO⟩
  iapply HQ
  isplitl [Ho]; · iexact Ho
  isplitr [HO]
  · unfold spent
    isplitl [DF]; · iexact DF
    isplitl [DT]; · iexact DT
    isplitl [PS]; · iexact PS
    isplitl [PF]; · iexact PF
    isplitr [Hb]
    · rw [all2_own]
      isplitl [F0]; · iexact F0
      iexact F1
    iexact Hb
  iexact HO

theorem wp_steps (f : OutC F) (x : (cc0_stg0_0 : Ref sig .tc).ty.Contents (Elt F)) (hX : X c = k0_pay3 x) (Q : PUnit → sProp 𝕄) :
    iprop(world X K ∗ bufs c ∗ held c allEvs ∗ bigSep Finset.univ (first c) ∗ out c f ∗ inp c x ∗ owing c allEvs)
      ⊢ iprop(((out c (passSt X 7 c) ∗ inp c x ∗ bufs c ∗ (bigSep Finset.univ fun k => semVal (cell c k) 0) ∗ owing c []) -∗ Q ⟨⟩)
          -∗ wpc c steps Q) := by
  unfold steps
  simp only [Prog.lift, Prog.bind_op, Prog.bind_ret, wp_deviceId]
  rw [wp_bind]
  iintro ⟨#HW, H⟩ HQ
  iapply (wp_begin X K c f x) $$ [H]
  · isplitr; · iexact HW
    iexact H
  iintro ⟨Ho, Hx, Hr⟩
  rw [← hX]
  iapply (wp_fupd Idealize.ShloMosaic.frame (wpE (defs₀ (F := F)) 𝒱₀ (c : Thread nD τ) none) Set.univ)
  iapply (wp_rest X K c) $$ [Hr Ho]
  · isplitr; · iexact HW
    isplitl [Hr]; · iexact Hr
    iexact Ho
  iintro ⟨Ho, Hs, HO⟩
  ihave Hs := (spent_end X c) $$ Hs
  icases Hs with ⟨Hb, Hp⟩
  imod (close_all X K c) $$ [Hp] with Hz
  · isplitr; · iexact HW
    iexact Hp
  imodintro
  iapply HQ
  isplitl [Ho]; · iexact Ho
  isplitl [Hx]; · iexact Hx
  isplitl [Hb]; · iexact Hb
  isplitl [Hz]; · iexact Hz
  iexact HO

end Body

end Cert.Reduce

end
-- ==== Proof.Ghost.lean ====
/-  How the permits, the credits and the semaphores are dealt out to the devices at the start.

    Every permit is made at the device whose semaphore it is for and goes to the device that uses
    it, a permutation of the devices for each permit. -/
module

public import proofs.«01_k».proof.Proof.Body

@[expose] public section

noncomputable section

namespace Cert.Reduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## The copies' semaphores as a family -/

/-- The copies' semaphores. -/
abbrev osem : Own → SemLoc sig := fun k => .dma k.sem

def ownKd? : Kd → Option Own
  | .bar => none
  | .own k => some k
def ownL : List Own := ownKds.filterMap ownKd?

theorem kd_own (Φ : Kd → sProp 𝕄) : bigSep Finset.univ Φ = iprop(Φ .bar ∗ bigSep Finset.univ fun k : Own => Φ (.own k)) := by
  rw [kd_sep, bigSep_univ_eq_bigSepL ownL (by decide) (by decide), ← BI.bigSepL_map Kd.own ownL Φ, show ownL.map Kd.own = ownKds from rfl, ownKds_sep]

theorem sems_eq (c : Dev nD) :
    iprop(Pipeline.ownSems0 (Ix := ℕ) (Name := ℕ) (U := UU) (Lvl := ℕ) (Val := Elt F) (τ := τ) osem c ∗ unscopedSems0 c)
      = (iprop((bigSep Finset.univ fun k : Own => semVal (cell c (.own k)) 0) ∗ semVal (cell c .bar) 0) : sProp 𝕄) := by
  unfold unscopedSems0
  rw [bigSep_eq_bigSepL_of_eq [SemLoc.reg barS] (by decide) (by decide)]
  rfl
theorem sems_join (c : Dev nD) :
    iprop(Pipeline.ownSems0 (Ix := ℕ) (Name := ℕ) (U := UU) (Lvl := ℕ) (Val := Elt F) (τ := τ) osem c ∗ unscopedSems0 c)
      ⊢ (bigSep Finset.univ fun k => semVal (cell c k) 0 : sProp 𝕄) := by
  rw [sems_eq, kd_own]
  iintro ⟨H, Hb⟩
  isplitl [Hb]; · iexact Hb
  iexact H
theorem sems_split (c : Dev nD) :
    (bigSep Finset.univ fun k => semVal (cell c k) 0 : sProp 𝕄)
      ⊢ iprop(Pipeline.ownSems0 (Ix := ℕ) (Name := ℕ) (U := UU) (Lvl := ℕ) (Val := Elt F) (τ := τ) osem c ∗ unscopedSems0 c) := by
  rw [sems_eq, kd_own]
  iintro ⟨Hb, H⟩
  isplitl [H]; · iexact H
  iexact Hb

/-! ## Lists of assertions -/

theorem cons_eq {I : Type} (i : I) (l : List I) (Φ : I → sProp 𝕄) : bigSepL (i :: l) Φ = iprop(Φ i ∗ bigSepL l Φ) := BI.bigSepL_cons' i l Φ

theorem list_flat {I J : Type} (l : List I) (f : I → List J) (Φ : J → sProp 𝕄) :
    bigSepL (l.flatMap f) Φ = bigSepL l fun i => bigSepL (f i) Φ := by
  induction l with
  | nil => rfl
  | cons i l ih => rw [List.flatMap_cons, BI.bigSepL_append, ih, cons_eq]
theorem list_sep {I : Type} (l : List I) (Φ Ψ : I → sProp 𝕄) :
    iprop(bigSepL l Φ ∗ bigSepL l Ψ) ⊢ bigSepL l fun i => iprop(Φ i ∗ Ψ i) := by
  induction l with
  | nil => iintro -; rw [bigSepL_nil]; iempintro
  | cons i l ih =>
    rw [cons_eq, cons_eq, cons_eq]
    iintro ⟨⟨H1, H2⟩, H3, H4⟩
    isplitl [H1 H3]
    · isplitl [H1]; · iexact H1
      iexact H3
    iapply ih
    isplitl [H2]; · iexact H2
    iexact H4
/-- A list at every device is every device's list. -/
theorem list_devs {I : Type} (l : List I) (Φ : I → Dev nD → sProp 𝕄) :
    (bigSepL l fun i => bigSep Finset.univ (Φ i)) = bigSep Finset.univ fun c => bigSepL l fun i => Φ i c := by
  induction l with
  | nil => exact (BI.bigSep_emp_const _).symm
  | cons i l ih =>
    rw [cons_eq, ih, ← bigSep_sep']
    exact bigSep_congr fun c _ => (cons_eq i l fun i => Φ i c).symm

/-! ## Permits -/

/-- All permits of a device's semaphores, by what they are for. -/
def allToks : List Tok := allEvs.flatMap Ev.toks
def Tok.key (t : Tok) : Kd × ℕ × Fin 5 := (t.kd, t.round, t.duty)

theorem keys_nodup : (allToks.map Tok.key).Nodup := by decide +kernel

abbrev tokOf (ct : Dev nD × Fin allToks.length) : GSem nD τ sig × ℕ × Fin 5 :=
  (cell ct.1 (allToks.get ct.2).kd, (allToks.get ct.2).round, (allToks.get ct.2).duty)
theorem tokOf_inj : Function.Injective tokOf := by
  rintro ⟨c, j⟩ ⟨c', j'⟩ h
  obtain ⟨hc, hk⟩ := cell_inj (congrArg Prod.fst h)
  have h2 := congrArg Prod.snd h
  have key : (allToks.get j).key = (allToks.get j').key := Prod.ext hk h2
  have e : (allToks.map Tok.key)[j.val]'(by rw [List.length_map]; exact j.isLt) = (allToks.map Tok.key)[j'.val]'(by rw [List.length_map]; exact j'.isLt) := by
    rw [List.getElem_map, List.getElem_map]; exact key
  have ej : j = j' := Fin.ext ((List.Nodup.getElem_inj_iff keys_nodup).mp e)
  rw [show c = c' from hc, ej]

def ringCells : Finset (GSem nD τ sig) := Finset.univ.map ⟨fun ck : Dev nD × Kd => cell ck.1 ck.2, fun a b h => Prod.ext (cell_inj h).1 (cell_inj h).2⟩
def ringToks : Finset (GSem nD τ sig × ℕ × Fin 5) := Finset.univ.map ⟨tokOf, tokOf_inj⟩

/-- The permits of a device's own semaphores, and those it uses. -/
def madeAt (c : Dev nD) (t : Tok) : sProp 𝕄 := dutyTok ER (cell c t.kd) t.round t.duty
def made (c : Dev nD) : sProp 𝕄 := bigSepL allToks (madeAt (F := F) c)
def used (c : Dev nD) : sProp 𝕄 := bigSepL allEvs fun e => bigSepL e.toks (tokAt (F := F) c)

theorem toks_around : (bigSep Finset.univ fun c : Dev nD => made (F := F) c) = bigSep Finset.univ fun c : Dev nD => used c := by
  unfold made
  rw [← list_devs allToks (fun t c => madeAt (F := F) c t)]
  rw [show (fun t : Tok => bigSep Finset.univ fun c => madeAt (F := F) c t) = fun t => bigSep Finset.univ fun c => tokAt (F := F) c t from
    funext fun t => bigSep_univ_equiv t.peer fun c => madeAt (F := F) c t, list_devs allToks (fun t c => tokAt (F := F) c t)]
  exact bigSep_congr fun c _ => list_flat allEvs Ev.toks (tokAt c)

theorem minted : bigSep ringToks (fun x => (dutyTok ER x.1 x.2.1 x.2.2 : sProp 𝕄)) = bigSep Finset.univ fun c : Dev nD => made c := by
  unfold ringToks
  rw [bigSep_map, bigSep_univ_prod]
  refine bigSep_congr fun c _ => ?_
  rw [bigSep_univ_eq_bigSepL (List.finRange allToks.length) (by ext j; simp) (List.nodup_finRange _)]
  unfold made
  conv_rhs => rw [← List.map_get_finRange allToks]
  rw [BI.bigSepL_map]
  rfl

/-! ## Credits -/

theorem creds (c : Dev nD) (l : List Ev) :
    (Pipeline.launchCred (fun d => due d l) c : sProp 𝕄) ⊢ bigSepL l fun e => cred (tallyAt (cell c e.kd) e.ix (amountK e.kd)) := by
  induction l with
  | nil => exact BIBase.Entails.of_eq (Pipeline.launchCred_zero c)
  | cons e l ih =>
    rw [cons_eq, show (fun d => due d (e :: l)) = fun d => due d l + tallyAt (cell (e.peer d) e.kd) e.ix (amountK e.kd) from funext fun d => due_cons d e l,
      Pipeline.launchCred_add]
    iintro ⟨H1, H2⟩
    isplitl [H2]
    · iapply (Pipeline.launchCred_tallyAt e.kd.sem e.peer e.peer.symm e.peer.apply_symm_apply e.peer.symm_apply_apply e.ix (amountK e.kd) c) $$ H2
    iapply ih $$ H1

theorem held_of (c : Dev nD) : iprop(used (F := F) c ∗ Pipeline.launchCred (fun d => due d allEvs) c) ⊢ held c allEvs := by
  unfold used held
  iintro ⟨H1, H2⟩
  ihave H2 := (creds (F := F) c allEvs) $$ H2
  unfold evRes
  iapply (list_sep (F := F) allEvs)
  isplitl [H1]; · iexact H1
  iexact H2

/-! ## From the launch's element to what a device begins with -/

variable (X : Dev nD → OutC F)

/-- What a device is dealt, -/
def G (c : Dev nD) : sProp 𝕄 :=
  iprop((bigSep Finset.univ fun k : Kd => roundState ER (Rd X) (cell c k) 0)
    ∗ (bigSep Finset.univ fun k : Kd => iprop(first c k ∗ reached ER (cell c k) 0)) ∗ made c)

/-- the part of what never changes that is known when the semaphores' rounds are set up, -/
def records (K : Dev nD × Kd → ℕ) : sProp 𝕄 :=
  iprop((bigSep Finset.univ fun ck : Dev nD × Kd => cellInv ER (Rd X) (K ck) (cell ck.1 ck.2))
    ∗ bigSep Finset.univ fun ck : Dev nD × Kd => reached ER (cell ck.1 ck.2) 0)
instance records_persistent (K : Dev nD × Kd → ℕ) : BI.Persistent (records X K) := by unfold records; infer_instance

/-- and what is made of it all. -/
def G' (c : Dev nD) : sProp 𝕄 := iprop(∃ K, records X K ∗ bigSep Finset.univ (first c) ∗ used c)

theorem fund_ring : BI.own (ER (initOf ringCells ringToks)) ⊢ (|==> bigSep Finset.univ (G X) : sProp 𝕄) := by
  have hX (Φ : GSem nD τ sig → sProp 𝕄) : bigSep ringCells Φ = bigSep Finset.univ fun c : Dev nD => bigSep Finset.univ fun k : Kd => Φ (cell c k) := by
    unfold ringCells; rw [bigSep_map, bigSep_univ_prod]; rfl
  iintro HX
  imod (Rounds.fund ER (Rd X) ringCells ringToks) $$ HX with ⟨Hst, Hr, Hat, Htok⟩
  imodintro
  ihave Hst := (BIBase.Entails.of_eq (hX fun g => roundState ER (Rd X) g 0)) $$ Hst
  ihave Hat := (BIBase.Entails.of_eq (hX fun g => atPos ER g 0 ∅ 0)) $$ Hat
  ihave Hr := (BIBase.Entails.of_eq (hX fun g => reached ER g 0)) $$ Hr
  ihave Htok := (BIBase.Entails.of_eq (minted (F := F))) $$ Htok
  unfold G
  simp only [bigSep_sep']
  isplitl [Hst]; · iexact Hst
  isplitl [Hat Hr]
  · isplitl [Hat] <;> iassumption
  iexact Htok

theorem core_alloc (c : Dev nD) :
    iprop(Pipeline.ownSems0 (Ix := ℕ) (Name := ℕ) (U := UU) (Lvl := ℕ) (Val := Elt F) (τ := τ) osem c ∗ unscopedSems0 c ∗ G X c)
      ⊢ |={Set.univ}=> iprop((bigSep Finset.univ fun k => iprop(∃ κ : ℕ, cellInv ER (Rd X) κ (cell c k)))
          ∗ (bigSep Finset.univ fun k => iprop(first c k ∗ reached ER (cell c k) 0)) ∗ made c) := by
  unfold G
  iintro ⟨Hos, Hus, Hst, Hat, Htok⟩
  ihave Hv := (sems_join (F := F) c) $$ [Hos Hus]
  · isplitl [Hos] <;> iassumption
  imod (show iprop((bigSep Finset.univ fun k : Kd => semVal (cell c k) 0) ∗ bigSep Finset.univ fun k : Kd => roundState ER (Rd X) (cell c k) 0)
      ⊢ (|={Set.univ}=> bigSep Finset.univ fun k => iprop(∃ κ : ℕ, cellInv ER (Rd X) κ (cell c k)) : sProp 𝕄) from by
        rw [← bigSep_sep']
        exact (bigSep_mono fun k _ => (Rounds.body_intro ER (Rd X) (cell c k)).trans inv_alloc).trans (bigSep_fupd _ _)) $$ [Hv Hst] with Hinv
  · isplitl [Hv] <;> iassumption
  imodintro
  isplitl [Hinv]; · iexact Hinv
  isplitl [Hat]; · iexact Hat
  iexact Htok

theorem ghost_intro (K : Dev nD × Kd → ℕ) (c : Dev nD) : iprop(records X K ∗ (bigSep Finset.univ (first c) ∗ used c)) ⊢ G' X c := by
  unfold G'
  iintro H
  iexists K
  iexact H

theorem regroup :
    (bigSep Finset.univ fun c : Dev nD => iprop((bigSep Finset.univ fun k => iprop(∃ κ : ℕ, cellInv ER (Rd X) κ (cell c k)))
          ∗ (bigSep Finset.univ fun k => iprop(first c k ∗ reached ER (cell c k) 0)) ∗ made c) : sProp 𝕄)
      ⊢ bigSep Finset.univ (G' X) := by
  rw [bigSep_sep', bigSep_sep', ← bigSep_univ_prod (fun ck : Dev nD × Kd => iprop(∃ κ : ℕ, cellInv ER (Rd X) κ (cell ck.1 ck.2))),
    bigSep_congr (s := Finset.univ) (fun (c : Dev nD) _ => bigSep_sep' Finset.univ (fun k : Kd => (first (F := F) c k : sProp 𝕄)) (fun k => reached ER (cell c k) 0)),
    bigSep_sep', ← bigSep_univ_prod (fun ck : Dev nD × Kd => (reached ER (cell ck.1 ck.2) 0 : sProp 𝕄)), toks_around]
  iintro ⟨HI, ⟨Hat, #HR⟩, Htok⟩
  ihave HK := (BI.bigSep_exists_pi Finset.univ (fun (ck : Dev nD × Kd) (κ : ℕ) => (cellInv ER (Rd X) κ (cell ck.1 ck.2) : sProp 𝕄))) $$ HI
  icases HK with ⟨%K, #HI⟩
  iapply (BI.bigSep_with_persistent (R := records X K) fun c _ => ghost_intro X K c)
  isplitr
  · unfold records; isplitl; · iexact HI
    iexact HR
  · iapply (BIBase.Entails.of_eq (bigSep_sep' Finset.univ (fun c : Dev nD => bigSep Finset.univ fun k : Kd => (first (F := F) c k : sProp 𝕄)) used).symm)
    isplitl [Hat]; · iexact Hat
    iexact Htok

theorem glob : (bigSep Finset.univ fun c => iprop(Pipeline.ownSems0 (Ix := ℕ) (Name := ℕ) (U := UU) (Lvl := ℕ) (Val := Elt F) (τ := τ) osem c ∗ unscopedSems0 c ∗ G X c) : sProp 𝕄)
    ⊢ |={Set.univ}=> bigSep Finset.univ (G' X) :=
  ((bigSep_mono fun c _ => core_alloc X c).trans (bigSep_fupd _ _)).trans (BI.fupd_mono (regroup X))

end Cert.Reduce

end
-- ==== Proof.BodyEq.lean ====
/-  The printed body is the sequence of steps of `Steps`. -/
module

public import proofs.«01_k».proof.Proof.Steps

@[expose] public section

noncomputable section

namespace Cert.Reduce

open Cert.KernelIdeal Cert.KernelIdeal.Gen
open Idealize.ShloMosaic Idealize.SL.Sem

variable {F : FTy → Type} [FloatOps F]

set_option maxRecDepth 65536 in
set_option maxHeartbeats 0 in
/-- The printed body at the pipeline's one point is the sequence of steps. -/
theorem bodyAt_eq (t : Fin cfg0.N) : bodyAt0 (F := F) t = steps := by
  unfold bodyAt0
  rw [cc0_body_eq_skeleton]
  rfl

end Cert.Reduce

end
-- ==== Proof.Launch.lean ====
/-  The run of the whole program: what the launch gives a device, the body between, and the state at the end. -/
module

public import proofs.«01_k».proof.Proof.Ghost
public import proofs.«01_k».proof.Proof.BodyEq
public import Idealize.ShloMosaic.Lib.Pipeline.CollectiveSegs

@[expose] public section

noncomputable section

namespace Cert.Reduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

open Idealize.ShloMosaic.Pipeline (Dat Cfg Window BodyObligation cellOf)

variable (m : (ℓ : Loc nD τ sig) → Buf (Elt F) ℓ) (ρ : Dev nD → PrngReg)

/-- The state at the start. -/
def s₀ : MemSt nD τ sig (Elt F) := ⟨m, fun _ => 0, ρ⟩

/-- Device `c`'s block of the input, as its kernel finds it, -/
def blockOf (c : Dev nD) : (cc0_stg0_0 : Ref sig .tc).ty.Contents (Elt F) :=
  (win0_0.blk (0 : Fin 1)).view.read (Elt F) ((s₀ m ρ).mem ((c : Thread nD τ).loc main_arg0))
/-- without the leading axis, -/
def inputs (c : Dev nD) : OutC F := k0_pay3 (blockOf m ρ c)
/-- and what the kernel leaves as its result. -/
@[irreducible] def result (c : Dev nD) : OutC F := passSt (inputs m ρ) 7 c

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- All that a device begins with but its scratch buffers. -/
def start (c : Dev nD) : sProp 𝕄 :=
  iprop(∃ K, world (inputs m ρ) K ∗ held c allEvs ∗ bigSep Finset.univ (first c))
def before (c : Dev nD) : sProp 𝕄 := iprop(start m ρ c ∗ bufs c)
def after (c : Dev nD) : sProp 𝕄 := iprop(bufs (F := F) c ∗ bigSep Finset.univ fun k => semVal (cell c k) 0)
def owedAt (c : Dev nD) : CellTallies nD τ sig ℕ := due c allEvs

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => blockOf m ρ c
    | ⟨1, _⟩ => result m ρ c
  Φ t := match t with
    | ⟨0, _⟩ => before m ρ c
    | ⟨_ + 1, _⟩ => after c
  q _ := fullShare
  owed t := match t with
    | ⟨0, _⟩ => owedAt c
    | ⟨_ + 1, _⟩ => 0

theorem fetch_0 (t : Fin cfg0.N) : (cfg0.win (0 : Fin 2)).fetch t = true := by rw [fin_N t]; rfl

abbrev stg (c : Dev nD) (b : Ref sig .tc) (Y : b.ty.Contents (Elt F)) : sProp 𝕄 :=
  iprop(∃ f : Buf (Elt F) (((c : Dev nD) : Thread nD τ).loc b), ⌜f = Y⌝ ∗ (((c : Thread nD τ).loc b) ↦{fullShare} f))
theorem owns_stg (c : Dev nD) (b : Ref sig .tc) (Y : b.ty.Contents (Elt F)) :
    (owns (Ix := ℕ) (Name := ℕ) (U := UU) (Lvl := ℕ) (c : Thread nD τ) (Memref.whole b) fullShare Y : sProp 𝕄) = stg c b Y := by
  unfold owns; simp only [Memref.view_whole, View.read_whole, View.set_whole]

/-! ## The body -/

set_option maxRecDepth 4000 in
def bodyPre (c : Dev nD) : sProp 𝕄 :=
  iprop((dats m ρ 0 c).Φ t₀.castSucc ∗ (dats m ρ 0 c).owesAt 0 t₀.castSucc
    ∗ (∃ d, stg c cc0_stg0_0 ((dats m ρ 0 c).before (0 : Fin 2) t₀ d)) ∗ (∃ d, stg c cc0_stg1_0 ((dats m ρ 0 c).before (1 : Fin 2) t₀ d)))
set_option maxRecDepth 4000 in
def bodyPost (c : Dev nD) : sProp 𝕄 :=
  iprop((dats m ρ 0 c).Φ t₀.succ ∗ (dats m ρ 0 c).owesAt 0 t₀.succ
    ∗ stg c cc0_stg0_0 ((dats m ρ 0 c).after (0 : Fin 2) t₀) ∗ stg c cc0_stg1_0 ((dats m ρ 0 c).after (1 : Fin 2) t₀))

set_option maxRecDepth 4000 in
theorem body_runs (c : Dev nD) : bodyPre m ρ c ⊢ wpc c steps fun _ => bodyPost m ρ c := by
  unfold bodyPre bodyPost
  rw [show (dats m ρ 0 c).Φ t₀.castSucc = before m ρ c from rfl, show (dats m ρ 0 c).Φ t₀.succ = after c from rfl,
    show (dats m ρ 0 c).after (0 : Fin 2) t₀ = blockOf m ρ c from rfl, show (dats m ρ 0 c).after (1 : Fin 2) t₀ = result m ρ c from rfl]
  unfold before start result
  unfold Dat.owesAt Pipeline.owesWithin
  rw [show (dats m ρ 0 c).owed t₀.castSucc = due c allEvs from rfl, show (dats m ρ 0 c).owed t₀.succ = due c [] from rfl]
  iintro ⟨⟨⟨%K, HW, Hh, Ha⟩, Hb⟩, ⟨%W, %hW, HO⟩, ⟨%d0, %g0, %hg0, Hx⟩, ⟨%d1, %g1, %hg1, Hout⟩⟩
  have hx : g0 = blockOf m ρ c := by
    rw [hg0]; unfold Dat.before; rw [if_pos (fetch_0 t₀)]; rfl
  subst hx
  iapply (wp_steps (inputs m ρ) K c g1 (blockOf m ρ c) rfl) $$ [HW Hh Ha Hb HO Hx Hout]
  · isplitl [HW]; · iexact HW
    isplitl [Hb]; · iexact Hb
    isplitl [Hh]; · iexact Hh
    isplitl [Ha]; · iexact Ha
    isplitl [Hout]; · unfold out; iexact Hout
    isplitl [Hx]; · unfold inp; iexact Hx
    unfold owing; iexists W; iexact HO
  unfold owing out inp
  iintro ⟨Hout, Hx, Hb, Hz, ⟨%W', HO⟩⟩
  unfold after
  isplitl [Hb Hz]
  · isplitl [Hb]; · iexact Hb
    iexact Hz
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hout

theorem called (t : Fin cfg0.N) : defs₀ (F := F) .tc cfg0.body (cfg0.bodyArgs t (cfg0.slots t)) = steps := bodyAt_eq t

set_option maxRecDepth 4000 in
theorem body_obligation (c : Dev nD) : BodyObligation (dats (F := F) m ρ 0 c) (defs₀ (F := F)) 𝒱₀ 0 Set.univ := fun t => by
  rw [fin_N t, called, bigSep_W0, bigSep_W0]
  simp only [owns_stg]
  have h := body_runs m ρ c
  unfold bodyPre bodyPost wpc at h
  with_reducible exact h

/-! ## The launch's conditions -/

set_option maxRecDepth 8000 in
theorem ownSemFacts : Pipeline.OwnSemFacts cfg0.spec osem := by decide +kernel

theorem share_eq (c : Dev nD) (w : Fin cfg0.W) : (dats m ρ 0 c).share w = fullShare := by unfold Dat.share; split <;> rfl

def u₀ : UU := (initOf (Pipeline.cells cfgs cellOf_inj) (Pipeline.launchToks cfgs cellOf_inj), initOf ringCells ringToks)

theorem start_intro (c : Dev nD) :
    iprop(Pipeline.unscopedRestP Pipeline.Prefetch.none cfg0.spec c (fun b => m ((c : Thread nD τ).loc b)) ∗ levAts L lv
        ∗ Pipeline.launchCred owedAt c ∗ prngReg c (ρ c) ∗ G' (inputs m ρ) c)
      ⊢ |={Set.univ}=> iprop(start m ρ c ∗ emp) := by
  unfold start G' world records
  iintro ⟨-, Hlev, Hcr, -, ⟨%K, ⟨HI, HR⟩, Ha, Hu⟩⟩
  imodintro
  isplitl
  · iexists K
    isplitl [HI HR Hlev]
    · isplitl [HI]; · iexact HI
      isplitl [HR]; · iexact HR
      iexact Hlev
    isplitl [Hu Hcr]
    · iapply (held_of (F := F) c)
      isplitl [Hu]; · iexact Hu
      iexact Hcr
    iexact Ha
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = before m ρ c from rfl, scopedRest0_eq]
  unfold before bufs buf
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = after c from rfl, scopedRest0_eq]
  unfold after bufs buf
  iintro ⟨Hr, Hz⟩
  ihave Hz := (sems_split (F := F) c) $$ Hz
  icases Hz with ⟨Ho, Hu⟩
  isplitl [Hu]; · iexact Hu
  isplitl [Ho]; · iexact Ho
  iexact Hr

theorem waits (c : Dev nD) : (levAts L lv : sProp 𝕄) ⊢ Pipeline.cellsWaits cfgs (dats m ρ) 0 0 c :=
  Pipeline.cellsWaits_intro cfgs (dats m ρ) 0 0 c fun w s t => by
    rcases t with ⟨_ | _, ht⟩
    · exact mayWait c _ 0 allEvs (by decide) (by decide)
    · rw [show (dats m ρ 0 c).owed ⟨_, ht⟩ = 0 from rfl, MayWait_zero]
      iintro -; iempintro

/-! ## The run -/

/-- An array of device `c` at the end. -/
def finalOf (c : Dev nD) (w : Fin cfg0.W) : Buf (Elt F) ((cfg0.win w).arr.view.loc (c : Thread nD τ)) := (dats m ρ 0 c).arrAt w cfg0.N
/-- Every array ends so. -/
def Ends : PUnit × MemSt nD τ sig (Elt F) → Prop := fun r =>
  ∀ c : Dev nD, ∀ w : Fin cfg0.W, r.2.mem ((cfg0.win w).arr.view.loc (c : Thread nD τ)) = finalOf m ρ c w

set_option maxRecDepth 65536 in
/-- From any memory with all counters at zero the program ends on every device, with the arrays at the contents
    computed, and all counters at zero. -/
theorem run_main : θ_run defs (onTc (τ := τ) (main (F := F))) (s₀ m ρ) (fun r => Ends m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := owedAt) (howed₀ := fun _ => rfl) (howedN := fun _ => rfl)
    (L := L) (lv := lv) (hL := fun g h => if_neg h) (hwaits := waits m ρ)
    (G := G (inputs m ρ)) (G' := G' (inputs m ρ)) (u₀ := u₀)
    (hu₀ := by
      unfold u₀
      iintro Hu
      ihave H := (ownU_pair _ _) $$ Hu
      icases H with ⟨HP, HX⟩
      imod (fund_ring (inputs m ρ)) $$ HX with HG
      imodintro
      isplitl [HP] <;> iassumption)
    (hglob := glob (inputs m ρ))
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The input ends as it was. -/
theorem final_input (c : Dev nD) : finalOf m ρ c (0 : Fin 2) = (s₀ m ρ).mem (win0_0.arr.view.loc (c : Thread nD τ)) :=
  (dats (F := F) m ρ 0 c).arrAt_in (0 : Fin 2) rfl _

end Cert.Reduce

end
-- ==== Proof.Frames.lean ====
/-  Both programs end, with their input unchanged and every counter at zero. -/
module

public import proofs.«01_k».proof.Proof.Launch
public import proofs.«01_k».proof.Defs
public import proofs.«01_k».proof.Proof.Gen.Kernel

@[expose] public section

noncomputable section

namespace Cert.Reduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-- The program over the ideal values. -/
theorem quiescent_ideal : Cert.quiescent_KernelIdeal := fun m ρ _ =>
  (θ_run Cert.KernelIdeal.defs _ _).mono (fun _ h => ⟨fun c => (h.1 c (0 : Fin 2)).trans (final_input m ρ c), h.2⟩) (run_main (F := Ideal) m ρ)

end Cert.Reduce

end
-- ==== Proof.FrameBits.lean ====
/-  The same for the program over the machine's values: its text is the same. -/
module

public import proofs.«01_k».proof.Proof.Frames

@[expose] public section

noncomputable section

namespace Cert.Reduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

set_option maxRecDepth 65536 in
theorem same_bodies : Cert.Kernel.defs₀ (F := F) = Cert.KernelIdeal.defs₀ (F := F) := by
  funext k f a
  obtain ⟨_ | n, h⟩ := f
  · obtain ⟨t, s⟩ := a
    cases k <;> rfl
  · exact absurd h (Nat.not_lt.2 (Nat.le_add_left _ _))

theorem same_defs : Cert.Kernel.defs (F := F) = Cert.KernelIdeal.defs (F := F) :=
  congrArg (Pipeline.defs Cert.KernelIdeal.pcfgs) same_bodies

theorem quiescent_bits : Cert.quiescent_Kernel := fun m ρ _ => by
  rw [same_defs]
  exact (θ_run Cert.KernelIdeal.defs (onTc (τ := τ) (main (F := Bits))) (s₀ m ρ)).mono
    (fun _ h => ⟨fun c => (h.1 c (0 : Fin 2)).trans (final_input m ρ c), h.2⟩) (run_main (F := Bits) m ρ)

end Cert.Reduce

end
-- ==== Proof.Pointwise.lean ====
/-  The blocks of the result, element by element.

    Every copy of the kernel leaves an element where it was: what is read from a block of one device
    is written over, or added to, the same block of another. So an element of the result depends on
    the elements of the same index alone. -/
module

public import proofs.«01_k».proof.Proof.Contents
public import Idealize.ShloMosaic.Lib.Pipeline.Value
public import Idealize.ShloMosaic.PureOps.Ideal

@[expose] public section

noncomputable section

namespace Cert.Reduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- An index of the result. -/
abbrev At := (cc0_stg1_0 : Ref sig .tc).ty.Idx

/-- The block holds the index. -/
def Blk.Has (b : Blk) (i : At) : Prop := i ∈ b.rect.set
def Sub.Has (b : Sub) (i : At) : Prop := i ∈ b.rect.set

/-- Blocks with the same offsets are the same. -/
theorem Blk.same {a b : Blk} (h : ∀ x, a.off x = b.off x) : a = b := by
  obtain ⟨o, _⟩ := a; obtain ⟨o', _⟩ := b
  obtain rfl : o = o' := funext h
  rfl
theorem Sub.same {a b : Sub} (h : ∀ x, a.off x = b.off x) : a = b := by
  obtain ⟨o, _⟩ := a; obtain ⟨o', _⟩ := b
  obtain rfl : o = o' := funext h
  rfl

/-- The indices of a rectangle of unit stride are those its own indices go to. -/
theorem unit_from {S : Shape} {off size : Fin S.rank → ℕ} {inb} {i : S.Idx} (h : i ∈ (Rect.unit off size inb).set) :
    ∃ x, (Rect.unit off size inb).emb x = i := by
  have h := Rect.mem_set_unit.mp h
  refine ⟨fun a => ⟨i a - off a, ?_⟩, funext fun a => Fin.ext ?_⟩
  · have := h a; show _ < size a; omega
  · rw [Rect.emb_apply]
    show off a + 1 * (i a - off a) = i a
    have := h a; omega
theorem unit_to {S : Shape} {off size : Fin S.rank → ℕ} {inb} (x : (Rect.unit off size inb).shape.Idx) :
    (Rect.unit off size inb).emb x ∈ (Rect.unit off size inb).set :=
  Rect.mem_set_unit.mpr fun a => by
    rw [Rect.emb_apply]
    have h : (x a : ℕ) < size a := (x a).isLt
    show off a ≤ off a + 1 * (x a : ℕ) ∧ off a + 1 * (x a : ℕ) < off a + size a
    omega

/-- An element as a number. -/
abbrev val (f : OutC Ideal) (i : At) : EReal := f i

/-! ## Reading and writing at an index -/

theorem rd_at (f : OutC F) (b : Blk) (x : b.rect.shape.Idx) : rd f b x = f (b.rect.emb x) := rfl
theorem rdS_at (f : OutC F) (b : Sub) (x : b.rect.shape.Idx) : rdS f b x = f (b.rect.emb x) := rfl

theorem wr_at (f : OutC F) (b : Blk) (w : Vec F S256x512 .bf16) (x : b.rect.shape.Idx) :
    wr f b w (b.rect.emb x) = w x :=
  View.write_emb_of_mem (v := (outM.access b.rect)) f w (Finset.mem_univ x)
theorem wrS_at (f : OutC F) (b : Sub) (w : Vec F S64x512 .bf16) (x : b.rect.shape.Idx) :
    wrS f b w (b.rect.emb x) = w x :=
  View.write_emb_of_mem (v := (outM.access b.rect)) f w (Finset.mem_univ x)

theorem wr_off (f : OutC F) (b : Blk) (w : Vec F S256x512 .bf16) {i : At} (h : ¬ b.Has i) : wr f b w i = f i :=
  View.write_of_not_mem (v := (outM.access b.rect)) f w Finset.univ fun hi => h (by
    obtain ⟨x, -, rfl⟩ := Finset.mem_map.mp hi
    exact unit_to x)
theorem wrS_off (f : OutC F) (b : Sub) (w : Vec F S64x512 .bf16) {i : At} (h : ¬ b.Has i) : wrS f b w i = f i :=
  View.write_of_not_mem (v := (outM.access b.rect)) f w Finset.univ fun hi => h (by
    obtain ⟨x, -, rfl⟩ := Finset.mem_map.mp hi
    exact unit_to x)

/-- An index of a block comes from an index of the block's shape. -/
theorem Blk.Has.from {b : Blk} {i : At} (h : b.Has i) : ∃ x, b.rect.emb x = i := unit_from h
theorem Sub.Has.from {b : Sub} {i : At} (h : b.Has i) : ∃ x, b.rect.emb x = i := unit_from h

/-! ## Through the slots -/

theorem of_toSlot (v : Vec F S256x512 .bf16) : ofSlot (toSlot v) = v := by
  unfold ofSlot toSlot
  rw [shapeCast_shapeCast, shapeCast_self]
theorem of_toSub (v : Vec F S64x512 .bf16) : ofSub (toSub v) = v := by
  unfold ofSub toSub
  rw [shapeCast_shapeCast, shapeCast_self]

/-- Another device's block written over ours, -/
theorem copy_in (f g : OutC F) {b : Blk} {i : At} (h : b.Has i) : wr f b (ofSlot (toSlot (rd g b))) i = g i := by
  obtain ⟨x, rfl⟩ := h.from
  rw [wr_at, of_toSlot, rd_at]
theorem copyS_in (f g : OutC F) {b : Sub} {i : At} (h : b.Has i) : wrS f b (ofSub (toSub (rdS g b))) i = g i := by
  obtain ⟨x, rfl⟩ := h.from
  rw [wrS_at, of_toSub, rdS_at]

/-- and added to ours, in the extended reals. -/
theorem plus_in (f g : OutC Ideal) {b : Blk} {i : At} (h : b.Has i) :
    val (wr f b (plusSlot (rd f b) (toSlot (rd g b)))) i = val f i + val g i := by
  obtain ⟨x, rfl⟩ := h.from
  unfold val
  rw [wr_at]; unfold plusSlot
  rw [of_toSlot, shapeCast_self]
  rfl
theorem plusS_in (f g₁ g₂ g₃ : OutC Ideal) {b : Sub} {i : At} (h : b.Has i) :
    val (wrS f b (plusSubs (rdS f b) (toSub (rdS g₁ b)) (toSub (rdS g₂ b)) (toSub (rdS g₃ b)))) i
      = val f i + (val g₁ i + val g₂ i + val g₃ i) := by
  obtain ⟨x, rfl⟩ := h.from
  unfold val
  rw [wrS_at]; unfold plusSubs
  rw [of_toSub, of_toSub, of_toSub, shapeCast_self]
  rfl

end Cert.Reduce

end
-- ==== Proof.Places.lean ====
/-  Where the blocks lie.

    The result is cut in two halves of 512 columns, one for each direction around the ring, and each
    half in eight blocks of 256 rows, one for each place of a plane. A block is cut again in four of
    64 rows, one for each plane. -/
module

public import proofs.«01_k».proof.Proof.Pointwise

@[expose] public section

noncomputable section

namespace Cert.Reduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The half, the block of rows and the quarter of that block an index lies in. -/
def half (i : At) : Bool := decide (512 ≤ (i (1 : Fin 2) : ℕ))
def band (i : At) : ℕ := (i (0 : Fin 2) : ℕ) / 256
def quarter (i : At) : ℕ := (i (0 : Fin 2) : ℕ) % 256 / 64

/-- The column a half begins with. -/
def col (d : Bool) : ℕ := if d then 512 else 0

/-- A device's position around the ring of its plane. -/
def pos (c : Dev nD) : ℕ := ![0, 1, 2, 7, 6, 3, 4, 5] (⟨c.val % 8, Nat.mod_lt _ (by decide)⟩ : Fin 8)

/-- The block sent at step `k` of the first ring phase, which the second phase fills at step `k`; -/
def sendQ (c : Dev nD) (k : Fin 7) (d : Bool) : ℕ := if d then (pos c + k.val) % 8 else (pos c + 8 - k.val) % 8
/-- the block added to; -/
def addQ (c : Dev nD) (k : Fin 7) (d : Bool) : ℕ := if d then (pos c + k.val + 1) % 8 else (pos c + 7 - k.val) % 8
/-- and the block that is complete in the plane at the end of the first phase. -/
def ownQ (c : Dev nD) (d : Bool) : ℕ := if d then (pos c + 7) % 8 else (pos c + 1) % 8

/-- The half a piece lies in. -/
def side (p : Fin 2) : Bool := decide (p = 1)

theorem sendB_off (c : Dev nD) (k : Fin 7) (d : Bool) :
    (sendB c k d).off 0 = 256 * sendQ c k d ∧ (sendB c k d).off 1 = col d := by revert c k d; decide +kernel
theorem addB_off (c : Dev nD) (k : Fin 7) (d : Bool) :
    (addB c k d).off 0 = 256 * addQ c k d ∧ (addB c k d).off 1 = col d := by revert c k d; decide +kernel
theorem ownB_off (c : Dev nD) (p : Fin 2) :
    (ownB c p).off 0 = 256 * ownQ c (side p) + 64 * (c.val / 8) ∧ (ownB c p).off 1 = col (side p) := by
  revert c p; decide +kernel

/-- What a neighbour sends is the block we add to, -/
theorem sendB_nb (c : Dev nD) (k : Fin 7) (d : Bool) : sendB (nb (!d) c) k d = addB c k d :=
  Blk.same (by revert c k d; decide +kernel)
/-- what it passes on is the block we fill, -/
theorem passB_nb (c : Dev nD) (k : Fin 7) (d : Bool) : passB (nb (!d) c) k d = sendB c k d :=
  Blk.same (by revert c k d; decide +kernel)
/-- and so it is between the planes. -/
theorem shareB_plane (c : Dev nD) (s : Fin 6) : shareB (plane (rev (dist s)) c) (dist s) (piece s) = ownB c (piece s) :=
  Sub.same (by revert c s; decide +kernel)
theorem ownB_plane (c : Dev nD) (s : Fin 6) : ownB (plane (rev (dist s)) c) (piece s) = fillB c (dist s) (piece s) :=
  Sub.same (by revert c s; decide +kernel)

/-! ## Which indices a block holds -/

theorem half_col {i : At} {d : Bool} : (col d ≤ (i (1 : Fin 2) : ℕ) ∧ (i (1 : Fin 2) : ℕ) < col d + 512) ↔ half i = d := by
  have h : (i (1 : Fin 2) : ℕ) < 1024 := (i (1 : Fin 2)).isLt
  cases d <;> simp only [col, half, decide_eq_true_eq, decide_eq_false_iff_not, if_true, Bool.false_eq_true, if_false] <;> omega

theorem has_iff {b : Blk} {i : At} {q : ℕ} {d : Bool} (h₀ : b.off 0 = 256 * q) (h₁ : b.off 1 = col d) :
    b.Has i ↔ band i = q ∧ half i = d := by
  unfold Blk.Has
  rw [Rect.mem_set_unit, Fin.forall_fin_two, h₀, h₁, ← half_col]
  show ((256 * q ≤ (i (0 : Fin 2) : ℕ) ∧ (i (0 : Fin 2) : ℕ) < 256 * q + 256) ∧ _) ↔ _
  unfold band
  refine and_congr_left' ?_
  omega
theorem hasS_iff {b : Sub} {i : At} {q z : ℕ} (hz : z < 4) {d : Bool} (h₀ : b.off 0 = 256 * q + 64 * z) (h₁ : b.off 1 = col d) :
    b.Has i ↔ (band i = q ∧ quarter i = z) ∧ half i = d := by
  unfold Sub.Has
  rw [Rect.mem_set_unit, Fin.forall_fin_two, h₀, h₁, ← half_col]
  show ((256 * q + 64 * z ≤ (i (0 : Fin 2) : ℕ) ∧ (i (0 : Fin 2) : ℕ) < 256 * q + 64 * z + 64) ∧ _) ↔ _
  unfold band quarter
  refine and_congr_left' ?_
  omega

theorem sendB_has {c : Dev nD} {k : Fin 7} {d : Bool} {i : At} : (sendB c k d).Has i ↔ band i = sendQ c k d ∧ half i = d :=
  has_iff (sendB_off c k d).1 (sendB_off c k d).2
theorem addB_has {c : Dev nD} {k : Fin 7} {d : Bool} {i : At} : (addB c k d).Has i ↔ band i = addQ c k d ∧ half i = d :=
  has_iff (addB_off c k d).1 (addB_off c k d).2
theorem ownB_has {c : Dev nD} {p : Fin 2} {i : At} :
    (ownB c p).Has i ↔ (band i = ownQ c (side p) ∧ quarter i = c.val / 8) ∧ half i = side p :=
  hasS_iff (by have : c.val < 32 := c.isLt; omega) (ownB_off c p).1 (ownB_off c p).2

end Cert.Reduce

end
-- ==== Proof.Sums.lean ====
/-  What the result holds after the kernel's steps, as a sum of the inputs.

    In the first ring phase each element gathers the inputs of a growing set of devices, listed here.
    After the exchange between the planes the lists of the completed blocks name every device once;
    what follows only spreads the completed elements. -/
module

public import proofs.«01_k».proof.Proof.Places

@[expose] public section

noncomputable section

namespace Cert.Reduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The first ring phase -/

/-- The devices whose inputs device `c` has gathered after `k` steps at the indices of band `q` of a half. -/
def gathered (q : ℕ) (d : Bool) : ℕ → Dev nD → List (Dev nD)
  | 0, c => [c]
  | k + 1, c => if q = addQ c (Fin.ofNat 7 k) d then gathered q d k c ++ gathered q d k (nb (!d) c) else gathered q d k c

variable (X : Dev nD → OutC Ideal)

/-- The sum of the inputs of some devices at an index. -/
def total (i : At) (l : List (Dev nD)) : EReal := (l.map fun d => val (X d) i).sum

theorem total_append (i : At) (l l' : List (Dev nD)) : total X i (l ++ l') = total X i l + total X i l' := by
  unfold total; rw [List.map_append, List.sum_append]
theorem total_perm (i : At) {l l' : List (Dev nD)} (h : l.Perm l') : total X i l = total X i l' :=
  (h.map _).sum_eq

/-- One step adds, at the block of the index's half, what the neighbour holds there. -/
theorem sumNext_at (c : Dev nD) (k : Fin 7) (f : OutC Ideal) (g : Bool → OutC Ideal) (i : At) :
    val (sumNext c k f fun d => toSlot (rd (g d) (addB c k d))) i
      = if band i = addQ c k (half i) then val f i + val (g (half i)) i else val f i := by
  unfold sumNext
  cases hd : half i with
  | false =>
    have h1 : ¬ (addB c k true).Has i := fun h => by rw [addB_has, hd] at h; exact Bool.noConfusion h.2
    show val (wr _ _ _) i = _
    rw [val, wr_off _ _ _ h1]
    by_cases h : band i = addQ c k false
    · rw [if_pos h]; exact plus_in f (g false) (addB_has.mpr ⟨h, hd⟩)
    · rw [if_neg h]; exact wr_off _ _ _ fun h' => h (addB_has.mp h').1
  | true =>
    have h0 : ¬ (addB c k false).Has i := fun h => by rw [addB_has, hd] at h; exact Bool.noConfusion h.2
    show val (wr _ _ _) i = _
    by_cases h : band i = addQ c k true
    · rw [if_pos h, plus_in _ (g true) (addB_has.mpr ⟨h, hd⟩), val, wr_off _ _ _ h0]
    · rw [if_neg h, val, wr_off _ _ _ fun h' => h (addB_has.mp h').1, wr_off _ _ _ h0]

theorem sumSt_at (i : At) (k : ℕ) : ∀ c, val (sumSt X k c) i = total X i (gathered (band i) (half i) k c) := by
  induction k with
  | zero => intro c; exact (add_zero _).symm
  | succ k ih =>
    intro c
    rw [sumSt, gathered]
    simp only [sendB_nb]
    rw [sumNext_at c (Fin.ofNat 7 k) (sumSt X k c) (fun d => sumSt X k (nb (!d) c)) i]
    split
    · rw [total_append, ih, ih]
    · exact ih c

/-! ## The exchange between the planes -/

/-- At the bands a device completes, the four planes have gathered every device once. -/
theorem gathered_all (c : Dev nD) (d : Bool) :
    (gathered (ownQ c d) d 7 c ++ (gathered (ownQ c d) d 7 (plane 2 c) ++ gathered (ownQ c d) d 7 (plane 1 c)
      ++ gathered (ownQ c d) d 7 (plane 0 c))).Perm (List.finRange nD) := by
  revert c d; decide +kernel

/-- The sum of all inputs at an index. -/
def whole (i : At) : EReal := total X i (List.finRange nD)

/-- The exchange adds to a completed block what the three other planes hold there. -/
theorem crossNext_at (c : Dev nD) (f : OutC Ideal) (g : Fin 6 → OutC Ideal) (p : Fin 2) {i : At} (h : (ownB c p).Has i)
    (hg : ∀ s, g s = g (⟨2 * (dist s).val, by omega⟩)) :
    val (crossNext c f fun s => toSub (rdS (g s) (ownB c (piece s)))) i = val f i + (val (g 0) i + val (g 2) i + val (g 4) i) := by
  unfold crossNext
  show val (wrS _ _ _) i = _
  have hp : p = 0 ∨ p = 1 := by omega
  rcases hp with rfl | rfl
  · have h1 : ¬ (ownB c 1).Has i := fun h' => by
      have a := (ownB_has.mp h).2; have b := (ownB_has.mp h').2
      rw [a] at b; exact absurd b (by decide)
    rw [val, wrS_off _ _ _ h1]
    exact plusS_in f (g 0) (g 2) (g 4) h
  · have h0 : ¬ (ownB c 0).Has i := fun h' => by
      have a := (ownB_has.mp h).2; have b := (ownB_has.mp h').2
      rw [a] at b; exact absurd b (by decide)
    have e : ∀ f' : OutC Ideal, val (wrS f' (ownB c 1) (plusSubs (rdS f' (ownB c 1)) (toSub (rdS (g 1) (ownB c 1)))
        (toSub (rdS (g 3) (ownB c 1))) (toSub (rdS (g 5) (ownB c 1))))) i = val f' i + (val (g 1) i + val (g 3) i + val (g 5) i) :=
      fun f' => plusS_in f' (g 1) (g 3) (g 5) h
    refine (e _).trans ?_
    rw [hg 1, hg 3, hg 5, val, wrS_off _ _ _ h0]
    rfl

/-- A device's own blocks hold the sum of all inputs. -/
theorem crossed_at (c : Dev nD) (p : Fin 2) {i : At} (h : (ownB c p).Has i) : val (crossed X c) i = whole X i := by
  unfold crossed share
  simp only [shareB_plane]
  rw [crossNext_at c _ (fun s => sumSt X 7 (plane (rev (dist s)) c)) p h (fun s => by
    have e : dist ⟨2 * (dist s).val, by omega⟩ = dist s := by revert s; decide
    simp only [e])]
  have hb := ownB_has.mp h
  unfold whole
  rw [← total_perm X i (gathered_all c (side p)), total_append, total_append, total_append]
  simp only [sumSt_at, hb.1.1, hb.2]
  rfl

/-! ## The completed blocks go to the other planes -/

/-- What a fill brings is complete. -/
theorem brought (c : Dev nD) (s : Fin 6) {i : At} (h : (fillB c (dist s) (piece s)).Has i) :
    val (crossed X (plane (rev (dist s)) c)) i = whole X i :=
  crossed_at X _ (piece s) (by rw [ownB_plane]; exact h)

/-- Filling one slot's block, with what its plane has completed. -/
def fillAt (c : Dev nD) (s : Fin 6) (f : OutC Ideal) : OutC Ideal :=
  wrS f (fillB c (dist s) (piece s)) (ofSub (toSub (rdS (crossed X (plane (rev (dist s)) c)) (fillB c (dist s) (piece s)))))

/-- It completes the elements of its block, -/
theorem fillAt_makes (c : Dev nD) (s : Fin 6) (f : OutC Ideal) {i : At} (h : (fillB c (dist s) (piece s)).Has i) :
    val (fillAt X c s f) i = whole X i := (copyS_in f _ h).trans (brought X c s h)
/-- and leaves complete what is so already. -/
theorem fillAt_keeps (c : Dev nD) (s : Fin 6) {f : OutC Ideal} {i : At} (h : val f i = whole X i) :
    val (fillAt X c s f) i = whole X i := by
  by_cases hs : (fillB c (dist s) (piece s)).Has i
  · exact fillAt_makes X c s f hs
  · exact (wrS_off _ _ _ hs).trans h

theorem filled_eq (c : Dev nD) : filled X c
    = fillAt X c 5 (fillAt X c 4 (fillAt X c 3 (fillAt X c 2 (fillAt X c 1 (fillAt X c 0 (crossed X c)))))) := by
  unfold filled done fillNext fillOne
  simp only [ownB_plane]
  rfl

/-- An index of a device's own band lies in its own block, or in one of those filled. -/
theorem covered (c : Dev nD) (i : At) (h : band i = ownQ c (half i)) :
    (∃ p, (ownB c p).Has i) ∨ ∃ s : Fin 6, (fillB c (dist s) (piece s)).Has i := by
  have hz : quarter i < 4 := by unfold quarter; omega
  obtain ⟨p, hp⟩ : ∃ p, half i = side p := by
    cases half i
    · exact ⟨0, rfl⟩
    · exact ⟨1, rfl⟩
  have hs : quarter i = c.val / 8 ∨ ∃ s : Fin 6, piece s = p ∧ quarter i = (plane (rev (dist s)) c).val / 8 := by
    have key : ∀ (z : Fin 4) (p : Fin 2) (c : Dev nD),
        z.val = c.val / 8 ∨ ∃ s : Fin 6, piece s = p ∧ z.val = (plane (rev (dist s)) c).val / 8 := by decide +kernel
    exact key ⟨quarter i, hz⟩ p c
  rcases hs with hs | ⟨s, rfl, hs⟩
  · exact .inl ⟨p, ownB_has.mpr ⟨⟨hp ▸ h, hs⟩, hp⟩⟩
  · refine .inr ⟨s, ?_⟩
    rw [← ownB_plane]
    refine ownB_has.mpr ⟨⟨?_, hs⟩, hp⟩
    have e : ∀ (c : Dev nD) (s : Fin 6) (d : Bool), ownQ (plane (rev (dist s)) c) d = ownQ c d := by decide +kernel
    rw [e, ← hp]; exact h

/-- After the second exchange a device's own bands are complete. -/
theorem filled_at (c : Dev nD) {i : At} (h : band i = ownQ c (half i)) : val (filled X c) i = whole X i := by
  have k := fun s f => fillAt_keeps X c s (f := f) (i := i)
  have e := fun s f => fillAt_makes X c s f (i := i)
  refine (congrArg (fun f => val f i) (filled_eq X c)).trans ?_
  rcases covered c i h with ⟨p, hp⟩ | ⟨s, hs⟩
  · exact k 5 _ (k 4 _ (k 3 _ (k 2 _ (k 1 _ (k 0 _ (crossed_at X c p hp))))))
  · have hc : s = 0 ∨ s = 1 ∨ s = 2 ∨ s = 3 ∨ s = 4 ∨ s = 5 := by omega
    rcases hc with rfl | rfl | rfl | rfl | rfl | rfl
    · exact k 5 _ (k 4 _ (k 3 _ (k 2 _ (k 1 _ (e 0 _ hs)))))
    · exact k 5 _ (k 4 _ (k 3 _ (k 2 _ (e 1 _ hs))))
    · exact k 5 _ (k 4 _ (k 3 _ (e 2 _ hs)))
    · exact k 5 _ (k 4 _ (e 3 _ hs))
    · exact k 5 _ (e 4 _ hs)
    · exact e 5 _ hs

/-! ## The second ring phase -/

/-- Whether band `q` of a half is complete at device `c` after `k` steps. -/
def complete (q : ℕ) (d : Bool) : ℕ → Dev nD → Bool
  | 0, c => decide (q = ownQ c d)
  | k + 1, c => if q = sendQ c (Fin.ofNat 7 k) d then complete q d k (nb (!d) c) else complete q d k c

theorem complete_all (q : Fin 8) (d : Bool) (c : Dev nD) : complete q.val d 7 c = true := by
  revert q d c; decide +kernel

theorem passNext_at (c : Dev nD) (k : Fin 7) (f : OutC Ideal) (g : Bool → OutC Ideal) (i : At) :
    val (passNext c k f fun d => toSlot (rd (g d) (sendB c k d))) i
      = if band i = sendQ c k (half i) then val (g (half i)) i else val f i := by
  unfold passNext
  cases hd : half i with
  | false =>
    have h1 : ¬ (sendB c k true).Has i := fun h => by rw [sendB_has, hd] at h; exact Bool.noConfusion h.2
    rw [val, wr_off _ _ _ h1]
    by_cases h : band i = sendQ c k false
    · rw [if_pos h]; exact copy_in f (g false) (sendB_has.mpr ⟨h, hd⟩)
    · rw [if_neg h]; exact wr_off _ _ _ fun h' => h (sendB_has.mp h').1
  | true =>
    have h0 : ¬ (sendB c k false).Has i := fun h => by rw [sendB_has, hd] at h; exact Bool.noConfusion h.2
    by_cases h : band i = sendQ c k true
    · rw [if_pos h]; exact copy_in _ (g true) (sendB_has.mpr ⟨h, hd⟩)
    · rw [if_neg h, val, wr_off _ _ _ fun h' => h (sendB_has.mp h').1, wr_off _ _ _ h0]

theorem passSt_at (i : At) (k : ℕ) : ∀ c, complete (band i) (half i) k c = true → val (passSt X k c) i = whole X i := by
  induction k with
  | zero => intro c h; exact filled_at X c (of_decide_eq_true h)
  | succ k ih =>
    intro c h
    rw [complete] at h
    rw [passSt]
    simp only [passB_nb]
    rw [passNext_at c (Fin.ofNat 7 k) (passSt X k c) (fun d => passSt X k (nb (!d) c)) i]
    split
    · next hq => rw [if_pos hq] at h; exact ih _ h
    · next hq => rw [if_neg hq] at h; exact ih _ h

/-- At the end every element of every device is the sum of all inputs. -/
theorem passSt_whole (c : Dev nD) (i : At) : val (passSt X 7 c) i = whole X i :=
  passSt_at X i 7 c (complete_all ⟨band i, by
    have h : (i (0 : Fin 2) : ℕ) < 2048 := (i (0 : Fin 2)).isLt
    unfold band; omega⟩ (half i) c)

end Cert.Reduce

end
-- ==== Proof.Value.lean ====
/-  The value of the result: on every device the sum of the inputs, as the reference has it. -/
module

public import proofs.«01_k».proof.Proof.Sums
public import proofs.«01_k».proof.Proof.Frames
public import proofs.«01_k».proof.Proof.Gen.ReferenceIdeal.Run
public import Idealize.ShloMosaic.Lib.Pipeline.ValueKit
public import Idealize.ShloMosaic.Lib.Pointwise
public import Idealize.ShloMosaic.Lib.IdealHost
public import Idealize.ShloMosaic.Lib.Layout

@[expose] public section

noncomputable section

namespace Cert.Reduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open Idealize.ShloMosaic.Pipeline (Dat Cfg Window)

variable (m : (ℓ : Loc nD τ sig) → Buf (Elt Ideal) ℓ) (ρ : Dev nD → PrngReg)

/-- The result array holds what the kernel's body left. -/
theorem final_result (c : Dev nD) : finalOf m ρ c (1 : Fin 2) = result m ρ c := by
  unfold finalOf
  refine (dats m ρ 0 c).arrAt_eq_of_after_last (1 : Fin 2) t₀ (by decide +kernel) _ fun j => ?_
  blk_simp
  rfl

/-- A place of the whole input: a device's number, and an index of the result. -/
def spot (c : Dev nD) (i : At) : Cert.ReferenceIdeal.S32x2048x1024.Idx := ix3 (c : Fin 32) (i (0 : Fin 2)) (i (1 : Fin 2))

variable (x : Cert.ReferenceIdeal.S32x2048x1024.Idx → EReal)

/-- The window on the input lies on all of it. -/
theorem place (y : S1x2048x1024.Idx) (a : Fin 3) : ((win0_0.blk t₀).view.emb y a : ℕ) = (y a : ℕ) := by
  have h : win0_0.index t₀ a = 0 := by revert a; decide +kernel
  blk_simp [h]

/-- What a device takes in is its block of the whole input. -/
theorem inputs_at (c : Dev nD) (i : At)
    (h : m ((c : Thread nD τ).loc main_arg0) = Layout.block ⟨3, ![1, 2048, 1024]⟩ ⟨3, ![32, 2048, 1024]⟩ 0 32 c x) :
    val (inputs m ρ c) i = x (spot c i) := by
  unfold val inputs k0_pay3 blockOf
  refine (shapeCast_dropUnit_apply ![2048, 1024] _ _ i).trans ?_
  show View.read (Elt Ideal) (win0_0.blk t₀).view (m ((c : Thread nD τ).loc main_arg0)) _ = _
  rw [h, View.read_apply]
  refine congrArg x (funext fun a => Fin.ext ?_)
  rw [Layout.Tiles.idx_val]
  have hv := place (Fin.cons (⟨0, Nat.one_pos⟩ : Fin 1) i)
  fin_cases a
  · refine (if_pos rfl).trans ?_
    show c.val * 1 + _ = c.val
    rw [Nat.mul_one]
    exact congrArg (c.val + ·) (hv 0)
  · exact (if_neg (by decide)).trans (hv 1)
  · exact (if_neg (by decide)).trans (hv 2)

/-- The reference's result. -/
def wanted : FVec Ideal Cert.ReferenceIdeal.S2048x1024 .bf16 :=
  truncf .bf16 (Host.reduceAdd (extf (F := Ideal) .f32 (x : FVec Ideal Cert.ReferenceIdeal.S32x2048x1024 .bf16) Cert.ReferenceIdeal.Gen.bitsLt_bf16_f32)
    (constant Cert.ReferenceIdeal.S_ .f32 0x00000000#32)
    Cert.ReferenceIdeal.Gen.reducesTo_S32x2048x1024_S2048x1024_d0 Cert.ReferenceIdeal.Gen.h_S_) Cert.ReferenceIdeal.Gen.bitsLt_bf16_f32

theorem wanted_at (i : At) : (wanted x i : EReal) = ∑ c : Dev nD, x (spot c i) := by
  unfold wanted
  pointwise
  rfl

/-- Every device's result is the reference's. -/
theorem result_wanted (h : ∀ c : Dev nD,
      m ((c : Thread nD τ).loc main_arg0) = Layout.block ⟨3, ![1, 2048, 1024]⟩ ⟨3, ![32, 2048, 1024]⟩ 0 32 c x) (c : Dev nD) :
    finalOf m ρ c (1 : Fin 2) = wanted x := by
  rw [final_result]
  funext i
  unfold result
  refine (passSt_whole (inputs m ρ) c i).trans ((?_ : _ = ∑ d : Dev nD, x (spot d i)).trans (wanted_at x i).symm)
  unfold whole total
  rw [Fin.sum_univ_def]
  exact congrArg List.sum (List.map_congr_left fun d _ => inputs_at m ρ x d i (h d))

/-- The kernel over the ideal values computes what the reference computes. -/
theorem algebraic : Cert.algebraic_KernelIdeal_ReferenceIdeal := fun m g m' g' _ h =>
  ⟨wanted (m' (((0 : Dev Cert.ReferenceIdeal.nD).tc : Thread Cert.ReferenceIdeal.nD Cert.ReferenceIdeal.τ).loc Cert.ReferenceIdeal.main_arg0)),
    (θ_run Cert.KernelIdeal.defs _ _).mono (fun _ r c =>
      ⟨(r.1 c (1 : Fin 2)).trans (result_wanted m g _ h c), (r.1 c (0 : Fin 2)).trans (final_input m g c)⟩) (run_main (F := Ideal) m g),
    (θ_run Cert.ReferenceIdeal.defs _ _).mono (fun _ r => r 0) (Cert.ReferenceIdeal.Value.run m' g')⟩

end Cert.Reduce

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.FrameBits
public import proofs.«01_k».proof.Proof.Value
public import Idealize.ShloMosaic.Adequacy
public import Idealize.ShloMosaic.Init

@[expose] public section

noncomputable section

namespace Cert.Proof

open Idealize.ShloMosaic Idealize.SL.Sem Cert.Kernel

/-- The reference ends, with its input unchanged; it has no semaphore. -/
theorem quiescent_reference : Cert.quiescent_ReferenceIdeal := fun m ρ _ =>
  (θ_run Cert.ReferenceIdeal.defs _ _).mono
    (fun _ h => ⟨fun c => (h c).2, funext fun g => by
      obtain ⟨t, sm⟩ := g
      rcases sm with ⟨⟨_, h⟩⟩ | ⟨⟨_, h⟩⟩ <;> exact absurd h (Nat.not_lt_zero _)⟩)
    (Cert.ReferenceIdeal.Value.run (F := Ideal) m ρ)

theorem claim : Cert.Claim := ⟨Cert.Kernel.Gen.facts, Cert.KernelIdeal.Gen.facts, Cert.ReferenceIdeal.Gen.facts,
  Cert.Reduce.quiescent_bits, Cert.Reduce.quiescent_ideal, quiescent_reference, trivial,
    Cert.Reduce.algebraic⟩

end Cert.Proof

end
